-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_finite_KernelIdeal [hPre_routed_finite_KernelIdeal : Cert.Pre_routed_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_finite_ReferenceIdeal [hPre_routed_finite_ReferenceIdeal : Cert.Pre_routed_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_finite_KernelIdeal [hKernelIdeal : Cert.KernelIdeal.Facts] [hPre_routed_finite_KernelIdeal : Cert.Pre_routed_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_finite_ReferenceIdeal [hReferenceIdeal : Cert.ReferenceIdeal.Facts] [hPre_routed_finite_ReferenceIdeal : Cert.Pre_routed_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_finite_KernelIdeal [hKernelIdeal : Cert.KernelIdeal.Facts] [hReferenceIdeal : Cert.ReferenceIdeal.Facts] [hPre_routed_finite_KernelIdeal : Cert.Pre_routed_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_finite_KernelIdeal : Cert.Pre_routed_finite_KernelIdeal.Facts) (hPre_routed_finite_ReferenceIdeal : Cert.Pre_routed_finite_ReferenceIdeal.Facts),
    quiescent_Kernel (hKernel := hKernel)
    ∧ quiescent_KernelIdeal (hKernelIdeal := hKernelIdeal)
    ∧ quiescent_KernelIdeal_pre_routed_finite_KernelIdeal (hKernelIdeal := hKernelIdeal) (hPre_routed_finite_KernelIdeal := hPre_routed_finite_KernelIdeal)
    ∧ quiescent_ReferenceIdeal (hReferenceIdeal := hReferenceIdeal)
    ∧ quiescent_ReferenceIdeal_pre_routed_finite_ReferenceIdeal (hReferenceIdeal := hReferenceIdeal) (hPre_routed_finite_ReferenceIdeal := hPre_routed_finite_ReferenceIdeal)
    ∧ preserves_Kernel_KernelIdeal
    ∧ algebraic_KernelIdeal_ReferenceIdeal_pre_routed_finite_KernelIdeal (hKernelIdeal := hKernelIdeal) (hReferenceIdeal := hReferenceIdeal) (hPre_routed_finite_KernelIdeal := hPre_routed_finite_KernelIdeal)
-- ==== Pre_routed_finite_KernelIdeal.lean ====
abbrev S2048x512 : Shape := ⟨2, ![2048, 512]⟩
abbrev S512x128 : Shape := ⟨2, ![512, 128]⟩
abbrev S2048x2 : Shape := ⟨2, ![2048, 2]⟩
abbrev S4x512x1024 : Shape := ⟨3, ![4, 512, 1024]⟩
abbrev S_ : Shape := ⟨0, ![]⟩

class Facts : Prop where
  bcast_S_S2048x512 : S_.BroadcastsInDim S2048x512 (![] : Fin 0 → Fin S2048x512.rank)
  bcast_S_S512x128 : S_.BroadcastsInDim S512x128 (![] : Fin 0 → Fin S512x128.rank)
  bcast_S_S2048x2 : S_.BroadcastsInDim S2048x2 (![] : Fin 0 → Fin S2048x2.rank)

variable [Facts]

def fn {F : FTy → Type} [FloatOps F] (main_arg0 : FVec F S2048x512 .bf16) (main_arg1 : FVec F S512x128 .bf16) (main_arg2 : IVec S2048x2 32) (main_arg3 : FVec F S4x512x1024 .bf16) : IVec S2048x512 1 × IVec S512x128 1 × IVec S2048x2 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x128 .bf16 := Host.absf main_arg1
  let main_cst_0 : FVec F S_ .bf16 := constant S_ .bf16 0x7F80#16
  let main_v4 : FVec F S512x128 .bf16 := broadcastInDim S512x128 ![] bcast_S_S512x128 main_cst_0
  let main_v5 : IVec S512x128 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 128#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Pre_routed_finite_ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S_ : Shape := ⟨0, ![]⟩

class Facts : Prop where
  bcast_S_S2048x512 : S_.BroadcastsInDim S2048x512 (![] : Fin 0 → Fin S2048x512.rank)
  bcast_S_S512x128 : S_.BroadcastsInDim S512x128 (![] : Fin 0 → Fin S512x128.rank)
  bcast_S_S2048x2 : S_.BroadcastsInDim S2048x2 (![] : Fin 0 → Fin S2048x2.rank)

variable [Facts]

def fn {F : FTy → Type} [FloatOps F] (main_arg0 : FVec F S2048x512 .bf16) (main_arg1 : FVec F S512x128 .bf16) (main_arg2 : IVec S2048x2 32) (main_arg3 : FVec F S128x512x1024 .bf16) : IVec S2048x512 1 × IVec S512x128 1 × IVec S2048x2 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x128 .bf16 := Host.absf main_arg1
  let main_cst_0 : FVec F S_ .bf16 := constant S_ .bf16 0x7F80#16
  let main_v4 : FVec F S512x128 .bf16 := broadcastInDim S512x128 ![] bcast_S_S512x128 main_cst_0
  let main_v5 : IVec S512x128 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 128#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Kernel.lean ====
abbrev S2048x512 : Shape := ⟨2, ![2048, 512]⟩
abbrev S512x128 : Shape := ⟨2, ![512, 128]⟩
abbrev S2048x2 : Shape := ⟨2, ![2048, 2]⟩
abbrev S4x512x1024 : Shape := ⟨3, ![4, 512, 1024]⟩
abbrev S2048x128 : Shape := ⟨2, ![2048, 128]⟩
abbrev S128 : Shape := ⟨1, ![128]⟩
abbrev S2048x1 : Shape := ⟨2, ![2048, 1]⟩
abbrev S1x128 : Shape := ⟨2, ![1, 128]⟩
abbrev S_ : Shape := ⟨0, ![]⟩
abbrev S2048 : Shape := ⟨1, ![2048]⟩
abbrev S4 : Shape := ⟨1, ![4]⟩
abbrev S1x4 : Shape := ⟨2, ![1, 4]⟩
abbrev S2048x4 : Shape := ⟨2, ![2048, 4]⟩
abbrev S2048x1024 : Shape := ⟨2, ![2048, 1024]⟩
abbrev S32x64x1024 : Shape := ⟨3, ![32, 64, 1024]⟩
abbrev S64x1024 : Shape := ⟨2, ![64, 1024]⟩
abbrev S32 : Shape := ⟨1, ![32]⟩
abbrev S512x512 : Shape := ⟨2, ![512, 512]⟩
abbrev S512x4 : Shape := ⟨2, ![512, 4]⟩
abbrev S512x1 : Shape := ⟨2, ![512, 1]⟩
abbrev S1x512x1024 : Shape := ⟨3, ![1, 512, 1024]⟩
abbrev S512x1024 : Shape := ⟨2, ![512, 1024]⟩
abbrev S1 : Shape := ⟨1, ![1]⟩
abbrev S1x64x1024 : Shape := ⟨3, ![1, 64, 1024]⟩

abbrev nBuf : Space → Nat
  | .hbm => 75
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x2, .i32⟩
  | .hbm, ⟨3, _⟩ => ⟨S4x512x1024, .bf16⟩
  | .hbm, ⟨4, _⟩ => ⟨S2048x128, .f32⟩
  | .hbm, ⟨5, _⟩ => ⟨S2048x128, .bf16⟩
  | .hbm, ⟨6, _⟩ => ⟨S128, .i32⟩
  | .hbm, ⟨7, _⟩ => ⟨S2048x1, .i32⟩
  | .hbm, ⟨8, _⟩ => ⟨S1x128, .i32⟩
  | .hbm, ⟨9, _⟩ => ⟨S2048x128, .i32⟩
  | .hbm, ⟨10, _⟩ => ⟨S2048x128, .i32⟩
  | .hbm, ⟨11, _⟩ => ⟨S2048x128, .i1⟩
  | .hbm, ⟨12, _⟩ => ⟨S2048x1, .i32⟩
  | .hbm, ⟨13, _⟩ => ⟨S1x128, .i32⟩
  | .hbm, ⟨14, _⟩ => ⟨S2048x128, .i32⟩
  | .hbm, ⟨15, _⟩ => ⟨S2048x128, .i32⟩
  | .hbm, ⟨16, _⟩ => ⟨S2048x128, .i1⟩
  | .hbm, ⟨17, _⟩ => ⟨S_, .f32⟩
  | .hbm, ⟨18, _⟩ => ⟨S_, .bf16⟩
  | .hbm, ⟨19, _⟩ => ⟨S2048x128, .bf16⟩
  | .hbm, ⟨20, _⟩ => ⟨S2048x128, .bf16⟩
  | .hbm, ⟨21, _⟩ => ⟨S2048x128, .f32⟩
  | .hbm, ⟨22, _⟩ => ⟨S_, .f32⟩
  | .hbm, ⟨23, _⟩ => ⟨S2048, .f32⟩
  | .hbm, ⟨24, _⟩ => ⟨S2048, .bf16⟩
  | .hbm, ⟨25, _⟩ => ⟨S_, .f32⟩
  | .hbm, ⟨26, _⟩ => ⟨S_, .bf16⟩
  | .hbm, ⟨27, _⟩ => ⟨S2048x128, .bf16⟩
  | .hbm, ⟨28, _⟩ => ⟨S2048x128, .bf16⟩
  | .hbm, ⟨29, _⟩ => ⟨S2048x128, .f32⟩
  | .hbm, ⟨30, _⟩ => ⟨S_, .f32⟩
  | .hbm, ⟨31, _⟩ => ⟨S2048, .f32⟩
  | .hbm, ⟨32, _⟩ => ⟨S2048, .bf16⟩
  | .hbm, ⟨33, _⟩ => ⟨S2048, .bf16⟩
  | .hbm, ⟨34, _⟩ => ⟨S2048, .bf16⟩
  | .hbm, ⟨35, _⟩ => ⟨S2048, .bf16⟩
  | .hbm, ⟨36, _⟩ => ⟨S2048, .bf16⟩
  | .hbm, ⟨37, _⟩ => ⟨S2048, .bf16⟩
  | .hbm, ⟨38, _⟩ => ⟨S2048, .bf16⟩
  | .hbm, ⟨39, _⟩ => ⟨S_, .bf16⟩
  | .hbm, ⟨40, _⟩ => ⟨S2048, .bf16⟩
  | .hbm, ⟨41, _⟩ => ⟨S2048, .bf16⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S4, .i32⟩
  | .hbm, ⟨51, _⟩ => ⟨S4, .i32⟩
  | .hbm, ⟨52, _⟩ => ⟨S4, .i32⟩
  | .hbm, ⟨53, _⟩ => ⟨S2048x1, .i32⟩
  | .hbm, ⟨54, _⟩ => ⟨S1x4, .i32⟩
  | .hbm, ⟨55, _⟩ => ⟨S2048x4, .i32⟩
  | .hbm, ⟨56, _⟩ => ⟨S2048x4, .i32⟩
  | .hbm, ⟨57, _⟩ => ⟨S2048x4, .i1⟩
  | .hbm, ⟨58, _⟩ => ⟨S2048x1, .i32⟩
  | .hbm, ⟨59, _⟩ => ⟨S1x4, .i32⟩
  | .hbm, ⟨60, _⟩ => ⟨S2048x4, .i32⟩
  | .hbm, ⟨61, _⟩ => ⟨S2048x4, .i32⟩
  | .hbm, ⟨62, _⟩ => ⟨S2048x4, .i1⟩
  | .hbm, ⟨63, _⟩ => ⟨S2048, .bf16⟩
  | .hbm, ⟨64, _⟩ => ⟨S2048x1, .bf16⟩
  | .hbm, ⟨65, _⟩ => ⟨S2048x4, .bf16⟩
  | .hbm, ⟨66, _⟩ => ⟨S2048x4, .bf16⟩
  | .hbm, ⟨67, _⟩ => ⟨S2048x4, .bf16⟩
  | .hbm, ⟨68, _⟩ => ⟨S2048, .bf16⟩
  | .hbm, ⟨69, _⟩ => ⟨S2048x1, .bf16⟩
  | .hbm, ⟨70, _⟩ => ⟨S2048x4, .bf16⟩
  | .hbm, ⟨71, _⟩ => ⟨S2048x4, .bf16⟩
  | .hbm, ⟨72, _⟩ => ⟨S2048x4, .bf16⟩
  | .hbm, ⟨73, _⟩ => ⟨S2048x4, .bf16⟩
  | .hbm, ⟨74, _⟩ => ⟨S2048x1024, .bf16⟩
  | .local _ .vmem, ⟨0, _⟩ => ⟨S2048x512, .bf16⟩
  | .local _ .vmem, ⟨1, _⟩ => ⟨S2048x4, .bf16⟩
  | .local _ .vmem, ⟨2, _⟩ => ⟨S4x512x1024, .bf16⟩
  | .local _ .vmem, ⟨3, _⟩ => ⟨S2048x1024, .bf16⟩
  | .local _ .vmem, ⟨4, _⟩ => ⟨S32x64x1024, .bf16⟩
  | .local _ .vmem, ⟨5, _⟩ => ⟨S64x1024, .bf16⟩
  | .local _ .vmem, ⟨6, _⟩ => ⟨S2048x1024, .bf16⟩
  | _, _ => ⟨S2048x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_33 : BitVec 32 := 1#32
  let v66 : BitVec 32 := Scalar.muli v5 c1_i32_33
  let v67 : BitVec 32 := Scalar.addi c0_i32 v66
  v67.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v6 : BitVec 32 := Scalar.addi v2 c2_i32
  let c32_i32_2 : BitVec 32 := 32#32
  let v7 : BitVec 32 := Scalar.remsi v6 c32_i32_2
  let c1_i32_35 : BitVec 32 := 1#32
  let v68 : BitVec 32 := Scalar.muli v7 c1_i32_35
  let v69 : BitVec 32 := Scalar.addi c0_i32_36 v68
  v69.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v8 : BitVec 32 := Scalar.addi v2 c3_i32
  let c32_i32_3 : BitVec 32 := 32#32
  let v9 : BitVec 32 := Scalar.remsi v8 c32_i32_3
  let c1_i32_38 : BitVec 32 := 1#32
  let v70 : BitVec 32 := Scalar.muli v9 c1_i32_38
  let v71 : BitVec 32 := Scalar.addi c0_i32_39 v70
  v71.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.addi v2 c4_i32
  let c32_i32_4 : BitVec 32 := 32#32
  let v11 : BitVec 32 := Scalar.remsi v10 c32_i32_4
  let c1_i32_41 : BitVec 32 := 1#32
  let v72 : BitVec 32 := Scalar.muli v11 c1_i32_41
  let v73 : BitVec 32 := Scalar.addi c0_i32_42 v72
  v73.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v12 : BitVec 32 := Scalar.addi v2 c5_i32
  let c32_i32_5 : BitVec 32 := 32#32
  let v13 : BitVec 32 := Scalar.remsi v12 c32_i32_5
  let c1_i32_44 : BitVec 32 := 1#32
  let v74 : BitVec 32 := Scalar.muli v13 c1_i32_44
  let v75 : BitVec 32 := Scalar.addi c0_i32_45 v74
  v75.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v14 : BitVec 32 := Scalar.addi v2 c6_i32
  let c32_i32_6 : BitVec 32 := 32#32
  let v15 : BitVec 32 := Scalar.remsi v14 c32_i32_6
  let c1_i32_47 : BitVec 32 := 1#32
  let v76 : BitVec 32 := Scalar.muli v15 c1_i32_47
  let v77 : BitVec 32 := Scalar.addi c0_i32_48 v76
  v77.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v16 : BitVec 32 := Scalar.addi v2 c7_i32
  let c32_i32_7 : BitVec 32 := 32#32
  let v17 : BitVec 32 := Scalar.remsi v16 c32_i32_7
  let c1_i32_50 : BitVec 32 := 1#32
  let v78 : BitVec 32 := Scalar.muli v17 c1_i32_50
  let v79 : BitVec 32 := Scalar.addi c0_i32_51 v78
  v79.toNat
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v18 : BitVec 32 := Scalar.addi v2 c8_i32
  let c32_i32_8 : BitVec 32 := 32#32
  let v19 : BitVec 32 := Scalar.remsi v18 c32_i32_8
  let c1_i32_53 : BitVec 32 := 1#32
  let v80 : BitVec 32 := Scalar.muli v19 c1_i32_53
  let v81 : BitVec 32 := Scalar.addi c0_i32_54 v80
  v81.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v20 : BitVec 32 := Scalar.addi v2 c9_i32
  let c32_i32_9 : BitVec 32 := 32#32
  let v21 : BitVec 32 := Scalar.remsi v20 c32_i32_9
  let c1_i32_56 : BitVec 32 := 1#32
  let v82 : BitVec 32 := Scalar.muli v21 c1_i32_56
  let v83 : BitVec 32 := Scalar.addi c0_i32_57 v82
  v83.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v22 : BitVec 32 := Scalar.addi v2 c10_i32
  let c32_i32_10 : BitVec 32 := 32#32
  let v23 : BitVec 32 := Scalar.remsi v22 c32_i32_10
  let c1_i32_59 : BitVec 32 := 1#32
  let v84 : BitVec 32 := Scalar.muli v23 c1_i32_59
  let v85 : BitVec 32 := Scalar.addi c0_i32_60 v84
  v85.toNat
def k0_dev11 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v24 : BitVec 32 := Scalar.addi v2 c11_i32
  let c32_i32_11 : BitVec 32 := 32#32
  let v25 : BitVec 32 := Scalar.remsi v24 c32_i32_11
  let c1_i32_62 : BitVec 32 := 1#32
  let v86 : BitVec 32 := Scalar.muli v25 c1_i32_62
  let v87 : BitVec 32 := Scalar.addi c0_i32_63 v86
  v87.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v26 : BitVec 32 := Scalar.addi v2 c12_i32
  let c32_i32_12 : BitVec 32 := 32#32
  let v27 : BitVec 32 := Scalar.remsi v26 c32_i32_12
  let c1_i32_65 : BitVec 32 := 1#32
  let v88 : BitVec 32 := Scalar.muli v27 c1_i32_65
  let v89 : BitVec 32 := Scalar.addi c0_i32_66 v88
  v89.toNat
def k0_dev13 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v28 : BitVec 32 := Scalar.addi v2 c13_i32
  let c32_i32_13 : BitVec 32 := 32#32
  let v29 : BitVec 32 := Scalar.remsi v28 c32_i32_13
  let c1_i32_68 : BitVec 32 := 1#32
  let v90 : BitVec 32 := Scalar.muli v29 c1_i32_68
  let v91 : BitVec 32 := Scalar.addi c0_i32_69 v90
  v91.toNat
def k0_dev14 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v30 : BitVec 32 := Scalar.addi v2 c14_i32
  let c32_i32_14 : BitVec 32 := 32#32
  let v31 : BitVec 32 := Scalar.remsi v30 c32_i32_14
  let c1_i32_71 : BitVec 32 := 1#32
  let v92 : BitVec 32 := Scalar.muli v31 c1_i32_71
  let v93 : BitVec 32 := Scalar.addi c0_i32_72 v92
  v93.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v32 : BitVec 32 := Scalar.addi v2 c15_i32
  let c32_i32_15 : BitVec 32 := 32#32
  let v33 : BitVec 32 := Scalar.remsi v32 c32_i32_15
  let c1_i32_74 : BitVec 32 := 1#32
  let v94 : BitVec 32 := Scalar.muli v33 c1_i32_74
  let v95 : BitVec 32 := Scalar.addi c0_i32_75 v94
  v95.toNat
def k0_dev16 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v34 : BitVec 32 := Scalar.addi v2 c16_i32
  let c32_i32_16 : BitVec 32 := 32#32
  let v35 : BitVec 32 := Scalar.remsi v34 c32_i32_16
  let c1_i32_77 : BitVec 32 := 1#32
  let v96 : BitVec 32 := Scalar.muli v35 c1_i32_77
  let v97 : BitVec 32 := Scalar.addi c0_i32_78 v96
  v97.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v36 : BitVec 32 := Scalar.addi v2 c17_i32
  let c32_i32_17 : BitVec 32 := 32#32
  let v37 : BitVec 32 := Scalar.remsi v36 c32_i32_17
  let c1_i32_80 : BitVec 32 := 1#32
  let v98 : BitVec 32 := Scalar.muli v37 c1_i32_80
  let v99 : BitVec 32 := Scalar.addi c0_i32_81 v98
  v99.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v38 : BitVec 32 := Scalar.addi v2 c18_i32
  let c32_i32_18 : BitVec 32 := 32#32
  let v39 : BitVec 32 := Scalar.remsi v38 c32_i32_18
  let c1_i32_83 : BitVec 32 := 1#32
  let v100 : BitVec 32 := Scalar.muli v39 c1_i32_83
  let v101 : BitVec 32 := Scalar.addi c0_i32_84 v100
  v101.toNat
def k0_dev19 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v40 : BitVec 32 := Scalar.addi v2 c19_i32
  let c32_i32_19 : BitVec 32 := 32#32
  let v41 : BitVec 32 := Scalar.remsi v40 c32_i32_19
  let c1_i32_86 : BitVec 32 := 1#32
  let v102 : BitVec 32 := Scalar.muli v41 c1_i32_86
  let v103 : BitVec 32 := Scalar.addi c0_i32_87 v102
  v103.toNat
def k0_dev20 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v42 : BitVec 32 := Scalar.addi v2 c20_i32
  let c32_i32_20 : BitVec 32 := 32#32
  let v43 : BitVec 32 := Scalar.remsi v42 c32_i32_20
  let c1_i32_89 : BitVec 32 := 1#32
  let v104 : BitVec 32 := Scalar.muli v43 c1_i32_89
  let v105 : BitVec 32 := Scalar.addi c0_i32_90 v104
  v105.toNat
def k0_dev21 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v44 : BitVec 32 := Scalar.addi v2 c21_i32
  let c32_i32_21 : BitVec 32 := 32#32
  let v45 : BitVec 32 := Scalar.remsi v44 c32_i32_21
  let c1_i32_92 : BitVec 32 := 1#32
  let v106 : BitVec 32 := Scalar.muli v45 c1_i32_92
  let v107 : BitVec 32 := Scalar.addi c0_i32_93 v106
  v107.toNat
def k0_dev22 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v46 : BitVec 32 := Scalar.addi v2 c22_i32
  let c32_i32_22 : BitVec 32 := 32#32
  let v47 : BitVec 32 := Scalar.remsi v46 c32_i32_22
  let c1_i32_95 : BitVec 32 := 1#32
  let v108 : BitVec 32 := Scalar.muli v47 c1_i32_95
  let v109 : BitVec 32 := Scalar.addi c0_i32_96 v108
  v109.toNat
def k0_dev23 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v48 : BitVec 32 := Scalar.addi v2 c23_i32
  let c32_i32_23 : BitVec 32 := 32#32
  let v49 : BitVec 32 := Scalar.remsi v48 c32_i32_23
  let c1_i32_98 : BitVec 32 := 1#32
  let v110 : BitVec 32 := Scalar.muli v49 c1_i32_98
  let v111 : BitVec 32 := Scalar.addi c0_i32_99 v110
  v111.toNat
def k0_dev24 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v50 : BitVec 32 := Scalar.addi v2 c24_i32
  let c32_i32_24 : BitVec 32 := 32#32
  let v51 : BitVec 32 := Scalar.remsi v50 c32_i32_24
  let c1_i32_101 : BitVec 32 := 1#32
  let v112 : BitVec 32 := Scalar.muli v51 c1_i32_101
  let v113 : BitVec 32 := Scalar.addi c0_i32_102 v112
  v113.toNat
def k0_dev25 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v52 : BitVec 32 := Scalar.addi v2 c25_i32
  let c32_i32_25 : BitVec 32 := 32#32
  let v53 : BitVec 32 := Scalar.remsi v52 c32_i32_25
  let c1_i32_104 : BitVec 32 := 1#32
  let v114 : BitVec 32 := Scalar.muli v53 c1_i32_104
  let v115 : BitVec 32 := Scalar.addi c0_i32_105 v114
  v115.toNat
def k0_dev26 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v54 : BitVec 32 := Scalar.addi v2 c26_i32
  let c32_i32_26 : BitVec 32 := 32#32
  let v55 : BitVec 32 := Scalar.remsi v54 c32_i32_26
  let c1_i32_107 : BitVec 32 := 1#32
  let v116 : BitVec 32 := Scalar.muli v55 c1_i32_107
  let v117 : BitVec 32 := Scalar.addi c0_i32_108 v116
  v117.toNat
def k0_dev27 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v56 : BitVec 32 := Scalar.addi v2 c27_i32
  let c32_i32_27 : BitVec 32 := 32#32
  let v57 : BitVec 32 := Scalar.remsi v56 c32_i32_27
  let c1_i32_110 : BitVec 32 := 1#32
  let v118 : BitVec 32 := Scalar.muli v57 c1_i32_110
  let v119 : BitVec 32 := Scalar.addi c0_i32_111 v118
  v119.toNat
def k0_dev28 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v58 : BitVec 32 := Scalar.addi v2 c28_i32
  let c32_i32_28 : BitVec 32 := 32#32
  let v59 : BitVec 32 := Scalar.remsi v58 c32_i32_28
  let c1_i32_113 : BitVec 32 := 1#32
  let v120 : BitVec 32 := Scalar.muli v59 c1_i32_113
  let v121 : BitVec 32 := Scalar.addi c0_i32_114 v120
  v121.toNat
def k0_dev29 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v60 : BitVec 32 := Scalar.addi v2 c29_i32
  let c32_i32_29 : BitVec 32 := 32#32
  let v61 : BitVec 32 := Scalar.remsi v60 c32_i32_29
  let c1_i32_116 : BitVec 32 := 1#32
  let v122 : BitVec 32 := Scalar.muli v61 c1_i32_116
  let v123 : BitVec 32 := Scalar.addi c0_i32_117 v122
  v123.toNat
def k0_dev30 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v62 : BitVec 32 := Scalar.addi v2 c30_i32
  let c32_i32_30 : BitVec 32 := 32#32
  let v63 : BitVec 32 := Scalar.remsi v62 c32_i32_30
  let c1_i32_119 : BitVec 32 := 1#32
  let v124 : BitVec 32 := Scalar.muli v63 c1_i32_119
  let v125 : BitVec 32 := Scalar.addi c0_i32_120 v124
  v125.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v64 : BitVec 32 := Scalar.addi v2 c31_i32
  let c32_i32_31 : BitVec 32 := 32#32
  let v65 : BitVec 32 := Scalar.remsi v64 c32_i32_31
  let c1_i32_122 : BitVec 32 := 1#32
  let v126 : BitVec 32 := Scalar.muli v65 c1_i32_122
  let v127 : BitVec 32 := Scalar.addi c0_i32_123 v126
  v127.toNat
def k0_off1 (d0 : Dev nD) (c0_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let v131 : BitVec 32 := Scalar.addi v130 c0_i32_128
  let c4_i32_129 : BitVec 32 := 4#32
  let v132 : BitVec 32 := Scalar.remsi v131 c4_i32_129
  let c512_i32 : BitVec 32 := 512#32
  let v133 : BitVec 32 := Scalar.muli v132 c512_i32
  let v134 : Index := Scalar.indexCast v133
  let c0 : Index := 0#32
  ![v134.toNat, 0]
def k0_off2 (d0 : Dev nD) (c0_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let v131 : BitVec 32 := Scalar.addi v130 c0_i32_128
  let c4_i32_129 : BitVec 32 := 4#32
  let v132 : BitVec 32 := Scalar.remsi v131 c4_i32_129
  let c512_i32 : BitVec 32 := 512#32
  let v133 : BitVec 32 := Scalar.muli v132 c512_i32
  let v137 : Index := Scalar.indexCast v133
  let c0_130 : Index := 0#32
  ![v137.toNat, 0]
def k0_off3 (d0 : Dev nD) (c0_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let v131 : BitVec 32 := Scalar.addi v130 c0_i32_128
  let c4_i32_129 : BitVec 32 := 4#32
  let v132 : BitVec 32 := Scalar.remsi v131 c4_i32_129
  let c512_i32 : BitVec 32 := 512#32
  let v133 : BitVec 32 := Scalar.muli v132 c512_i32
  let v168 : Index := Scalar.indexCast v133
  let c0_143 : Index := 0#32
  ![v168.toNat, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_144 : BitVec 32 := 8#32
  let v172 : BitVec 32 := Scalar.muli v132 c8_i32_144
  let c8_i32_126 : BitVec 32 := 8#32
  let v129 : BitVec 32 := Scalar.remsi v2 c8_i32_126
  let c1_i32_145 : BitVec 32 := 1#32
  let v173 : BitVec 32 := Scalar.addi v129 c1_i32_145
  let c0_i32_146 : BitVec 32 := 0#32
  let v174 : BitVec 32 := Scalar.addi v173 c0_i32_146
  let c8_i32_147 : BitVec 32 := 8#32
  let v175 : BitVec 32 := Scalar.remsi v174 c8_i32_147
  let v176 : BitVec 32 := Scalar.addi v172 v175
  let v177 : BitVec 1 := Scalar.cmpi .ne v176 v2
  let v178 : BitVec 32 := Scalar.extui v177
  let c0_i32_148 : BitVec 32 := 0#32
  let v179 : BitVec 1 := Scalar.cmpi .ne v178 c0_i32_148
  v179

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_144 : BitVec 32 := 8#32
  let v172 : BitVec 32 := Scalar.muli v132 c8_i32_144
  let c8_i32_126 : BitVec 32 := 8#32
  let v129 : BitVec 32 := Scalar.remsi v2 c8_i32_126
  let c1_i32_145 : BitVec 32 := 1#32
  let v173 : BitVec 32 := Scalar.addi v129 c1_i32_145
  let c0_i32_146 : BitVec 32 := 0#32
  let v174 : BitVec 32 := Scalar.addi v173 c0_i32_146
  let c8_i32_147 : BitVec 32 := 8#32
  let v175 : BitVec 32 := Scalar.remsi v174 c8_i32_147
  let v176 : BitVec 32 := Scalar.addi v172 v175
  ![v176.toNat]
def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_144 : BitVec 32 := 8#32
  let v172 : BitVec 32 := Scalar.muli v132 c8_i32_144
  let c8_i32_126 : BitVec 32 := 8#32
  let v129 : BitVec 32 := Scalar.remsi v2 c8_i32_126
  let c1_i32_145 : BitVec 32 := 1#32
  let v173 : BitVec 32 := Scalar.addi v129 c1_i32_145
  let c0_i32_146 : BitVec 32 := 0#32
  let v174 : BitVec 32 := Scalar.addi v173 c0_i32_146
  let c8_i32_147 : BitVec 32 := 8#32
  let v175 : BitVec 32 := Scalar.remsi v174 c8_i32_147
  let v176 : BitVec 32 := Scalar.addi v172 v175
  let c64_i32_938 : BitVec 32 := 64#32
  let v1502 : BitVec 32 := Scalar.muli v176 c64_i32_938
  let c0_i32_943 : BitVec 32 := 0#32
  ![v1502.toNat, 0]
def k0_dev32 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_144 : BitVec 32 := 8#32
  let v172 : BitVec 32 := Scalar.muli v132 c8_i32_144
  let c8_i32_126 : BitVec 32 := 8#32
  let v129 : BitVec 32 := Scalar.remsi v2 c8_i32_126
  let c1_i32_145 : BitVec 32 := 1#32
  let v173 : BitVec 32 := Scalar.addi v129 c1_i32_145
  let c0_i32_146 : BitVec 32 := 0#32
  let v174 : BitVec 32 := Scalar.addi v173 c0_i32_146
  let c8_i32_147 : BitVec 32 := 8#32
  let v175 : BitVec 32 := Scalar.remsi v174 c8_i32_147
  let v176 : BitVec 32 := Scalar.addi v172 v175
  let c1_i32_939 : BitVec 32 := 1#32
  let v1503 : BitVec 32 := Scalar.muli v176 c1_i32_939
  let v1504 : BitVec 32 := Scalar.addi c0_i32_940 v1503
  v1504.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_149 : BitVec 32 := 8#32
  let v180 : BitVec 32 := Scalar.muli v132 c8_i32_149
  let c8_i32_126 : BitVec 32 := 8#32
  let v129 : BitVec 32 := Scalar.remsi v2 c8_i32_126
  let c1_i32_150 : BitVec 32 := 1#32
  let v181 : BitVec 32 := Scalar.addi v129 c1_i32_150
  let c1_i32_151 : BitVec 32 := 1#32
  let v182 : BitVec 32 := Scalar.addi v181 c1_i32_151
  let c8_i32_152 : BitVec 32 := 8#32
  let v183 : BitVec 32 := Scalar.remsi v182 c8_i32_152
  let v184 : BitVec 32 := Scalar.addi v180 v183
  let v185 : BitVec 1 := Scalar.cmpi .ne v184 v2
  let v186 : BitVec 32 := Scalar.extui v185
  let c0_i32_153 : BitVec 32 := 0#32
  let v187 : BitVec 1 := Scalar.cmpi .ne v186 c0_i32_153
  v187

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_149 : BitVec 32 := 8#32
  let v180 : BitVec 32 := Scalar.muli v132 c8_i32_149
  let c8_i32_126 : BitVec 32 := 8#32
  let v129 : BitVec 32 := Scalar.remsi v2 c8_i32_126
  let c1_i32_150 : BitVec 32 := 1#32
  let v181 : BitVec 32 := Scalar.addi v129 c1_i32_150
  let c1_i32_151 : BitVec 32 := 1#32
  let v182 : BitVec 32 := Scalar.addi v181 c1_i32_151
  let c8_i32_152 : BitVec 32 := 8#32
  let v183 : BitVec 32 := Scalar.remsi v182 c8_i32_152
  let v184 : BitVec 32 := Scalar.addi v180 v183
  ![v184.toNat]
def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_149 : BitVec 32 := 8#32
  let v180 : BitVec 32 := Scalar.muli v132 c8_i32_149
  let c8_i32_126 : BitVec 32 := 8#32
  let v129 : BitVec 32 := Scalar.remsi v2 c8_i32_126
  let c1_i32_150 : BitVec 32 := 1#32
  let v181 : BitVec 32 := Scalar.addi v129 c1_i32_150
  let c1_i32_151 : BitVec 32 := 1#32
  let v182 : BitVec 32 := Scalar.addi v181 c1_i32_151
  let c8_i32_152 : BitVec 32 := 8#32
  let v183 : BitVec 32 := Scalar.remsi v182 c8_i32_152
  let v184 : BitVec 32 := Scalar.addi v180 v183
  let c64_i32_938 : BitVec 32 := 64#32
  let v1502 : BitVec 32 := Scalar.muli v184 c64_i32_938
  let c0_i32_943 : BitVec 32 := 0#32
  ![v1502.toNat, 0]
def k0_dev33 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_149 : BitVec 32 := 8#32
  let v180 : BitVec 32 := Scalar.muli v132 c8_i32_149
  let c8_i32_126 : BitVec 32 := 8#32
  let v129 : BitVec 32 := Scalar.remsi v2 c8_i32_126
  let c1_i32_150 : BitVec 32 := 1#32
  let v181 : BitVec 32 := Scalar.addi v129 c1_i32_150
  let c1_i32_151 : BitVec 32 := 1#32
  let v182 : BitVec 32 := Scalar.addi v181 c1_i32_151
  let c8_i32_152 : BitVec 32 := 8#32
  let v183 : BitVec 32 := Scalar.remsi v182 c8_i32_152
  let v184 : BitVec 32 := Scalar.addi v180 v183
  let c1_i32_939 : BitVec 32 := 1#32
  let v1503 : BitVec 32 := Scalar.muli v184 c1_i32_939
  let v1504 : BitVec 32 := Scalar.addi c0_i32_940 v1503
  v1504.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_154 : BitVec 32 := 8#32
  let v188 : BitVec 32 := Scalar.muli v132 c8_i32_154
  let c8_i32_126 : BitVec 32 := 8#32
  let v129 : BitVec 32 := Scalar.remsi v2 c8_i32_126
  let c1_i32_155 : BitVec 32 := 1#32
  let v189 : BitVec 32 := Scalar.addi v129 c1_i32_155
  let c2_i32_156 : BitVec 32 := 2#32
  let v190 : BitVec 32 := Scalar.addi v189 c2_i32_156
  let c8_i32_157 : BitVec 32 := 8#32
  let v191 : BitVec 32 := Scalar.remsi v190 c8_i32_157
  let v192 : BitVec 32 := Scalar.addi v188 v191
  let v193 : BitVec 1 := Scalar.cmpi .ne v192 v2
  let v194 : BitVec 32 := Scalar.extui v193
  let c0_i32_158 : BitVec 32 := 0#32
  let v195 : BitVec 1 := Scalar.cmpi .ne v194 c0_i32_158
  v195

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_154 : BitVec 32 := 8#32
  let v188 : BitVec 32 := Scalar.muli v132 c8_i32_154
  let c8_i32_126 : BitVec 32 := 8#32
  let v129 : BitVec 32 := Scalar.remsi v2 c8_i32_126
  let c1_i32_155 : BitVec 32 := 1#32
  let v189 : BitVec 32 := Scalar.addi v129 c1_i32_155
  let c2_i32_156 : BitVec 32 := 2#32
  let v190 : BitVec 32 := Scalar.addi v189 c2_i32_156
  let c8_i32_157 : BitVec 32 := 8#32
  let v191 : BitVec 32 := Scalar.remsi v190 c8_i32_157
  let v192 : BitVec 32 := Scalar.addi v188 v191
  ![v192.toNat]
def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_154 : BitVec 32 := 8#32
  let v188 : BitVec 32 := Scalar.muli v132 c8_i32_154
  let c8_i32_126 : BitVec 32 := 8#32
  let v129 : BitVec 32 := Scalar.remsi v2 c8_i32_126
  let c1_i32_155 : BitVec 32 := 1#32
  let v189 : BitVec 32 := Scalar.addi v129 c1_i32_155
  let c2_i32_156 : BitVec 32 := 2#32
  let v190 : BitVec 32 := Scalar.addi v189 c2_i32_156
  let c8_i32_157 : BitVec 32 := 8#32
  let v191 : BitVec 32 := Scalar.remsi v190 c8_i32_157
  let v192 : BitVec 32 := Scalar.addi v188 v191
  let c64_i32_938 : BitVec 32 := 64#32
  let v1502 : BitVec 32 := Scalar.muli v192 c64_i32_938
  let c0_i32_943 : BitVec 32 := 0#32
  ![v1502.toNat, 0]
def k0_dev34 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_154 : BitVec 32 := 8#32
  let v188 : BitVec 32 := Scalar.muli v132 c8_i32_154
  let c8_i32_126 : BitVec 32 := 8#32
  let v129 : BitVec 32 := Scalar.remsi v2 c8_i32_126
  let c1_i32_155 : BitVec 32 := 1#32
  let v189 : BitVec 32 := Scalar.addi v129 c1_i32_155
  let c2_i32_156 : BitVec 32 := 2#32
  let v190 : BitVec 32 := Scalar.addi v189 c2_i32_156
  let c8_i32_157 : BitVec 32 := 8#32
  let v191 : BitVec 32 := Scalar.remsi v190 c8_i32_157
  let v192 : BitVec 32 := Scalar.addi v188 v191
  let c1_i32_939 : BitVec 32 := 1#32
  let v1503 : BitVec 32 := Scalar.muli v192 c1_i32_939
  let v1504 : BitVec 32 := Scalar.addi c0_i32_940 v1503
  v1504.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_159 : BitVec 32 := 8#32
  let v196 : BitVec 32 := Scalar.muli v132 c8_i32_159
  let c8_i32_126 : BitVec 32 := 8#32
  let v129 : BitVec 32 := Scalar.remsi v2 c8_i32_126
  let c1_i32_160 : BitVec 32 := 1#32
  let v197 : BitVec 32 := Scalar.addi v129 c1_i32_160
  let c3_i32_161 : BitVec 32 := 3#32
  let v198 : BitVec 32 := Scalar.addi v197 c3_i32_161
  let c8_i32_162 : BitVec 32 := 8#32
  let v199 : BitVec 32 := Scalar.remsi v198 c8_i32_162
  let v200 : BitVec 32 := Scalar.addi v196 v199
  let v201 : BitVec 1 := Scalar.cmpi .ne v200 v2
  let v202 : BitVec 32 := Scalar.extui v201
  let c0_i32_163 : BitVec 32 := 0#32
  let v203 : BitVec 1 := Scalar.cmpi .ne v202 c0_i32_163
  v203

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_159 : BitVec 32 := 8#32
  let v196 : BitVec 32 := Scalar.muli v132 c8_i32_159
  let c8_i32_126 : BitVec 32 := 8#32
  let v129 : BitVec 32 := Scalar.remsi v2 c8_i32_126
  let c1_i32_160 : BitVec 32 := 1#32
  let v197 : BitVec 32 := Scalar.addi v129 c1_i32_160
  let c3_i32_161 : BitVec 32 := 3#32
  let v198 : BitVec 32 := Scalar.addi v197 c3_i32_161
  let c8_i32_162 : BitVec 32 := 8#32
  let v199 : BitVec 32 := Scalar.remsi v198 c8_i32_162
  let v200 : BitVec 32 := Scalar.addi v196 v199
  ![v200.toNat]
def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_159 : BitVec 32 := 8#32
  let v196 : BitVec 32 := Scalar.muli v132 c8_i32_159
  let c8_i32_126 : BitVec 32 := 8#32
  let v129 : BitVec 32 := Scalar.remsi v2 c8_i32_126
  let c1_i32_160 : BitVec 32 := 1#32
  let v197 : BitVec 32 := Scalar.addi v129 c1_i32_160
  let c3_i32_161 : BitVec 32 := 3#32
  let v198 : BitVec 32 := Scalar.addi v197 c3_i32_161
  let c8_i32_162 : BitVec 32 := 8#32
  let v199 : BitVec 32 := Scalar.remsi v198 c8_i32_162
  let v200 : BitVec 32 := Scalar.addi v196 v199
  let c64_i32_938 : BitVec 32 := 64#32
  let v1502 : BitVec 32 := Scalar.muli v200 c64_i32_938
  let c0_i32_943 : BitVec 32 := 0#32
  ![v1502.toNat, 0]
def k0_dev35 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_159 : BitVec 32 := 8#32
  let v196 : BitVec 32 := Scalar.muli v132 c8_i32_159
  let c8_i32_126 : BitVec 32 := 8#32
  let v129 : BitVec 32 := Scalar.remsi v2 c8_i32_126
  let c1_i32_160 : BitVec 32 := 1#32
  let v197 : BitVec 32 := Scalar.addi v129 c1_i32_160
  let c3_i32_161 : BitVec 32 := 3#32
  let v198 : BitVec 32 := Scalar.addi v197 c3_i32_161
  let c8_i32_162 : BitVec 32 := 8#32
  let v199 : BitVec 32 := Scalar.remsi v198 c8_i32_162
  let v200 : BitVec 32 := Scalar.addi v196 v199
  let c1_i32_939 : BitVec 32 := 1#32
  let v1503 : BitVec 32 := Scalar.muli v200 c1_i32_939
  let v1504 : BitVec 32 := Scalar.addi c0_i32_940 v1503
  v1504.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_164 : BitVec 32 := 8#32
  let v204 : BitVec 32 := Scalar.muli v132 c8_i32_164
  let c8_i32_126 : BitVec 32 := 8#32
  let v129 : BitVec 32 := Scalar.remsi v2 c8_i32_126
  let c1_i32_165 : BitVec 32 := 1#32
  let v205 : BitVec 32 := Scalar.addi v129 c1_i32_165
  let c4_i32_166 : BitVec 32 := 4#32
  let v206 : BitVec 32 := Scalar.addi v205 c4_i32_166
  let c8_i32_167 : BitVec 32 := 8#32
  let v207 : BitVec 32 := Scalar.remsi v206 c8_i32_167
  let v208 : BitVec 32 := Scalar.addi v204 v207
  let v209 : BitVec 1 := Scalar.cmpi .ne v208 v2
  let v210 : BitVec 32 := Scalar.extui v209
  let c0_i32_168 : BitVec 32 := 0#32
  let v211 : BitVec 1 := Scalar.cmpi .ne v210 c0_i32_168
  v211

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_164 : BitVec 32 := 8#32
  let v204 : BitVec 32 := Scalar.muli v132 c8_i32_164
  let c8_i32_126 : BitVec 32 := 8#32
  let v129 : BitVec 32 := Scalar.remsi v2 c8_i32_126
  let c1_i32_165 : BitVec 32 := 1#32
  let v205 : BitVec 32 := Scalar.addi v129 c1_i32_165
  let c4_i32_166 : BitVec 32 := 4#32
  let v206 : BitVec 32 := Scalar.addi v205 c4_i32_166
  let c8_i32_167 : BitVec 32 := 8#32
  let v207 : BitVec 32 := Scalar.remsi v206 c8_i32_167
  let v208 : BitVec 32 := Scalar.addi v204 v207
  ![v208.toNat]
def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_164 : BitVec 32 := 8#32
  let v204 : BitVec 32 := Scalar.muli v132 c8_i32_164
  let c8_i32_126 : BitVec 32 := 8#32
  let v129 : BitVec 32 := Scalar.remsi v2 c8_i32_126
  let c1_i32_165 : BitVec 32 := 1#32
  let v205 : BitVec 32 := Scalar.addi v129 c1_i32_165
  let c4_i32_166 : BitVec 32 := 4#32
  let v206 : BitVec 32 := Scalar.addi v205 c4_i32_166
  let c8_i32_167 : BitVec 32 := 8#32
  let v207 : BitVec 32 := Scalar.remsi v206 c8_i32_167
  let v208 : BitVec 32 := Scalar.addi v204 v207
  let c64_i32_938 : BitVec 32 := 64#32
  let v1502 : BitVec 32 := Scalar.muli v208 c64_i32_938
  let c0_i32_943 : BitVec 32 := 0#32
  ![v1502.toNat, 0]
def k0_dev36 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_164 : BitVec 32 := 8#32
  let v204 : BitVec 32 := Scalar.muli v132 c8_i32_164
  let c8_i32_126 : BitVec 32 := 8#32
  let v129 : BitVec 32 := Scalar.remsi v2 c8_i32_126
  let c1_i32_165 : BitVec 32 := 1#32
  let v205 : BitVec 32 := Scalar.addi v129 c1_i32_165
  let c4_i32_166 : BitVec 32 := 4#32
  let v206 : BitVec 32 := Scalar.addi v205 c4_i32_166
  let c8_i32_167 : BitVec 32 := 8#32
  let v207 : BitVec 32 := Scalar.remsi v206 c8_i32_167
  let v208 : BitVec 32 := Scalar.addi v204 v207
  let c1_i32_939 : BitVec 32 := 1#32
  let v1503 : BitVec 32 := Scalar.muli v208 c1_i32_939
  let v1504 : BitVec 32 := Scalar.addi c0_i32_940 v1503
  v1504.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_169 : BitVec 32 := 8#32
  let v212 : BitVec 32 := Scalar.muli v132 c8_i32_169
  let c8_i32_126 : BitVec 32 := 8#32
  let v129 : BitVec 32 := Scalar.remsi v2 c8_i32_126
  let c1_i32_170 : BitVec 32 := 1#32
  let v213 : BitVec 32 := Scalar.addi v129 c1_i32_170
  let c5_i32_171 : BitVec 32 := 5#32
  let v214 : BitVec 32 := Scalar.addi v213 c5_i32_171
  let c8_i32_172 : BitVec 32 := 8#32
  let v215 : BitVec 32 := Scalar.remsi v214 c8_i32_172
  let v216 : BitVec 32 := Scalar.addi v212 v215
  let v217 : BitVec 1 := Scalar.cmpi .ne v216 v2
  let v218 : BitVec 32 := Scalar.extui v217
  let c0_i32_173 : BitVec 32 := 0#32
  let v219 : BitVec 1 := Scalar.cmpi .ne v218 c0_i32_173
  v219

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_169 : BitVec 32 := 8#32
  let v212 : BitVec 32 := Scalar.muli v132 c8_i32_169
  let c8_i32_126 : BitVec 32 := 8#32
  let v129 : BitVec 32 := Scalar.remsi v2 c8_i32_126
  let c1_i32_170 : BitVec 32 := 1#32
  let v213 : BitVec 32 := Scalar.addi v129 c1_i32_170
  let c5_i32_171 : BitVec 32 := 5#32
  let v214 : BitVec 32 := Scalar.addi v213 c5_i32_171
  let c8_i32_172 : BitVec 32 := 8#32
  let v215 : BitVec 32 := Scalar.remsi v214 c8_i32_172
  let v216 : BitVec 32 := Scalar.addi v212 v215
  ![v216.toNat]
def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_169 : BitVec 32 := 8#32
  let v212 : BitVec 32 := Scalar.muli v132 c8_i32_169
  let c8_i32_126 : BitVec 32 := 8#32
  let v129 : BitVec 32 := Scalar.remsi v2 c8_i32_126
  let c1_i32_170 : BitVec 32 := 1#32
  let v213 : BitVec 32 := Scalar.addi v129 c1_i32_170
  let c5_i32_171 : BitVec 32 := 5#32
  let v214 : BitVec 32 := Scalar.addi v213 c5_i32_171
  let c8_i32_172 : BitVec 32 := 8#32
  let v215 : BitVec 32 := Scalar.remsi v214 c8_i32_172
  let v216 : BitVec 32 := Scalar.addi v212 v215
  let c64_i32_938 : BitVec 32 := 64#32
  let v1502 : BitVec 32 := Scalar.muli v216 c64_i32_938
  let c0_i32_943 : BitVec 32 := 0#32
  ![v1502.toNat, 0]
def k0_dev37 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_169 : BitVec 32 := 8#32
  let v212 : BitVec 32 := Scalar.muli v132 c8_i32_169
  let c8_i32_126 : BitVec 32 := 8#32
  let v129 : BitVec 32 := Scalar.remsi v2 c8_i32_126
  let c1_i32_170 : BitVec 32 := 1#32
  let v213 : BitVec 32 := Scalar.addi v129 c1_i32_170
  let c5_i32_171 : BitVec 32 := 5#32
  let v214 : BitVec 32 := Scalar.addi v213 c5_i32_171
  let c8_i32_172 : BitVec 32 := 8#32
  let v215 : BitVec 32 := Scalar.remsi v214 c8_i32_172
  let v216 : BitVec 32 := Scalar.addi v212 v215
  let c1_i32_939 : BitVec 32 := 1#32
  let v1503 : BitVec 32 := Scalar.muli v216 c1_i32_939
  let v1504 : BitVec 32 := Scalar.addi c0_i32_940 v1503
  v1504.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_174 : BitVec 32 := 8#32
  let v220 : BitVec 32 := Scalar.muli v132 c8_i32_174
  let c8_i32_126 : BitVec 32 := 8#32
  let v129 : BitVec 32 := Scalar.remsi v2 c8_i32_126
  let c1_i32_175 : BitVec 32 := 1#32
  let v221 : BitVec 32 := Scalar.addi v129 c1_i32_175
  let c6_i32_176 : BitVec 32 := 6#32
  let v222 : BitVec 32 := Scalar.addi v221 c6_i32_176
  let c8_i32_177 : BitVec 32 := 8#32
  let v223 : BitVec 32 := Scalar.remsi v222 c8_i32_177
  let v224 : BitVec 32 := Scalar.addi v220 v223
  let v225 : BitVec 1 := Scalar.cmpi .ne v224 v2
  let v226 : BitVec 32 := Scalar.extui v225
  let c0_i32_178 : BitVec 32 := 0#32
  let v227 : BitVec 1 := Scalar.cmpi .ne v226 c0_i32_178
  v227

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_174 : BitVec 32 := 8#32
  let v220 : BitVec 32 := Scalar.muli v132 c8_i32_174
  let c8_i32_126 : BitVec 32 := 8#32
  let v129 : BitVec 32 := Scalar.remsi v2 c8_i32_126
  let c1_i32_175 : BitVec 32 := 1#32
  let v221 : BitVec 32 := Scalar.addi v129 c1_i32_175
  let c6_i32_176 : BitVec 32 := 6#32
  let v222 : BitVec 32 := Scalar.addi v221 c6_i32_176
  let c8_i32_177 : BitVec 32 := 8#32
  let v223 : BitVec 32 := Scalar.remsi v222 c8_i32_177
  let v224 : BitVec 32 := Scalar.addi v220 v223
  ![v224.toNat]
def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_174 : BitVec 32 := 8#32
  let v220 : BitVec 32 := Scalar.muli v132 c8_i32_174
  let c8_i32_126 : BitVec 32 := 8#32
  let v129 : BitVec 32 := Scalar.remsi v2 c8_i32_126
  let c1_i32_175 : BitVec 32 := 1#32
  let v221 : BitVec 32 := Scalar.addi v129 c1_i32_175
  let c6_i32_176 : BitVec 32 := 6#32
  let v222 : BitVec 32 := Scalar.addi v221 c6_i32_176
  let c8_i32_177 : BitVec 32 := 8#32
  let v223 : BitVec 32 := Scalar.remsi v222 c8_i32_177
  let v224 : BitVec 32 := Scalar.addi v220 v223
  let c64_i32_938 : BitVec 32 := 64#32
  let v1502 : BitVec 32 := Scalar.muli v224 c64_i32_938
  let c0_i32_943 : BitVec 32 := 0#32
  ![v1502.toNat, 0]
def k0_dev38 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_174 : BitVec 32 := 8#32
  let v220 : BitVec 32 := Scalar.muli v132 c8_i32_174
  let c8_i32_126 : BitVec 32 := 8#32
  let v129 : BitVec 32 := Scalar.remsi v2 c8_i32_126
  let c1_i32_175 : BitVec 32 := 1#32
  let v221 : BitVec 32 := Scalar.addi v129 c1_i32_175
  let c6_i32_176 : BitVec 32 := 6#32
  let v222 : BitVec 32 := Scalar.addi v221 c6_i32_176
  let c8_i32_177 : BitVec 32 := 8#32
  let v223 : BitVec 32 := Scalar.remsi v222 c8_i32_177
  let v224 : BitVec 32 := Scalar.addi v220 v223
  let c1_i32_939 : BitVec 32 := 1#32
  let v1503 : BitVec 32 := Scalar.muli v224 c1_i32_939
  let v1504 : BitVec 32 := Scalar.addi c0_i32_940 v1503
  v1504.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_179 : BitVec 32 := 8#32
  let v228 : BitVec 32 := Scalar.muli v132 c8_i32_179
  let c8_i32_126 : BitVec 32 := 8#32
  let v129 : BitVec 32 := Scalar.remsi v2 c8_i32_126
  let c1_i32_180 : BitVec 32 := 1#32
  let v229 : BitVec 32 := Scalar.addi v129 c1_i32_180
  let c7_i32_181 : BitVec 32 := 7#32
  let v230 : BitVec 32 := Scalar.addi v229 c7_i32_181
  let c8_i32_182 : BitVec 32 := 8#32
  let v231 : BitVec 32 := Scalar.remsi v230 c8_i32_182
  let v232 : BitVec 32 := Scalar.addi v228 v231
  let v233 : BitVec 1 := Scalar.cmpi .ne v232 v2
  let v234 : BitVec 32 := Scalar.extui v233
  let c0_i32_183 : BitVec 32 := 0#32
  let v235 : BitVec 1 := Scalar.cmpi .ne v234 c0_i32_183
  v235

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_179 : BitVec 32 := 8#32
  let v228 : BitVec 32 := Scalar.muli v132 c8_i32_179
  let c8_i32_126 : BitVec 32 := 8#32
  let v129 : BitVec 32 := Scalar.remsi v2 c8_i32_126
  let c1_i32_180 : BitVec 32 := 1#32
  let v229 : BitVec 32 := Scalar.addi v129 c1_i32_180
  let c7_i32_181 : BitVec 32 := 7#32
  let v230 : BitVec 32 := Scalar.addi v229 c7_i32_181
  let c8_i32_182 : BitVec 32 := 8#32
  let v231 : BitVec 32 := Scalar.remsi v230 c8_i32_182
  let v232 : BitVec 32 := Scalar.addi v228 v231
  ![v232.toNat]
def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_179 : BitVec 32 := 8#32
  let v228 : BitVec 32 := Scalar.muli v132 c8_i32_179
  let c8_i32_126 : BitVec 32 := 8#32
  let v129 : BitVec 32 := Scalar.remsi v2 c8_i32_126
  let c1_i32_180 : BitVec 32 := 1#32
  let v229 : BitVec 32 := Scalar.addi v129 c1_i32_180
  let c7_i32_181 : BitVec 32 := 7#32
  let v230 : BitVec 32 := Scalar.addi v229 c7_i32_181
  let c8_i32_182 : BitVec 32 := 8#32
  let v231 : BitVec 32 := Scalar.remsi v230 c8_i32_182
  let v232 : BitVec 32 := Scalar.addi v228 v231
  let c64_i32_938 : BitVec 32 := 64#32
  let v1502 : BitVec 32 := Scalar.muli v232 c64_i32_938
  let c0_i32_943 : BitVec 32 := 0#32
  ![v1502.toNat, 0]
def k0_dev39 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_127 : BitVec 32 := 1#32
  let v130 : BitVec 32 := Scalar.addi v128 c1_i32_127
  let c0_i32_128 : BitVec 32 := 0#32
  let v131 : BitVec 32 := Scalar.addi v130 c0_i32_128
  let c4_i32_129 : BitVec 32 := 4#32
  let v132 : BitVec 32 := Scalar.remsi v131 c4_i32_129
  let c8_i32_179 : BitVec 32 := 8#32
  let v228 : BitVec 32 := Scalar.muli v132 c8_i32_179
  let c8_i32_126 : BitVec 32 := 8#32
  let v129 : BitVec 32 := Scalar.remsi v2 c8_i32_126
  let c1_i32_180 : BitVec 32 := 1#32
  let v229 : BitVec 32 := Scalar.addi v129 c1_i32_180
  let c7_i32_181 : BitVec 32 := 7#32
  let v230 : BitVec 32 := Scalar.addi v229 c7_i32_181
  let c8_i32_182 : BitVec 32 := 8#32
  let v231 : BitVec 32 := Scalar.remsi v230 c8_i32_182
  let v232 : BitVec 32 := Scalar.addi v228 v231
  let c1_i32_939 : BitVec 32 := 1#32
  let v1503 : BitVec 32 := Scalar.muli v232 c1_i32_939
  let v1504 : BitVec 32 := Scalar.addi c0_i32_940 v1503
  v1504.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_207 : BitVec 32 := 8#32
  let v278 : BitVec 32 := Scalar.muli v238 c8_i32_207
  let c8_i32_126 : BitVec 32 := 8#32
  let v129 : BitVec 32 := Scalar.remsi v2 c8_i32_126
  let c1_i32_208 : BitVec 32 := 1#32
  let v279 : BitVec 32 := Scalar.addi v129 c1_i32_208
  let c0_i32_209 : BitVec 32 := 0#32
  let v280 : BitVec 32 := Scalar.addi v279 c0_i32_209
  let c8_i32_210 : BitVec 32 := 8#32
  let v281 : BitVec 32 := Scalar.remsi v280 c8_i32_210
  let v282 : BitVec 32 := Scalar.addi v278 v281
  let v283 : BitVec 1 := Scalar.cmpi .ne v282 v2
  let v284 : BitVec 32 := Scalar.extui v283
  let c0_i32_211 : BitVec 32 := 0#32
  let v285 : BitVec 1 := Scalar.cmpi .ne v284 c0_i32_211
  v285

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_207 : BitVec 32 := 8#32
  let v278 : BitVec 32 := Scalar.muli v238 c8_i32_207
  let c8_i32_126 : BitVec 32 := 8#32
  let v129 : BitVec 32 := Scalar.remsi v2 c8_i32_126
  let c1_i32_208 : BitVec 32 := 1#32
  let v279 : BitVec 32 := Scalar.addi v129 c1_i32_208
  let c0_i32_209 : BitVec 32 := 0#32
  let v280 : BitVec 32 := Scalar.addi v279 c0_i32_209
  let c8_i32_210 : BitVec 32 := 8#32
  let v281 : BitVec 32 := Scalar.remsi v280 c8_i32_210
  let v282 : BitVec 32 := Scalar.addi v278 v281
  ![v282.toNat]
def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_207 : BitVec 32 := 8#32
  let v278 : BitVec 32 := Scalar.muli v238 c8_i32_207
  let c8_i32_126 : BitVec 32 := 8#32
  let v129 : BitVec 32 := Scalar.remsi v2 c8_i32_126
  let c1_i32_208 : BitVec 32 := 1#32
  let v279 : BitVec 32 := Scalar.addi v129 c1_i32_208
  let c0_i32_209 : BitVec 32 := 0#32
  let v280 : BitVec 32 := Scalar.addi v279 c0_i32_209
  let c8_i32_210 : BitVec 32 := 8#32
  let v281 : BitVec 32 := Scalar.remsi v280 c8_i32_210
  let v282 : BitVec 32 := Scalar.addi v278 v281
  let c64_i32_938 : BitVec 32 := 64#32
  let v1502 : BitVec 32 := Scalar.muli v282 c64_i32_938
  let c0_i32_943 : BitVec 32 := 0#32
  ![v1502.toNat, 0]
def k0_dev40 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_207 : BitVec 32 := 8#32
  let v278 : BitVec 32 := Scalar.muli v238 c8_i32_207
  let c8_i32_126 : BitVec 32 := 8#32
  let v129 : BitVec 32 := Scalar.remsi v2 c8_i32_126
  let c1_i32_208 : BitVec 32 := 1#32
  let v279 : BitVec 32 := Scalar.addi v129 c1_i32_208
  let c0_i32_209 : BitVec 32 := 0#32
  let v280 : BitVec 32 := Scalar.addi v279 c0_i32_209
  let c8_i32_210 : BitVec 32 := 8#32
  let v281 : BitVec 32 := Scalar.remsi v280 c8_i32_210
  let v282 : BitVec 32 := Scalar.addi v278 v281
  let c1_i32_939 : BitVec 32 := 1#32
  let v1503 : BitVec 32 := Scalar.muli v282 c1_i32_939
  let v1504 : BitVec 32 := Scalar.addi c0_i32_940 v1503
  v1504.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_212 : BitVec 32 := 8#32
  let v286 : BitVec 32 := Scalar.muli v238 c8_i32_212
  let c8_i32_126 : BitVec 32 := 8#32
  let v129 : BitVec 32 := Scalar.remsi v2 c8_i32_126
  let c1_i32_213 : BitVec 32 := 1#32
  let v287 : BitVec 32 := Scalar.addi v129 c1_i32_213
  let c1_i32_214 : BitVec 32 := 1#32
  let v288 : BitVec 32 := Scalar.addi v287 c1_i32_214
  let c8_i32_215 : BitVec 32 := 8#32
  let v289 : BitVec 32 := Scalar.remsi v288 c8_i32_215
  let v290 : BitVec 32 := Scalar.addi v286 v289
  let v291 : BitVec 1 := Scalar.cmpi .ne v290 v2
  let v292 : BitVec 32 := Scalar.extui v291
  let c0_i32_216 : BitVec 32 := 0#32
  let v293 : BitVec 1 := Scalar.cmpi .ne v292 c0_i32_216
  v293

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_212 : BitVec 32 := 8#32
  let v286 : BitVec 32 := Scalar.muli v238 c8_i32_212
  let c8_i32_126 : BitVec 32 := 8#32
  let v129 : BitVec 32 := Scalar.remsi v2 c8_i32_126
  let c1_i32_213 : BitVec 32 := 1#32
  let v287 : BitVec 32 := Scalar.addi v129 c1_i32_213
  let c1_i32_214 : BitVec 32 := 1#32
  let v288 : BitVec 32 := Scalar.addi v287 c1_i32_214
  let c8_i32_215 : BitVec 32 := 8#32
  let v289 : BitVec 32 := Scalar.remsi v288 c8_i32_215
  let v290 : BitVec 32 := Scalar.addi v286 v289
  ![v290.toNat]
def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_212 : BitVec 32 := 8#32
  let v286 : BitVec 32 := Scalar.muli v238 c8_i32_212
  let c8_i32_126 : BitVec 32 := 8#32
  let v129 : BitVec 32 := Scalar.remsi v2 c8_i32_126
  let c1_i32_213 : BitVec 32 := 1#32
  let v287 : BitVec 32 := Scalar.addi v129 c1_i32_213
  let c1_i32_214 : BitVec 32 := 1#32
  let v288 : BitVec 32 := Scalar.addi v287 c1_i32_214
  let c8_i32_215 : BitVec 32 := 8#32
  let v289 : BitVec 32 := Scalar.remsi v288 c8_i32_215
  let v290 : BitVec 32 := Scalar.addi v286 v289
  let c64_i32_938 : BitVec 32 := 64#32
  let v1502 : BitVec 32 := Scalar.muli v290 c64_i32_938
  let c0_i32_943 : BitVec 32 := 0#32
  ![v1502.toNat, 0]
def k0_dev41 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_212 : BitVec 32 := 8#32
  let v286 : BitVec 32 := Scalar.muli v238 c8_i32_212
  let c8_i32_126 : BitVec 32 := 8#32
  let v129 : BitVec 32 := Scalar.remsi v2 c8_i32_126
  let c1_i32_213 : BitVec 32 := 1#32
  let v287 : BitVec 32 := Scalar.addi v129 c1_i32_213
  let c1_i32_214 : BitVec 32 := 1#32
  let v288 : BitVec 32 := Scalar.addi v287 c1_i32_214
  let c8_i32_215 : BitVec 32 := 8#32
  let v289 : BitVec 32 := Scalar.remsi v288 c8_i32_215
  let v290 : BitVec 32 := Scalar.addi v286 v289
  let c1_i32_939 : BitVec 32 := 1#32
  let v1503 : BitVec 32 := Scalar.muli v290 c1_i32_939
  let v1504 : BitVec 32 := Scalar.addi c0_i32_940 v1503
  v1504.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_217 : BitVec 32 := 8#32
  let v294 : BitVec 32 := Scalar.muli v238 c8_i32_217
  let c8_i32_126 : BitVec 32 := 8#32
  let v129 : BitVec 32 := Scalar.remsi v2 c8_i32_126
  let c1_i32_218 : BitVec 32 := 1#32
  let v295 : BitVec 32 := Scalar.addi v129 c1_i32_218
  let c2_i32_219 : BitVec 32 := 2#32
  let v296 : BitVec 32 := Scalar.addi v295 c2_i32_219
  let c8_i32_220 : BitVec 32 := 8#32
  let v297 : BitVec 32 := Scalar.remsi v296 c8_i32_220
  let v298 : BitVec 32 := Scalar.addi v294 v297
  let v299 : BitVec 1 := Scalar.cmpi .ne v298 v2
  let v300 : BitVec 32 := Scalar.extui v299
  let c0_i32_221 : BitVec 32 := 0#32
  let v301 : BitVec 1 := Scalar.cmpi .ne v300 c0_i32_221
  v301

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_217 : BitVec 32 := 8#32
  let v294 : BitVec 32 := Scalar.muli v238 c8_i32_217
  let c8_i32_126 : BitVec 32 := 8#32
  let v129 : BitVec 32 := Scalar.remsi v2 c8_i32_126
  let c1_i32_218 : BitVec 32 := 1#32
  let v295 : BitVec 32 := Scalar.addi v129 c1_i32_218
  let c2_i32_219 : BitVec 32 := 2#32
  let v296 : BitVec 32 := Scalar.addi v295 c2_i32_219
  let c8_i32_220 : BitVec 32 := 8#32
  let v297 : BitVec 32 := Scalar.remsi v296 c8_i32_220
  let v298 : BitVec 32 := Scalar.addi v294 v297
  ![v298.toNat]
def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_217 : BitVec 32 := 8#32
  let v294 : BitVec 32 := Scalar.muli v238 c8_i32_217
  let c8_i32_126 : BitVec 32 := 8#32
  let v129 : BitVec 32 := Scalar.remsi v2 c8_i32_126
  let c1_i32_218 : BitVec 32 := 1#32
  let v295 : BitVec 32 := Scalar.addi v129 c1_i32_218
  let c2_i32_219 : BitVec 32 := 2#32
  let v296 : BitVec 32 := Scalar.addi v295 c2_i32_219
  let c8_i32_220 : BitVec 32 := 8#32
  let v297 : BitVec 32 := Scalar.remsi v296 c8_i32_220
  let v298 : BitVec 32 := Scalar.addi v294 v297
  let c64_i32_938 : BitVec 32 := 64#32
  let v1502 : BitVec 32 := Scalar.muli v298 c64_i32_938
  let c0_i32_943 : BitVec 32 := 0#32
  ![v1502.toNat, 0]
def k0_dev42 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_217 : BitVec 32 := 8#32
  let v294 : BitVec 32 := Scalar.muli v238 c8_i32_217
  let c8_i32_126 : BitVec 32 := 8#32
  let v129 : BitVec 32 := Scalar.remsi v2 c8_i32_126
  let c1_i32_218 : BitVec 32 := 1#32
  let v295 : BitVec 32 := Scalar.addi v129 c1_i32_218
  let c2_i32_219 : BitVec 32 := 2#32
  let v296 : BitVec 32 := Scalar.addi v295 c2_i32_219
  let c8_i32_220 : BitVec 32 := 8#32
  let v297 : BitVec 32 := Scalar.remsi v296 c8_i32_220
  let v298 : BitVec 32 := Scalar.addi v294 v297
  let c1_i32_939 : BitVec 32 := 1#32
  let v1503 : BitVec 32 := Scalar.muli v298 c1_i32_939
  let v1504 : BitVec 32 := Scalar.addi c0_i32_940 v1503
  v1504.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_222 : BitVec 32 := 8#32
  let v302 : BitVec 32 := Scalar.muli v238 c8_i32_222
  let c8_i32_126 : BitVec 32 := 8#32
  let v129 : BitVec 32 := Scalar.remsi v2 c8_i32_126
  let c1_i32_223 : BitVec 32 := 1#32
  let v303 : BitVec 32 := Scalar.addi v129 c1_i32_223
  let c3_i32_224 : BitVec 32 := 3#32
  let v304 : BitVec 32 := Scalar.addi v303 c3_i32_224
  let c8_i32_225 : BitVec 32 := 8#32
  let v305 : BitVec 32 := Scalar.remsi v304 c8_i32_225
  let v306 : BitVec 32 := Scalar.addi v302 v305
  let v307 : BitVec 1 := Scalar.cmpi .ne v306 v2
  let v308 : BitVec 32 := Scalar.extui v307
  let c0_i32_226 : BitVec 32 := 0#32
  let v309 : BitVec 1 := Scalar.cmpi .ne v308 c0_i32_226
  v309

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_222 : BitVec 32 := 8#32
  let v302 : BitVec 32 := Scalar.muli v238 c8_i32_222
  let c8_i32_126 : BitVec 32 := 8#32
  let v129 : BitVec 32 := Scalar.remsi v2 c8_i32_126
  let c1_i32_223 : BitVec 32 := 1#32
  let v303 : BitVec 32 := Scalar.addi v129 c1_i32_223
  let c3_i32_224 : BitVec 32 := 3#32
  let v304 : BitVec 32 := Scalar.addi v303 c3_i32_224
  let c8_i32_225 : BitVec 32 := 8#32
  let v305 : BitVec 32 := Scalar.remsi v304 c8_i32_225
  let v306 : BitVec 32 := Scalar.addi v302 v305
  ![v306.toNat]
def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_222 : BitVec 32 := 8#32
  let v302 : BitVec 32 := Scalar.muli v238 c8_i32_222
  let c8_i32_126 : BitVec 32 := 8#32
  let v129 : BitVec 32 := Scalar.remsi v2 c8_i32_126
  let c1_i32_223 : BitVec 32 := 1#32
  let v303 : BitVec 32 := Scalar.addi v129 c1_i32_223
  let c3_i32_224 : BitVec 32 := 3#32
  let v304 : BitVec 32 := Scalar.addi v303 c3_i32_224
  let c8_i32_225 : BitVec 32 := 8#32
  let v305 : BitVec 32 := Scalar.remsi v304 c8_i32_225
  let v306 : BitVec 32 := Scalar.addi v302 v305
  let c64_i32_938 : BitVec 32 := 64#32
  let v1502 : BitVec 32 := Scalar.muli v306 c64_i32_938
  let c0_i32_943 : BitVec 32 := 0#32
  ![v1502.toNat, 0]
def k0_dev43 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_222 : BitVec 32 := 8#32
  let v302 : BitVec 32 := Scalar.muli v238 c8_i32_222
  let c8_i32_126 : BitVec 32 := 8#32
  let v129 : BitVec 32 := Scalar.remsi v2 c8_i32_126
  let c1_i32_223 : BitVec 32 := 1#32
  let v303 : BitVec 32 := Scalar.addi v129 c1_i32_223
  let c3_i32_224 : BitVec 32 := 3#32
  let v304 : BitVec 32 := Scalar.addi v303 c3_i32_224
  let c8_i32_225 : BitVec 32 := 8#32
  let v305 : BitVec 32 := Scalar.remsi v304 c8_i32_225
  let v306 : BitVec 32 := Scalar.addi v302 v305
  let c1_i32_939 : BitVec 32 := 1#32
  let v1503 : BitVec 32 := Scalar.muli v306 c1_i32_939
  let v1504 : BitVec 32 := Scalar.addi c0_i32_940 v1503
  v1504.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_227 : BitVec 32 := 8#32
  let v310 : BitVec 32 := Scalar.muli v238 c8_i32_227
  let c8_i32_126 : BitVec 32 := 8#32
  let v129 : BitVec 32 := Scalar.remsi v2 c8_i32_126
  let c1_i32_228 : BitVec 32 := 1#32
  let v311 : BitVec 32 := Scalar.addi v129 c1_i32_228
  let c4_i32_229 : BitVec 32 := 4#32
  let v312 : BitVec 32 := Scalar.addi v311 c4_i32_229
  let c8_i32_230 : BitVec 32 := 8#32
  let v313 : BitVec 32 := Scalar.remsi v312 c8_i32_230
  let v314 : BitVec 32 := Scalar.addi v310 v313
  let v315 : BitVec 1 := Scalar.cmpi .ne v314 v2
  let v316 : BitVec 32 := Scalar.extui v315
  let c0_i32_231 : BitVec 32 := 0#32
  let v317 : BitVec 1 := Scalar.cmpi .ne v316 c0_i32_231
  v317

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_227 : BitVec 32 := 8#32
  let v310 : BitVec 32 := Scalar.muli v238 c8_i32_227
  let c8_i32_126 : BitVec 32 := 8#32
  let v129 : BitVec 32 := Scalar.remsi v2 c8_i32_126
  let c1_i32_228 : BitVec 32 := 1#32
  let v311 : BitVec 32 := Scalar.addi v129 c1_i32_228
  let c4_i32_229 : BitVec 32 := 4#32
  let v312 : BitVec 32 := Scalar.addi v311 c4_i32_229
  let c8_i32_230 : BitVec 32 := 8#32
  let v313 : BitVec 32 := Scalar.remsi v312 c8_i32_230
  let v314 : BitVec 32 := Scalar.addi v310 v313
  ![v314.toNat]
def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_227 : BitVec 32 := 8#32
  let v310 : BitVec 32 := Scalar.muli v238 c8_i32_227
  let c8_i32_126 : BitVec 32 := 8#32
  let v129 : BitVec 32 := Scalar.remsi v2 c8_i32_126
  let c1_i32_228 : BitVec 32 := 1#32
  let v311 : BitVec 32 := Scalar.addi v129 c1_i32_228
  let c4_i32_229 : BitVec 32 := 4#32
  let v312 : BitVec 32 := Scalar.addi v311 c4_i32_229
  let c8_i32_230 : BitVec 32 := 8#32
  let v313 : BitVec 32 := Scalar.remsi v312 c8_i32_230
  let v314 : BitVec 32 := Scalar.addi v310 v313
  let c64_i32_938 : BitVec 32 := 64#32
  let v1502 : BitVec 32 := Scalar.muli v314 c64_i32_938
  let c0_i32_943 : BitVec 32 := 0#32
  ![v1502.toNat, 0]
def k0_dev44 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_227 : BitVec 32 := 8#32
  let v310 : BitVec 32 := Scalar.muli v238 c8_i32_227
  let c8_i32_126 : BitVec 32 := 8#32
  let v129 : BitVec 32 := Scalar.remsi v2 c8_i32_126
  let c1_i32_228 : BitVec 32 := 1#32
  let v311 : BitVec 32 := Scalar.addi v129 c1_i32_228
  let c4_i32_229 : BitVec 32 := 4#32
  let v312 : BitVec 32 := Scalar.addi v311 c4_i32_229
  let c8_i32_230 : BitVec 32 := 8#32
  let v313 : BitVec 32 := Scalar.remsi v312 c8_i32_230
  let v314 : BitVec 32 := Scalar.addi v310 v313
  let c1_i32_939 : BitVec 32 := 1#32
  let v1503 : BitVec 32 := Scalar.muli v314 c1_i32_939
  let v1504 : BitVec 32 := Scalar.addi c0_i32_940 v1503
  v1504.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_232 : BitVec 32 := 8#32
  let v318 : BitVec 32 := Scalar.muli v238 c8_i32_232
  let c8_i32_126 : BitVec 32 := 8#32
  let v129 : BitVec 32 := Scalar.remsi v2 c8_i32_126
  let c1_i32_233 : BitVec 32 := 1#32
  let v319 : BitVec 32 := Scalar.addi v129 c1_i32_233
  let c5_i32_234 : BitVec 32 := 5#32
  let v320 : BitVec 32 := Scalar.addi v319 c5_i32_234
  let c8_i32_235 : BitVec 32 := 8#32
  let v321 : BitVec 32 := Scalar.remsi v320 c8_i32_235
  let v322 : BitVec 32 := Scalar.addi v318 v321
  let v323 : BitVec 1 := Scalar.cmpi .ne v322 v2
  let v324 : BitVec 32 := Scalar.extui v323
  let c0_i32_236 : BitVec 32 := 0#32
  let v325 : BitVec 1 := Scalar.cmpi .ne v324 c0_i32_236
  v325

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_232 : BitVec 32 := 8#32
  let v318 : BitVec 32 := Scalar.muli v238 c8_i32_232
  let c8_i32_126 : BitVec 32 := 8#32
  let v129 : BitVec 32 := Scalar.remsi v2 c8_i32_126
  let c1_i32_233 : BitVec 32 := 1#32
  let v319 : BitVec 32 := Scalar.addi v129 c1_i32_233
  let c5_i32_234 : BitVec 32 := 5#32
  let v320 : BitVec 32 := Scalar.addi v319 c5_i32_234
  let c8_i32_235 : BitVec 32 := 8#32
  let v321 : BitVec 32 := Scalar.remsi v320 c8_i32_235
  let v322 : BitVec 32 := Scalar.addi v318 v321
  ![v322.toNat]
def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_232 : BitVec 32 := 8#32
  let v318 : BitVec 32 := Scalar.muli v238 c8_i32_232
  let c8_i32_126 : BitVec 32 := 8#32
  let v129 : BitVec 32 := Scalar.remsi v2 c8_i32_126
  let c1_i32_233 : BitVec 32 := 1#32
  let v319 : BitVec 32 := Scalar.addi v129 c1_i32_233
  let c5_i32_234 : BitVec 32 := 5#32
  let v320 : BitVec 32 := Scalar.addi v319 c5_i32_234
  let c8_i32_235 : BitVec 32 := 8#32
  let v321 : BitVec 32 := Scalar.remsi v320 c8_i32_235
  let v322 : BitVec 32 := Scalar.addi v318 v321
  let c64_i32_938 : BitVec 32 := 64#32
  let v1502 : BitVec 32 := Scalar.muli v322 c64_i32_938
  let c0_i32_943 : BitVec 32 := 0#32
  ![v1502.toNat, 0]
def k0_dev45 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_232 : BitVec 32 := 8#32
  let v318 : BitVec 32 := Scalar.muli v238 c8_i32_232
  let c8_i32_126 : BitVec 32 := 8#32
  let v129 : BitVec 32 := Scalar.remsi v2 c8_i32_126
  let c1_i32_233 : BitVec 32 := 1#32
  let v319 : BitVec 32 := Scalar.addi v129 c1_i32_233
  let c5_i32_234 : BitVec 32 := 5#32
  let v320 : BitVec 32 := Scalar.addi v319 c5_i32_234
  let c8_i32_235 : BitVec 32 := 8#32
  let v321 : BitVec 32 := Scalar.remsi v320 c8_i32_235
  let v322 : BitVec 32 := Scalar.addi v318 v321
  let c1_i32_939 : BitVec 32 := 1#32
  let v1503 : BitVec 32 := Scalar.muli v322 c1_i32_939
  let v1504 : BitVec 32 := Scalar.addi c0_i32_940 v1503
  v1504.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_237 : BitVec 32 := 8#32
  let v326 : BitVec 32 := Scalar.muli v238 c8_i32_237
  let c8_i32_126 : BitVec 32 := 8#32
  let v129 : BitVec 32 := Scalar.remsi v2 c8_i32_126
  let c1_i32_238 : BitVec 32 := 1#32
  let v327 : BitVec 32 := Scalar.addi v129 c1_i32_238
  let c6_i32_239 : BitVec 32 := 6#32
  let v328 : BitVec 32 := Scalar.addi v327 c6_i32_239
  let c8_i32_240 : BitVec 32 := 8#32
  let v329 : BitVec 32 := Scalar.remsi v328 c8_i32_240
  let v330 : BitVec 32 := Scalar.addi v326 v329
  let v331 : BitVec 1 := Scalar.cmpi .ne v330 v2
  let v332 : BitVec 32 := Scalar.extui v331
  let c0_i32_241 : BitVec 32 := 0#32
  let v333 : BitVec 1 := Scalar.cmpi .ne v332 c0_i32_241
  v333

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_237 : BitVec 32 := 8#32
  let v326 : BitVec 32 := Scalar.muli v238 c8_i32_237
  let c8_i32_126 : BitVec 32 := 8#32
  let v129 : BitVec 32 := Scalar.remsi v2 c8_i32_126
  let c1_i32_238 : BitVec 32 := 1#32
  let v327 : BitVec 32 := Scalar.addi v129 c1_i32_238
  let c6_i32_239 : BitVec 32 := 6#32
  let v328 : BitVec 32 := Scalar.addi v327 c6_i32_239
  let c8_i32_240 : BitVec 32 := 8#32
  let v329 : BitVec 32 := Scalar.remsi v328 c8_i32_240
  let v330 : BitVec 32 := Scalar.addi v326 v329
  ![v330.toNat]
def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_237 : BitVec 32 := 8#32
  let v326 : BitVec 32 := Scalar.muli v238 c8_i32_237
  let c8_i32_126 : BitVec 32 := 8#32
  let v129 : BitVec 32 := Scalar.remsi v2 c8_i32_126
  let c1_i32_238 : BitVec 32 := 1#32
  let v327 : BitVec 32 := Scalar.addi v129 c1_i32_238
  let c6_i32_239 : BitVec 32 := 6#32
  let v328 : BitVec 32 := Scalar.addi v327 c6_i32_239
  let c8_i32_240 : BitVec 32 := 8#32
  let v329 : BitVec 32 := Scalar.remsi v328 c8_i32_240
  let v330 : BitVec 32 := Scalar.addi v326 v329
  let c64_i32_938 : BitVec 32 := 64#32
  let v1502 : BitVec 32 := Scalar.muli v330 c64_i32_938
  let c0_i32_943 : BitVec 32 := 0#32
  ![v1502.toNat, 0]
def k0_dev46 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_237 : BitVec 32 := 8#32
  let v326 : BitVec 32 := Scalar.muli v238 c8_i32_237
  let c8_i32_126 : BitVec 32 := 8#32
  let v129 : BitVec 32 := Scalar.remsi v2 c8_i32_126
  let c1_i32_238 : BitVec 32 := 1#32
  let v327 : BitVec 32 := Scalar.addi v129 c1_i32_238
  let c6_i32_239 : BitVec 32 := 6#32
  let v328 : BitVec 32 := Scalar.addi v327 c6_i32_239
  let c8_i32_240 : BitVec 32 := 8#32
  let v329 : BitVec 32 := Scalar.remsi v328 c8_i32_240
  let v330 : BitVec 32 := Scalar.addi v326 v329
  let c1_i32_939 : BitVec 32 := 1#32
  let v1503 : BitVec 32 := Scalar.muli v330 c1_i32_939
  let v1504 : BitVec 32 := Scalar.addi c0_i32_940 v1503
  v1504.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_242 : BitVec 32 := 8#32
  let v334 : BitVec 32 := Scalar.muli v238 c8_i32_242
  let c8_i32_126 : BitVec 32 := 8#32
  let v129 : BitVec 32 := Scalar.remsi v2 c8_i32_126
  let c1_i32_243 : BitVec 32 := 1#32
  let v335 : BitVec 32 := Scalar.addi v129 c1_i32_243
  let c7_i32_244 : BitVec 32 := 7#32
  let v336 : BitVec 32 := Scalar.addi v335 c7_i32_244
  let c8_i32_245 : BitVec 32 := 8#32
  let v337 : BitVec 32 := Scalar.remsi v336 c8_i32_245
  let v338 : BitVec 32 := Scalar.addi v334 v337
  let v339 : BitVec 1 := Scalar.cmpi .ne v338 v2
  let v340 : BitVec 32 := Scalar.extui v339
  let c0_i32_246 : BitVec 32 := 0#32
  let v341 : BitVec 1 := Scalar.cmpi .ne v340 c0_i32_246
  v341

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_242 : BitVec 32 := 8#32
  let v334 : BitVec 32 := Scalar.muli v238 c8_i32_242
  let c8_i32_126 : BitVec 32 := 8#32
  let v129 : BitVec 32 := Scalar.remsi v2 c8_i32_126
  let c1_i32_243 : BitVec 32 := 1#32
  let v335 : BitVec 32 := Scalar.addi v129 c1_i32_243
  let c7_i32_244 : BitVec 32 := 7#32
  let v336 : BitVec 32 := Scalar.addi v335 c7_i32_244
  let c8_i32_245 : BitVec 32 := 8#32
  let v337 : BitVec 32 := Scalar.remsi v336 c8_i32_245
  let v338 : BitVec 32 := Scalar.addi v334 v337
  ![v338.toNat]
def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_242 : BitVec 32 := 8#32
  let v334 : BitVec 32 := Scalar.muli v238 c8_i32_242
  let c8_i32_126 : BitVec 32 := 8#32
  let v129 : BitVec 32 := Scalar.remsi v2 c8_i32_126
  let c1_i32_243 : BitVec 32 := 1#32
  let v335 : BitVec 32 := Scalar.addi v129 c1_i32_243
  let c7_i32_244 : BitVec 32 := 7#32
  let v336 : BitVec 32 := Scalar.addi v335 c7_i32_244
  let c8_i32_245 : BitVec 32 := 8#32
  let v337 : BitVec 32 := Scalar.remsi v336 c8_i32_245
  let v338 : BitVec 32 := Scalar.addi v334 v337
  let c64_i32_938 : BitVec 32 := 64#32
  let v1502 : BitVec 32 := Scalar.muli v338 c64_i32_938
  let c0_i32_943 : BitVec 32 := 0#32
  ![v1502.toNat, 0]
def k0_dev47 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_184 : BitVec 32 := 1#32
  let v236 : BitVec 32 := Scalar.addi v128 c1_i32_184
  let c1_i32_185 : BitVec 32 := 1#32
  let v237 : BitVec 32 := Scalar.addi v236 c1_i32_185
  let c4_i32_186 : BitVec 32 := 4#32
  let v238 : BitVec 32 := Scalar.remsi v237 c4_i32_186
  let c8_i32_242 : BitVec 32 := 8#32
  let v334 : BitVec 32 := Scalar.muli v238 c8_i32_242
  let c8_i32_126 : BitVec 32 := 8#32
  let v129 : BitVec 32 := Scalar.remsi v2 c8_i32_126
  let c1_i32_243 : BitVec 32 := 1#32
  let v335 : BitVec 32 := Scalar.addi v129 c1_i32_243
  let c7_i32_244 : BitVec 32 := 7#32
  let v336 : BitVec 32 := Scalar.addi v335 c7_i32_244
  let c8_i32_245 : BitVec 32 := 8#32
  let v337 : BitVec 32 := Scalar.remsi v336 c8_i32_245
  let v338 : BitVec 32 := Scalar.addi v334 v337
  let c1_i32_939 : BitVec 32 := 1#32
  let v1503 : BitVec 32 := Scalar.muli v338 c1_i32_939
  let v1504 : BitVec 32 := Scalar.addi c0_i32_940 v1503
  v1504.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_270 : BitVec 32 := 8#32
  let v384 : BitVec 32 := Scalar.muli v344 c8_i32_270
  let c8_i32_126 : BitVec 32 := 8#32
  let v129 : BitVec 32 := Scalar.remsi v2 c8_i32_126
  let c1_i32_271 : BitVec 32 := 1#32
  let v385 : BitVec 32 := Scalar.addi v129 c1_i32_271
  let c0_i32_272 : BitVec 32 := 0#32
  let v386 : BitVec 32 := Scalar.addi v385 c0_i32_272
  let c8_i32_273 : BitVec 32 := 8#32
  let v387 : BitVec 32 := Scalar.remsi v386 c8_i32_273
  let v388 : BitVec 32 := Scalar.addi v384 v387
  let v389 : BitVec 1 := Scalar.cmpi .ne v388 v2
  let v390 : BitVec 32 := Scalar.extui v389
  let c0_i32_274 : BitVec 32 := 0#32
  let v391 : BitVec 1 := Scalar.cmpi .ne v390 c0_i32_274
  v391

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_270 : BitVec 32 := 8#32
  let v384 : BitVec 32 := Scalar.muli v344 c8_i32_270
  let c8_i32_126 : BitVec 32 := 8#32
  let v129 : BitVec 32 := Scalar.remsi v2 c8_i32_126
  let c1_i32_271 : BitVec 32 := 1#32
  let v385 : BitVec 32 := Scalar.addi v129 c1_i32_271
  let c0_i32_272 : BitVec 32 := 0#32
  let v386 : BitVec 32 := Scalar.addi v385 c0_i32_272
  let c8_i32_273 : BitVec 32 := 8#32
  let v387 : BitVec 32 := Scalar.remsi v386 c8_i32_273
  let v388 : BitVec 32 := Scalar.addi v384 v387
  ![v388.toNat]
def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_270 : BitVec 32 := 8#32
  let v384 : BitVec 32 := Scalar.muli v344 c8_i32_270
  let c8_i32_126 : BitVec 32 := 8#32
  let v129 : BitVec 32 := Scalar.remsi v2 c8_i32_126
  let c1_i32_271 : BitVec 32 := 1#32
  let v385 : BitVec 32 := Scalar.addi v129 c1_i32_271
  let c0_i32_272 : BitVec 32 := 0#32
  let v386 : BitVec 32 := Scalar.addi v385 c0_i32_272
  let c8_i32_273 : BitVec 32 := 8#32
  let v387 : BitVec 32 := Scalar.remsi v386 c8_i32_273
  let v388 : BitVec 32 := Scalar.addi v384 v387
  let c64_i32_938 : BitVec 32 := 64#32
  let v1502 : BitVec 32 := Scalar.muli v388 c64_i32_938
  let c0_i32_943 : BitVec 32 := 0#32
  ![v1502.toNat, 0]
def k0_dev48 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_270 : BitVec 32 := 8#32
  let v384 : BitVec 32 := Scalar.muli v344 c8_i32_270
  let c8_i32_126 : BitVec 32 := 8#32
  let v129 : BitVec 32 := Scalar.remsi v2 c8_i32_126
  let c1_i32_271 : BitVec 32 := 1#32
  let v385 : BitVec 32 := Scalar.addi v129 c1_i32_271
  let c0_i32_272 : BitVec 32 := 0#32
  let v386 : BitVec 32 := Scalar.addi v385 c0_i32_272
  let c8_i32_273 : BitVec 32 := 8#32
  let v387 : BitVec 32 := Scalar.remsi v386 c8_i32_273
  let v388 : BitVec 32 := Scalar.addi v384 v387
  let c1_i32_939 : BitVec 32 := 1#32
  let v1503 : BitVec 32 := Scalar.muli v388 c1_i32_939
  let v1504 : BitVec 32 := Scalar.addi c0_i32_940 v1503
  v1504.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_275 : BitVec 32 := 8#32
  let v392 : BitVec 32 := Scalar.muli v344 c8_i32_275
  let c8_i32_126 : BitVec 32 := 8#32
  let v129 : BitVec 32 := Scalar.remsi v2 c8_i32_126
  let c1_i32_276 : BitVec 32 := 1#32
  let v393 : BitVec 32 := Scalar.addi v129 c1_i32_276
  let c1_i32_277 : BitVec 32 := 1#32
  let v394 : BitVec 32 := Scalar.addi v393 c1_i32_277
  let c8_i32_278 : BitVec 32 := 8#32
  let v395 : BitVec 32 := Scalar.remsi v394 c8_i32_278
  let v396 : BitVec 32 := Scalar.addi v392 v395
  let v397 : BitVec 1 := Scalar.cmpi .ne v396 v2
  let v398 : BitVec 32 := Scalar.extui v397
  let c0_i32_279 : BitVec 32 := 0#32
  let v399 : BitVec 1 := Scalar.cmpi .ne v398 c0_i32_279
  v399

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_275 : BitVec 32 := 8#32
  let v392 : BitVec 32 := Scalar.muli v344 c8_i32_275
  let c8_i32_126 : BitVec 32 := 8#32
  let v129 : BitVec 32 := Scalar.remsi v2 c8_i32_126
  let c1_i32_276 : BitVec 32 := 1#32
  let v393 : BitVec 32 := Scalar.addi v129 c1_i32_276
  let c1_i32_277 : BitVec 32 := 1#32
  let v394 : BitVec 32 := Scalar.addi v393 c1_i32_277
  let c8_i32_278 : BitVec 32 := 8#32
  let v395 : BitVec 32 := Scalar.remsi v394 c8_i32_278
  let v396 : BitVec 32 := Scalar.addi v392 v395
  ![v396.toNat]
def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_275 : BitVec 32 := 8#32
  let v392 : BitVec 32 := Scalar.muli v344 c8_i32_275
  let c8_i32_126 : BitVec 32 := 8#32
  let v129 : BitVec 32 := Scalar.remsi v2 c8_i32_126
  let c1_i32_276 : BitVec 32 := 1#32
  let v393 : BitVec 32 := Scalar.addi v129 c1_i32_276
  let c1_i32_277 : BitVec 32 := 1#32
  let v394 : BitVec 32 := Scalar.addi v393 c1_i32_277
  let c8_i32_278 : BitVec 32 := 8#32
  let v395 : BitVec 32 := Scalar.remsi v394 c8_i32_278
  let v396 : BitVec 32 := Scalar.addi v392 v395
  let c64_i32_938 : BitVec 32 := 64#32
  let v1502 : BitVec 32 := Scalar.muli v396 c64_i32_938
  let c0_i32_943 : BitVec 32 := 0#32
  ![v1502.toNat, 0]
def k0_dev49 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_275 : BitVec 32 := 8#32
  let v392 : BitVec 32 := Scalar.muli v344 c8_i32_275
  let c8_i32_126 : BitVec 32 := 8#32
  let v129 : BitVec 32 := Scalar.remsi v2 c8_i32_126
  let c1_i32_276 : BitVec 32 := 1#32
  let v393 : BitVec 32 := Scalar.addi v129 c1_i32_276
  let c1_i32_277 : BitVec 32 := 1#32
  let v394 : BitVec 32 := Scalar.addi v393 c1_i32_277
  let c8_i32_278 : BitVec 32 := 8#32
  let v395 : BitVec 32 := Scalar.remsi v394 c8_i32_278
  let v396 : BitVec 32 := Scalar.addi v392 v395
  let c1_i32_939 : BitVec 32 := 1#32
  let v1503 : BitVec 32 := Scalar.muli v396 c1_i32_939
  let v1504 : BitVec 32 := Scalar.addi c0_i32_940 v1503
  v1504.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_280 : BitVec 32 := 8#32
  let v400 : BitVec 32 := Scalar.muli v344 c8_i32_280
  let c8_i32_126 : BitVec 32 := 8#32
  let v129 : BitVec 32 := Scalar.remsi v2 c8_i32_126
  let c1_i32_281 : BitVec 32 := 1#32
  let v401 : BitVec 32 := Scalar.addi v129 c1_i32_281
  let c2_i32_282 : BitVec 32 := 2#32
  let v402 : BitVec 32 := Scalar.addi v401 c2_i32_282
  let c8_i32_283 : BitVec 32 := 8#32
  let v403 : BitVec 32 := Scalar.remsi v402 c8_i32_283
  let v404 : BitVec 32 := Scalar.addi v400 v403
  let v405 : BitVec 1 := Scalar.cmpi .ne v404 v2
  let v406 : BitVec 32 := Scalar.extui v405
  let c0_i32_284 : BitVec 32 := 0#32
  let v407 : BitVec 1 := Scalar.cmpi .ne v406 c0_i32_284
  v407

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_280 : BitVec 32 := 8#32
  let v400 : BitVec 32 := Scalar.muli v344 c8_i32_280
  let c8_i32_126 : BitVec 32 := 8#32
  let v129 : BitVec 32 := Scalar.remsi v2 c8_i32_126
  let c1_i32_281 : BitVec 32 := 1#32
  let v401 : BitVec 32 := Scalar.addi v129 c1_i32_281
  let c2_i32_282 : BitVec 32 := 2#32
  let v402 : BitVec 32 := Scalar.addi v401 c2_i32_282
  let c8_i32_283 : BitVec 32 := 8#32
  let v403 : BitVec 32 := Scalar.remsi v402 c8_i32_283
  let v404 : BitVec 32 := Scalar.addi v400 v403
  ![v404.toNat]
def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_280 : BitVec 32 := 8#32
  let v400 : BitVec 32 := Scalar.muli v344 c8_i32_280
  let c8_i32_126 : BitVec 32 := 8#32
  let v129 : BitVec 32 := Scalar.remsi v2 c8_i32_126
  let c1_i32_281 : BitVec 32 := 1#32
  let v401 : BitVec 32 := Scalar.addi v129 c1_i32_281
  let c2_i32_282 : BitVec 32 := 2#32
  let v402 : BitVec 32 := Scalar.addi v401 c2_i32_282
  let c8_i32_283 : BitVec 32 := 8#32
  let v403 : BitVec 32 := Scalar.remsi v402 c8_i32_283
  let v404 : BitVec 32 := Scalar.addi v400 v403
  let c64_i32_938 : BitVec 32 := 64#32
  let v1502 : BitVec 32 := Scalar.muli v404 c64_i32_938
  let c0_i32_943 : BitVec 32 := 0#32
  ![v1502.toNat, 0]
def k0_dev50 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_280 : BitVec 32 := 8#32
  let v400 : BitVec 32 := Scalar.muli v344 c8_i32_280
  let c8_i32_126 : BitVec 32 := 8#32
  let v129 : BitVec 32 := Scalar.remsi v2 c8_i32_126
  let c1_i32_281 : BitVec 32 := 1#32
  let v401 : BitVec 32 := Scalar.addi v129 c1_i32_281
  let c2_i32_282 : BitVec 32 := 2#32
  let v402 : BitVec 32 := Scalar.addi v401 c2_i32_282
  let c8_i32_283 : BitVec 32 := 8#32
  let v403 : BitVec 32 := Scalar.remsi v402 c8_i32_283
  let v404 : BitVec 32 := Scalar.addi v400 v403
  let c1_i32_939 : BitVec 32 := 1#32
  let v1503 : BitVec 32 := Scalar.muli v404 c1_i32_939
  let v1504 : BitVec 32 := Scalar.addi c0_i32_940 v1503
  v1504.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_285 : BitVec 32 := 8#32
  let v408 : BitVec 32 := Scalar.muli v344 c8_i32_285
  let c8_i32_126 : BitVec 32 := 8#32
  let v129 : BitVec 32 := Scalar.remsi v2 c8_i32_126
  let c1_i32_286 : BitVec 32 := 1#32
  let v409 : BitVec 32 := Scalar.addi v129 c1_i32_286
  let c3_i32_287 : BitVec 32 := 3#32
  let v410 : BitVec 32 := Scalar.addi v409 c3_i32_287
  let c8_i32_288 : BitVec 32 := 8#32
  let v411 : BitVec 32 := Scalar.remsi v410 c8_i32_288
  let v412 : BitVec 32 := Scalar.addi v408 v411
  let v413 : BitVec 1 := Scalar.cmpi .ne v412 v2
  let v414 : BitVec 32 := Scalar.extui v413
  let c0_i32_289 : BitVec 32 := 0#32
  let v415 : BitVec 1 := Scalar.cmpi .ne v414 c0_i32_289
  v415

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_285 : BitVec 32 := 8#32
  let v408 : BitVec 32 := Scalar.muli v344 c8_i32_285
  let c8_i32_126 : BitVec 32 := 8#32
  let v129 : BitVec 32 := Scalar.remsi v2 c8_i32_126
  let c1_i32_286 : BitVec 32 := 1#32
  let v409 : BitVec 32 := Scalar.addi v129 c1_i32_286
  let c3_i32_287 : BitVec 32 := 3#32
  let v410 : BitVec 32 := Scalar.addi v409 c3_i32_287
  let c8_i32_288 : BitVec 32 := 8#32
  let v411 : BitVec 32 := Scalar.remsi v410 c8_i32_288
  let v412 : BitVec 32 := Scalar.addi v408 v411
  ![v412.toNat]
def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_285 : BitVec 32 := 8#32
  let v408 : BitVec 32 := Scalar.muli v344 c8_i32_285
  let c8_i32_126 : BitVec 32 := 8#32
  let v129 : BitVec 32 := Scalar.remsi v2 c8_i32_126
  let c1_i32_286 : BitVec 32 := 1#32
  let v409 : BitVec 32 := Scalar.addi v129 c1_i32_286
  let c3_i32_287 : BitVec 32 := 3#32
  let v410 : BitVec 32 := Scalar.addi v409 c3_i32_287
  let c8_i32_288 : BitVec 32 := 8#32
  let v411 : BitVec 32 := Scalar.remsi v410 c8_i32_288
  let v412 : BitVec 32 := Scalar.addi v408 v411
  let c64_i32_938 : BitVec 32 := 64#32
  let v1502 : BitVec 32 := Scalar.muli v412 c64_i32_938
  let c0_i32_943 : BitVec 32 := 0#32
  ![v1502.toNat, 0]
def k0_dev51 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_285 : BitVec 32 := 8#32
  let v408 : BitVec 32 := Scalar.muli v344 c8_i32_285
  let c8_i32_126 : BitVec 32 := 8#32
  let v129 : BitVec 32 := Scalar.remsi v2 c8_i32_126
  let c1_i32_286 : BitVec 32 := 1#32
  let v409 : BitVec 32 := Scalar.addi v129 c1_i32_286
  let c3_i32_287 : BitVec 32 := 3#32
  let v410 : BitVec 32 := Scalar.addi v409 c3_i32_287
  let c8_i32_288 : BitVec 32 := 8#32
  let v411 : BitVec 32 := Scalar.remsi v410 c8_i32_288
  let v412 : BitVec 32 := Scalar.addi v408 v411
  let c1_i32_939 : BitVec 32 := 1#32
  let v1503 : BitVec 32 := Scalar.muli v412 c1_i32_939
  let v1504 : BitVec 32 := Scalar.addi c0_i32_940 v1503
  v1504.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_290 : BitVec 32 := 8#32
  let v416 : BitVec 32 := Scalar.muli v344 c8_i32_290
  let c8_i32_126 : BitVec 32 := 8#32
  let v129 : BitVec 32 := Scalar.remsi v2 c8_i32_126
  let c1_i32_291 : BitVec 32 := 1#32
  let v417 : BitVec 32 := Scalar.addi v129 c1_i32_291
  let c4_i32_292 : BitVec 32 := 4#32
  let v418 : BitVec 32 := Scalar.addi v417 c4_i32_292
  let c8_i32_293 : BitVec 32 := 8#32
  let v419 : BitVec 32 := Scalar.remsi v418 c8_i32_293
  let v420 : BitVec 32 := Scalar.addi v416 v419
  let v421 : BitVec 1 := Scalar.cmpi .ne v420 v2
  let v422 : BitVec 32 := Scalar.extui v421
  let c0_i32_294 : BitVec 32 := 0#32
  let v423 : BitVec 1 := Scalar.cmpi .ne v422 c0_i32_294
  v423

def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_290 : BitVec 32 := 8#32
  let v416 : BitVec 32 := Scalar.muli v344 c8_i32_290
  let c8_i32_126 : BitVec 32 := 8#32
  let v129 : BitVec 32 := Scalar.remsi v2 c8_i32_126
  let c1_i32_291 : BitVec 32 := 1#32
  let v417 : BitVec 32 := Scalar.addi v129 c1_i32_291
  let c4_i32_292 : BitVec 32 := 4#32
  let v418 : BitVec 32 := Scalar.addi v417 c4_i32_292
  let c8_i32_293 : BitVec 32 := 8#32
  let v419 : BitVec 32 := Scalar.remsi v418 c8_i32_293
  let v420 : BitVec 32 := Scalar.addi v416 v419
  ![v420.toNat]
def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_290 : BitVec 32 := 8#32
  let v416 : BitVec 32 := Scalar.muli v344 c8_i32_290
  let c8_i32_126 : BitVec 32 := 8#32
  let v129 : BitVec 32 := Scalar.remsi v2 c8_i32_126
  let c1_i32_291 : BitVec 32 := 1#32
  let v417 : BitVec 32 := Scalar.addi v129 c1_i32_291
  let c4_i32_292 : BitVec 32 := 4#32
  let v418 : BitVec 32 := Scalar.addi v417 c4_i32_292
  let c8_i32_293 : BitVec 32 := 8#32
  let v419 : BitVec 32 := Scalar.remsi v418 c8_i32_293
  let v420 : BitVec 32 := Scalar.addi v416 v419
  let c64_i32_938 : BitVec 32 := 64#32
  let v1502 : BitVec 32 := Scalar.muli v420 c64_i32_938
  let c0_i32_943 : BitVec 32 := 0#32
  ![v1502.toNat, 0]
def k0_dev52 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_290 : BitVec 32 := 8#32
  let v416 : BitVec 32 := Scalar.muli v344 c8_i32_290
  let c8_i32_126 : BitVec 32 := 8#32
  let v129 : BitVec 32 := Scalar.remsi v2 c8_i32_126
  let c1_i32_291 : BitVec 32 := 1#32
  let v417 : BitVec 32 := Scalar.addi v129 c1_i32_291
  let c4_i32_292 : BitVec 32 := 4#32
  let v418 : BitVec 32 := Scalar.addi v417 c4_i32_292
  let c8_i32_293 : BitVec 32 := 8#32
  let v419 : BitVec 32 := Scalar.remsi v418 c8_i32_293
  let v420 : BitVec 32 := Scalar.addi v416 v419
  let c1_i32_939 : BitVec 32 := 1#32
  let v1503 : BitVec 32 := Scalar.muli v420 c1_i32_939
  let v1504 : BitVec 32 := Scalar.addi c0_i32_940 v1503
  v1504.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_295 : BitVec 32 := 8#32
  let v424 : BitVec 32 := Scalar.muli v344 c8_i32_295
  let c8_i32_126 : BitVec 32 := 8#32
  let v129 : BitVec 32 := Scalar.remsi v2 c8_i32_126
  let c1_i32_296 : BitVec 32 := 1#32
  let v425 : BitVec 32 := Scalar.addi v129 c1_i32_296
  let c5_i32_297 : BitVec 32 := 5#32
  let v426 : BitVec 32 := Scalar.addi v425 c5_i32_297
  let c8_i32_298 : BitVec 32 := 8#32
  let v427 : BitVec 32 := Scalar.remsi v426 c8_i32_298
  let v428 : BitVec 32 := Scalar.addi v424 v427
  let v429 : BitVec 1 := Scalar.cmpi .ne v428 v2
  let v430 : BitVec 32 := Scalar.extui v429
  let c0_i32_299 : BitVec 32 := 0#32
  let v431 : BitVec 1 := Scalar.cmpi .ne v430 c0_i32_299
  v431

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_295 : BitVec 32 := 8#32
  let v424 : BitVec 32 := Scalar.muli v344 c8_i32_295
  let c8_i32_126 : BitVec 32 := 8#32
  let v129 : BitVec 32 := Scalar.remsi v2 c8_i32_126
  let c1_i32_296 : BitVec 32 := 1#32
  let v425 : BitVec 32 := Scalar.addi v129 c1_i32_296
  let c5_i32_297 : BitVec 32 := 5#32
  let v426 : BitVec 32 := Scalar.addi v425 c5_i32_297
  let c8_i32_298 : BitVec 32 := 8#32
  let v427 : BitVec 32 := Scalar.remsi v426 c8_i32_298
  let v428 : BitVec 32 := Scalar.addi v424 v427
  ![v428.toNat]
def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_295 : BitVec 32 := 8#32
  let v424 : BitVec 32 := Scalar.muli v344 c8_i32_295
  let c8_i32_126 : BitVec 32 := 8#32
  let v129 : BitVec 32 := Scalar.remsi v2 c8_i32_126
  let c1_i32_296 : BitVec 32 := 1#32
  let v425 : BitVec 32 := Scalar.addi v129 c1_i32_296
  let c5_i32_297 : BitVec 32 := 5#32
  let v426 : BitVec 32 := Scalar.addi v425 c5_i32_297
  let c8_i32_298 : BitVec 32 := 8#32
  let v427 : BitVec 32 := Scalar.remsi v426 c8_i32_298
  let v428 : BitVec 32 := Scalar.addi v424 v427
  let c64_i32_938 : BitVec 32 := 64#32
  let v1502 : BitVec 32 := Scalar.muli v428 c64_i32_938
  let c0_i32_943 : BitVec 32 := 0#32
  ![v1502.toNat, 0]
def k0_dev53 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_295 : BitVec 32 := 8#32
  let v424 : BitVec 32 := Scalar.muli v344 c8_i32_295
  let c8_i32_126 : BitVec 32 := 8#32
  let v129 : BitVec 32 := Scalar.remsi v2 c8_i32_126
  let c1_i32_296 : BitVec 32 := 1#32
  let v425 : BitVec 32 := Scalar.addi v129 c1_i32_296
  let c5_i32_297 : BitVec 32 := 5#32
  let v426 : BitVec 32 := Scalar.addi v425 c5_i32_297
  let c8_i32_298 : BitVec 32 := 8#32
  let v427 : BitVec 32 := Scalar.remsi v426 c8_i32_298
  let v428 : BitVec 32 := Scalar.addi v424 v427
  let c1_i32_939 : BitVec 32 := 1#32
  let v1503 : BitVec 32 := Scalar.muli v428 c1_i32_939
  let v1504 : BitVec 32 := Scalar.addi c0_i32_940 v1503
  v1504.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_300 : BitVec 32 := 8#32
  let v432 : BitVec 32 := Scalar.muli v344 c8_i32_300
  let c8_i32_126 : BitVec 32 := 8#32
  let v129 : BitVec 32 := Scalar.remsi v2 c8_i32_126
  let c1_i32_301 : BitVec 32 := 1#32
  let v433 : BitVec 32 := Scalar.addi v129 c1_i32_301
  let c6_i32_302 : BitVec 32 := 6#32
  let v434 : BitVec 32 := Scalar.addi v433 c6_i32_302
  let c8_i32_303 : BitVec 32 := 8#32
  let v435 : BitVec 32 := Scalar.remsi v434 c8_i32_303
  let v436 : BitVec 32 := Scalar.addi v432 v435
  let v437 : BitVec 1 := Scalar.cmpi .ne v436 v2
  let v438 : BitVec 32 := Scalar.extui v437
  let c0_i32_304 : BitVec 32 := 0#32
  let v439 : BitVec 1 := Scalar.cmpi .ne v438 c0_i32_304
  v439

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_300 : BitVec 32 := 8#32
  let v432 : BitVec 32 := Scalar.muli v344 c8_i32_300
  let c8_i32_126 : BitVec 32 := 8#32
  let v129 : BitVec 32 := Scalar.remsi v2 c8_i32_126
  let c1_i32_301 : BitVec 32 := 1#32
  let v433 : BitVec 32 := Scalar.addi v129 c1_i32_301
  let c6_i32_302 : BitVec 32 := 6#32
  let v434 : BitVec 32 := Scalar.addi v433 c6_i32_302
  let c8_i32_303 : BitVec 32 := 8#32
  let v435 : BitVec 32 := Scalar.remsi v434 c8_i32_303
  let v436 : BitVec 32 := Scalar.addi v432 v435
  ![v436.toNat]
def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_300 : BitVec 32 := 8#32
  let v432 : BitVec 32 := Scalar.muli v344 c8_i32_300
  let c8_i32_126 : BitVec 32 := 8#32
  let v129 : BitVec 32 := Scalar.remsi v2 c8_i32_126
  let c1_i32_301 : BitVec 32 := 1#32
  let v433 : BitVec 32 := Scalar.addi v129 c1_i32_301
  let c6_i32_302 : BitVec 32 := 6#32
  let v434 : BitVec 32 := Scalar.addi v433 c6_i32_302
  let c8_i32_303 : BitVec 32 := 8#32
  let v435 : BitVec 32 := Scalar.remsi v434 c8_i32_303
  let v436 : BitVec 32 := Scalar.addi v432 v435
  let c64_i32_938 : BitVec 32 := 64#32
  let v1502 : BitVec 32 := Scalar.muli v436 c64_i32_938
  let c0_i32_943 : BitVec 32 := 0#32
  ![v1502.toNat, 0]
def k0_dev54 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_300 : BitVec 32 := 8#32
  let v432 : BitVec 32 := Scalar.muli v344 c8_i32_300
  let c8_i32_126 : BitVec 32 := 8#32
  let v129 : BitVec 32 := Scalar.remsi v2 c8_i32_126
  let c1_i32_301 : BitVec 32 := 1#32
  let v433 : BitVec 32 := Scalar.addi v129 c1_i32_301
  let c6_i32_302 : BitVec 32 := 6#32
  let v434 : BitVec 32 := Scalar.addi v433 c6_i32_302
  let c8_i32_303 : BitVec 32 := 8#32
  let v435 : BitVec 32 := Scalar.remsi v434 c8_i32_303
  let v436 : BitVec 32 := Scalar.addi v432 v435
  let c1_i32_939 : BitVec 32 := 1#32
  let v1503 : BitVec 32 := Scalar.muli v436 c1_i32_939
  let v1504 : BitVec 32 := Scalar.addi c0_i32_940 v1503
  v1504.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_305 : BitVec 32 := 8#32
  let v440 : BitVec 32 := Scalar.muli v344 c8_i32_305
  let c8_i32_126 : BitVec 32 := 8#32
  let v129 : BitVec 32 := Scalar.remsi v2 c8_i32_126
  let c1_i32_306 : BitVec 32 := 1#32
  let v441 : BitVec 32 := Scalar.addi v129 c1_i32_306
  let c7_i32_307 : BitVec 32 := 7#32
  let v442 : BitVec 32 := Scalar.addi v441 c7_i32_307
  let c8_i32_308 : BitVec 32 := 8#32
  let v443 : BitVec 32 := Scalar.remsi v442 c8_i32_308
  let v444 : BitVec 32 := Scalar.addi v440 v443
  let v445 : BitVec 1 := Scalar.cmpi .ne v444 v2
  let v446 : BitVec 32 := Scalar.extui v445
  let c0_i32_309 : BitVec 32 := 0#32
  let v447 : BitVec 1 := Scalar.cmpi .ne v446 c0_i32_309
  v447

def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_305 : BitVec 32 := 8#32
  let v440 : BitVec 32 := Scalar.muli v344 c8_i32_305
  let c8_i32_126 : BitVec 32 := 8#32
  let v129 : BitVec 32 := Scalar.remsi v2 c8_i32_126
  let c1_i32_306 : BitVec 32 := 1#32
  let v441 : BitVec 32 := Scalar.addi v129 c1_i32_306
  let c7_i32_307 : BitVec 32 := 7#32
  let v442 : BitVec 32 := Scalar.addi v441 c7_i32_307
  let c8_i32_308 : BitVec 32 := 8#32
  let v443 : BitVec 32 := Scalar.remsi v442 c8_i32_308
  let v444 : BitVec 32 := Scalar.addi v440 v443
  ![v444.toNat]
def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_305 : BitVec 32 := 8#32
  let v440 : BitVec 32 := Scalar.muli v344 c8_i32_305
  let c8_i32_126 : BitVec 32 := 8#32
  let v129 : BitVec 32 := Scalar.remsi v2 c8_i32_126
  let c1_i32_306 : BitVec 32 := 1#32
  let v441 : BitVec 32 := Scalar.addi v129 c1_i32_306
  let c7_i32_307 : BitVec 32 := 7#32
  let v442 : BitVec 32 := Scalar.addi v441 c7_i32_307
  let c8_i32_308 : BitVec 32 := 8#32
  let v443 : BitVec 32 := Scalar.remsi v442 c8_i32_308
  let v444 : BitVec 32 := Scalar.addi v440 v443
  let c64_i32_938 : BitVec 32 := 64#32
  let v1502 : BitVec 32 := Scalar.muli v444 c64_i32_938
  let c0_i32_943 : BitVec 32 := 0#32
  ![v1502.toNat, 0]
def k0_dev55 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_247 : BitVec 32 := 1#32
  let v342 : BitVec 32 := Scalar.addi v128 c1_i32_247
  let c2_i32_248 : BitVec 32 := 2#32
  let v343 : BitVec 32 := Scalar.addi v342 c2_i32_248
  let c4_i32_249 : BitVec 32 := 4#32
  let v344 : BitVec 32 := Scalar.remsi v343 c4_i32_249
  let c8_i32_305 : BitVec 32 := 8#32
  let v440 : BitVec 32 := Scalar.muli v344 c8_i32_305
  let c8_i32_126 : BitVec 32 := 8#32
  let v129 : BitVec 32 := Scalar.remsi v2 c8_i32_126
  let c1_i32_306 : BitVec 32 := 1#32
  let v441 : BitVec 32 := Scalar.addi v129 c1_i32_306
  let c7_i32_307 : BitVec 32 := 7#32
  let v442 : BitVec 32 := Scalar.addi v441 c7_i32_307
  let c8_i32_308 : BitVec 32 := 8#32
  let v443 : BitVec 32 := Scalar.remsi v442 c8_i32_308
  let v444 : BitVec 32 := Scalar.addi v440 v443
  let c1_i32_939 : BitVec 32 := 1#32
  let v1503 : BitVec 32 := Scalar.muli v444 c1_i32_939
  let v1504 : BitVec 32 := Scalar.addi c0_i32_940 v1503
  v1504.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_333 : BitVec 32 := 8#32
  let v490 : BitVec 32 := Scalar.muli v450 c8_i32_333
  let c8_i32_126 : BitVec 32 := 8#32
  let v129 : BitVec 32 := Scalar.remsi v2 c8_i32_126
  let c1_i32_334 : BitVec 32 := 1#32
  let v491 : BitVec 32 := Scalar.addi v129 c1_i32_334
  let c0_i32_335 : BitVec 32 := 0#32
  let v492 : BitVec 32 := Scalar.addi v491 c0_i32_335
  let c8_i32_336 : BitVec 32 := 8#32
  let v493 : BitVec 32 := Scalar.remsi v492 c8_i32_336
  let v494 : BitVec 32 := Scalar.addi v490 v493
  let v495 : BitVec 1 := Scalar.cmpi .ne v494 v2
  let v496 : BitVec 32 := Scalar.extui v495
  let c0_i32_337 : BitVec 32 := 0#32
  let v497 : BitVec 1 := Scalar.cmpi .ne v496 c0_i32_337
  v497

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_333 : BitVec 32 := 8#32
  let v490 : BitVec 32 := Scalar.muli v450 c8_i32_333
  let c8_i32_126 : BitVec 32 := 8#32
  let v129 : BitVec 32 := Scalar.remsi v2 c8_i32_126
  let c1_i32_334 : BitVec 32 := 1#32
  let v491 : BitVec 32 := Scalar.addi v129 c1_i32_334
  let c0_i32_335 : BitVec 32 := 0#32
  let v492 : BitVec 32 := Scalar.addi v491 c0_i32_335
  let c8_i32_336 : BitVec 32 := 8#32
  let v493 : BitVec 32 := Scalar.remsi v492 c8_i32_336
  let v494 : BitVec 32 := Scalar.addi v490 v493
  ![v494.toNat]
def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_333 : BitVec 32 := 8#32
  let v490 : BitVec 32 := Scalar.muli v450 c8_i32_333
  let c8_i32_126 : BitVec 32 := 8#32
  let v129 : BitVec 32 := Scalar.remsi v2 c8_i32_126
  let c1_i32_334 : BitVec 32 := 1#32
  let v491 : BitVec 32 := Scalar.addi v129 c1_i32_334
  let c0_i32_335 : BitVec 32 := 0#32
  let v492 : BitVec 32 := Scalar.addi v491 c0_i32_335
  let c8_i32_336 : BitVec 32 := 8#32
  let v493 : BitVec 32 := Scalar.remsi v492 c8_i32_336
  let v494 : BitVec 32 := Scalar.addi v490 v493
  let c64_i32_938 : BitVec 32 := 64#32
  let v1502 : BitVec 32 := Scalar.muli v494 c64_i32_938
  let c0_i32_943 : BitVec 32 := 0#32
  ![v1502.toNat, 0]
def k0_dev56 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_333 : BitVec 32 := 8#32
  let v490 : BitVec 32 := Scalar.muli v450 c8_i32_333
  let c8_i32_126 : BitVec 32 := 8#32
  let v129 : BitVec 32 := Scalar.remsi v2 c8_i32_126
  let c1_i32_334 : BitVec 32 := 1#32
  let v491 : BitVec 32 := Scalar.addi v129 c1_i32_334
  let c0_i32_335 : BitVec 32 := 0#32
  let v492 : BitVec 32 := Scalar.addi v491 c0_i32_335
  let c8_i32_336 : BitVec 32 := 8#32
  let v493 : BitVec 32 := Scalar.remsi v492 c8_i32_336
  let v494 : BitVec 32 := Scalar.addi v490 v493
  let c1_i32_939 : BitVec 32 := 1#32
  let v1503 : BitVec 32 := Scalar.muli v494 c1_i32_939
  let v1504 : BitVec 32 := Scalar.addi c0_i32_940 v1503
  v1504.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_338 : BitVec 32 := 8#32
  let v498 : BitVec 32 := Scalar.muli v450 c8_i32_338
  let c8_i32_126 : BitVec 32 := 8#32
  let v129 : BitVec 32 := Scalar.remsi v2 c8_i32_126
  let c1_i32_339 : BitVec 32 := 1#32
  let v499 : BitVec 32 := Scalar.addi v129 c1_i32_339
  let c1_i32_340 : BitVec 32 := 1#32
  let v500 : BitVec 32 := Scalar.addi v499 c1_i32_340
  let c8_i32_341 : BitVec 32 := 8#32
  let v501 : BitVec 32 := Scalar.remsi v500 c8_i32_341
  let v502 : BitVec 32 := Scalar.addi v498 v501
  let v503 : BitVec 1 := Scalar.cmpi .ne v502 v2
  let v504 : BitVec 32 := Scalar.extui v503
  let c0_i32_342 : BitVec 32 := 0#32
  let v505 : BitVec 1 := Scalar.cmpi .ne v504 c0_i32_342
  v505

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_338 : BitVec 32 := 8#32
  let v498 : BitVec 32 := Scalar.muli v450 c8_i32_338
  let c8_i32_126 : BitVec 32 := 8#32
  let v129 : BitVec 32 := Scalar.remsi v2 c8_i32_126
  let c1_i32_339 : BitVec 32 := 1#32
  let v499 : BitVec 32 := Scalar.addi v129 c1_i32_339
  let c1_i32_340 : BitVec 32 := 1#32
  let v500 : BitVec 32 := Scalar.addi v499 c1_i32_340
  let c8_i32_341 : BitVec 32 := 8#32
  let v501 : BitVec 32 := Scalar.remsi v500 c8_i32_341
  let v502 : BitVec 32 := Scalar.addi v498 v501
  ![v502.toNat]
def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_338 : BitVec 32 := 8#32
  let v498 : BitVec 32 := Scalar.muli v450 c8_i32_338
  let c8_i32_126 : BitVec 32 := 8#32
  let v129 : BitVec 32 := Scalar.remsi v2 c8_i32_126
  let c1_i32_339 : BitVec 32 := 1#32
  let v499 : BitVec 32 := Scalar.addi v129 c1_i32_339
  let c1_i32_340 : BitVec 32 := 1#32
  let v500 : BitVec 32 := Scalar.addi v499 c1_i32_340
  let c8_i32_341 : BitVec 32 := 8#32
  let v501 : BitVec 32 := Scalar.remsi v500 c8_i32_341
  let v502 : BitVec 32 := Scalar.addi v498 v501
  let c64_i32_938 : BitVec 32 := 64#32
  let v1502 : BitVec 32 := Scalar.muli v502 c64_i32_938
  let c0_i32_943 : BitVec 32 := 0#32
  ![v1502.toNat, 0]
def k0_dev57 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_338 : BitVec 32 := 8#32
  let v498 : BitVec 32 := Scalar.muli v450 c8_i32_338
  let c8_i32_126 : BitVec 32 := 8#32
  let v129 : BitVec 32 := Scalar.remsi v2 c8_i32_126
  let c1_i32_339 : BitVec 32 := 1#32
  let v499 : BitVec 32 := Scalar.addi v129 c1_i32_339
  let c1_i32_340 : BitVec 32 := 1#32
  let v500 : BitVec 32 := Scalar.addi v499 c1_i32_340
  let c8_i32_341 : BitVec 32 := 8#32
  let v501 : BitVec 32 := Scalar.remsi v500 c8_i32_341
  let v502 : BitVec 32 := Scalar.addi v498 v501
  let c1_i32_939 : BitVec 32 := 1#32
  let v1503 : BitVec 32 := Scalar.muli v502 c1_i32_939
  let v1504 : BitVec 32 := Scalar.addi c0_i32_940 v1503
  v1504.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_343 : BitVec 32 := 8#32
  let v506 : BitVec 32 := Scalar.muli v450 c8_i32_343
  let c8_i32_126 : BitVec 32 := 8#32
  let v129 : BitVec 32 := Scalar.remsi v2 c8_i32_126
  let c1_i32_344 : BitVec 32 := 1#32
  let v507 : BitVec 32 := Scalar.addi v129 c1_i32_344
  let c2_i32_345 : BitVec 32 := 2#32
  let v508 : BitVec 32 := Scalar.addi v507 c2_i32_345
  let c8_i32_346 : BitVec 32 := 8#32
  let v509 : BitVec 32 := Scalar.remsi v508 c8_i32_346
  let v510 : BitVec 32 := Scalar.addi v506 v509
  let v511 : BitVec 1 := Scalar.cmpi .ne v510 v2
  let v512 : BitVec 32 := Scalar.extui v511
  let c0_i32_347 : BitVec 32 := 0#32
  let v513 : BitVec 1 := Scalar.cmpi .ne v512 c0_i32_347
  v513

def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_343 : BitVec 32 := 8#32
  let v506 : BitVec 32 := Scalar.muli v450 c8_i32_343
  let c8_i32_126 : BitVec 32 := 8#32
  let v129 : BitVec 32 := Scalar.remsi v2 c8_i32_126
  let c1_i32_344 : BitVec 32 := 1#32
  let v507 : BitVec 32 := Scalar.addi v129 c1_i32_344
  let c2_i32_345 : BitVec 32 := 2#32
  let v508 : BitVec 32 := Scalar.addi v507 c2_i32_345
  let c8_i32_346 : BitVec 32 := 8#32
  let v509 : BitVec 32 := Scalar.remsi v508 c8_i32_346
  let v510 : BitVec 32 := Scalar.addi v506 v509
  ![v510.toNat]
def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_343 : BitVec 32 := 8#32
  let v506 : BitVec 32 := Scalar.muli v450 c8_i32_343
  let c8_i32_126 : BitVec 32 := 8#32
  let v129 : BitVec 32 := Scalar.remsi v2 c8_i32_126
  let c1_i32_344 : BitVec 32 := 1#32
  let v507 : BitVec 32 := Scalar.addi v129 c1_i32_344
  let c2_i32_345 : BitVec 32 := 2#32
  let v508 : BitVec 32 := Scalar.addi v507 c2_i32_345
  let c8_i32_346 : BitVec 32 := 8#32
  let v509 : BitVec 32 := Scalar.remsi v508 c8_i32_346
  let v510 : BitVec 32 := Scalar.addi v506 v509
  let c64_i32_938 : BitVec 32 := 64#32
  let v1502 : BitVec 32 := Scalar.muli v510 c64_i32_938
  let c0_i32_943 : BitVec 32 := 0#32
  ![v1502.toNat, 0]
def k0_dev58 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_343 : BitVec 32 := 8#32
  let v506 : BitVec 32 := Scalar.muli v450 c8_i32_343
  let c8_i32_126 : BitVec 32 := 8#32
  let v129 : BitVec 32 := Scalar.remsi v2 c8_i32_126
  let c1_i32_344 : BitVec 32 := 1#32
  let v507 : BitVec 32 := Scalar.addi v129 c1_i32_344
  let c2_i32_345 : BitVec 32 := 2#32
  let v508 : BitVec 32 := Scalar.addi v507 c2_i32_345
  let c8_i32_346 : BitVec 32 := 8#32
  let v509 : BitVec 32 := Scalar.remsi v508 c8_i32_346
  let v510 : BitVec 32 := Scalar.addi v506 v509
  let c1_i32_939 : BitVec 32 := 1#32
  let v1503 : BitVec 32 := Scalar.muli v510 c1_i32_939
  let v1504 : BitVec 32 := Scalar.addi c0_i32_940 v1503
  v1504.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_348 : BitVec 32 := 8#32
  let v514 : BitVec 32 := Scalar.muli v450 c8_i32_348
  let c8_i32_126 : BitVec 32 := 8#32
  let v129 : BitVec 32 := Scalar.remsi v2 c8_i32_126
  let c1_i32_349 : BitVec 32 := 1#32
  let v515 : BitVec 32 := Scalar.addi v129 c1_i32_349
  let c3_i32_350 : BitVec 32 := 3#32
  let v516 : BitVec 32 := Scalar.addi v515 c3_i32_350
  let c8_i32_351 : BitVec 32 := 8#32
  let v517 : BitVec 32 := Scalar.remsi v516 c8_i32_351
  let v518 : BitVec 32 := Scalar.addi v514 v517
  let v519 : BitVec 1 := Scalar.cmpi .ne v518 v2
  let v520 : BitVec 32 := Scalar.extui v519
  let c0_i32_352 : BitVec 32 := 0#32
  let v521 : BitVec 1 := Scalar.cmpi .ne v520 c0_i32_352
  v521

def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_348 : BitVec 32 := 8#32
  let v514 : BitVec 32 := Scalar.muli v450 c8_i32_348
  let c8_i32_126 : BitVec 32 := 8#32
  let v129 : BitVec 32 := Scalar.remsi v2 c8_i32_126
  let c1_i32_349 : BitVec 32 := 1#32
  let v515 : BitVec 32 := Scalar.addi v129 c1_i32_349
  let c3_i32_350 : BitVec 32 := 3#32
  let v516 : BitVec 32 := Scalar.addi v515 c3_i32_350
  let c8_i32_351 : BitVec 32 := 8#32
  let v517 : BitVec 32 := Scalar.remsi v516 c8_i32_351
  let v518 : BitVec 32 := Scalar.addi v514 v517
  ![v518.toNat]
def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_348 : BitVec 32 := 8#32
  let v514 : BitVec 32 := Scalar.muli v450 c8_i32_348
  let c8_i32_126 : BitVec 32 := 8#32
  let v129 : BitVec 32 := Scalar.remsi v2 c8_i32_126
  let c1_i32_349 : BitVec 32 := 1#32
  let v515 : BitVec 32 := Scalar.addi v129 c1_i32_349
  let c3_i32_350 : BitVec 32 := 3#32
  let v516 : BitVec 32 := Scalar.addi v515 c3_i32_350
  let c8_i32_351 : BitVec 32 := 8#32
  let v517 : BitVec 32 := Scalar.remsi v516 c8_i32_351
  let v518 : BitVec 32 := Scalar.addi v514 v517
  let c64_i32_938 : BitVec 32 := 64#32
  let v1502 : BitVec 32 := Scalar.muli v518 c64_i32_938
  let c0_i32_943 : BitVec 32 := 0#32
  ![v1502.toNat, 0]
def k0_dev59 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_348 : BitVec 32 := 8#32
  let v514 : BitVec 32 := Scalar.muli v450 c8_i32_348
  let c8_i32_126 : BitVec 32 := 8#32
  let v129 : BitVec 32 := Scalar.remsi v2 c8_i32_126
  let c1_i32_349 : BitVec 32 := 1#32
  let v515 : BitVec 32 := Scalar.addi v129 c1_i32_349
  let c3_i32_350 : BitVec 32 := 3#32
  let v516 : BitVec 32 := Scalar.addi v515 c3_i32_350
  let c8_i32_351 : BitVec 32 := 8#32
  let v517 : BitVec 32 := Scalar.remsi v516 c8_i32_351
  let v518 : BitVec 32 := Scalar.addi v514 v517
  let c1_i32_939 : BitVec 32 := 1#32
  let v1503 : BitVec 32 := Scalar.muli v518 c1_i32_939
  let v1504 : BitVec 32 := Scalar.addi c0_i32_940 v1503
  v1504.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_353 : BitVec 32 := 8#32
  let v522 : BitVec 32 := Scalar.muli v450 c8_i32_353
  let c8_i32_126 : BitVec 32 := 8#32
  let v129 : BitVec 32 := Scalar.remsi v2 c8_i32_126
  let c1_i32_354 : BitVec 32 := 1#32
  let v523 : BitVec 32 := Scalar.addi v129 c1_i32_354
  let c4_i32_355 : BitVec 32 := 4#32
  let v524 : BitVec 32 := Scalar.addi v523 c4_i32_355
  let c8_i32_356 : BitVec 32 := 8#32
  let v525 : BitVec 32 := Scalar.remsi v524 c8_i32_356
  let v526 : BitVec 32 := Scalar.addi v522 v525
  let v527 : BitVec 1 := Scalar.cmpi .ne v526 v2
  let v528 : BitVec 32 := Scalar.extui v527
  let c0_i32_357 : BitVec 32 := 0#32
  let v529 : BitVec 1 := Scalar.cmpi .ne v528 c0_i32_357
  v529

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_353 : BitVec 32 := 8#32
  let v522 : BitVec 32 := Scalar.muli v450 c8_i32_353
  let c8_i32_126 : BitVec 32 := 8#32
  let v129 : BitVec 32 := Scalar.remsi v2 c8_i32_126
  let c1_i32_354 : BitVec 32 := 1#32
  let v523 : BitVec 32 := Scalar.addi v129 c1_i32_354
  let c4_i32_355 : BitVec 32 := 4#32
  let v524 : BitVec 32 := Scalar.addi v523 c4_i32_355
  let c8_i32_356 : BitVec 32 := 8#32
  let v525 : BitVec 32 := Scalar.remsi v524 c8_i32_356
  let v526 : BitVec 32 := Scalar.addi v522 v525
  ![v526.toNat]
def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_353 : BitVec 32 := 8#32
  let v522 : BitVec 32 := Scalar.muli v450 c8_i32_353
  let c8_i32_126 : BitVec 32 := 8#32
  let v129 : BitVec 32 := Scalar.remsi v2 c8_i32_126
  let c1_i32_354 : BitVec 32 := 1#32
  let v523 : BitVec 32 := Scalar.addi v129 c1_i32_354
  let c4_i32_355 : BitVec 32 := 4#32
  let v524 : BitVec 32 := Scalar.addi v523 c4_i32_355
  let c8_i32_356 : BitVec 32 := 8#32
  let v525 : BitVec 32 := Scalar.remsi v524 c8_i32_356
  let v526 : BitVec 32 := Scalar.addi v522 v525
  let c64_i32_938 : BitVec 32 := 64#32
  let v1502 : BitVec 32 := Scalar.muli v526 c64_i32_938
  let c0_i32_943 : BitVec 32 := 0#32
  ![v1502.toNat, 0]
def k0_dev60 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_353 : BitVec 32 := 8#32
  let v522 : BitVec 32 := Scalar.muli v450 c8_i32_353
  let c8_i32_126 : BitVec 32 := 8#32
  let v129 : BitVec 32 := Scalar.remsi v2 c8_i32_126
  let c1_i32_354 : BitVec 32 := 1#32
  let v523 : BitVec 32 := Scalar.addi v129 c1_i32_354
  let c4_i32_355 : BitVec 32 := 4#32
  let v524 : BitVec 32 := Scalar.addi v523 c4_i32_355
  let c8_i32_356 : BitVec 32 := 8#32
  let v525 : BitVec 32 := Scalar.remsi v524 c8_i32_356
  let v526 : BitVec 32 := Scalar.addi v522 v525
  let c1_i32_939 : BitVec 32 := 1#32
  let v1503 : BitVec 32 := Scalar.muli v526 c1_i32_939
  let v1504 : BitVec 32 := Scalar.addi c0_i32_940 v1503
  v1504.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_358 : BitVec 32 := 8#32
  let v530 : BitVec 32 := Scalar.muli v450 c8_i32_358
  let c8_i32_126 : BitVec 32 := 8#32
  let v129 : BitVec 32 := Scalar.remsi v2 c8_i32_126
  let c1_i32_359 : BitVec 32 := 1#32
  let v531 : BitVec 32 := Scalar.addi v129 c1_i32_359
  let c5_i32_360 : BitVec 32 := 5#32
  let v532 : BitVec 32 := Scalar.addi v531 c5_i32_360
  let c8_i32_361 : BitVec 32 := 8#32
  let v533 : BitVec 32 := Scalar.remsi v532 c8_i32_361
  let v534 : BitVec 32 := Scalar.addi v530 v533
  let v535 : BitVec 1 := Scalar.cmpi .ne v534 v2
  let v536 : BitVec 32 := Scalar.extui v535
  let c0_i32_362 : BitVec 32 := 0#32
  let v537 : BitVec 1 := Scalar.cmpi .ne v536 c0_i32_362
  v537

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_358 : BitVec 32 := 8#32
  let v530 : BitVec 32 := Scalar.muli v450 c8_i32_358
  let c8_i32_126 : BitVec 32 := 8#32
  let v129 : BitVec 32 := Scalar.remsi v2 c8_i32_126
  let c1_i32_359 : BitVec 32 := 1#32
  let v531 : BitVec 32 := Scalar.addi v129 c1_i32_359
  let c5_i32_360 : BitVec 32 := 5#32
  let v532 : BitVec 32 := Scalar.addi v531 c5_i32_360
  let c8_i32_361 : BitVec 32 := 8#32
  let v533 : BitVec 32 := Scalar.remsi v532 c8_i32_361
  let v534 : BitVec 32 := Scalar.addi v530 v533
  ![v534.toNat]
def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_358 : BitVec 32 := 8#32
  let v530 : BitVec 32 := Scalar.muli v450 c8_i32_358
  let c8_i32_126 : BitVec 32 := 8#32
  let v129 : BitVec 32 := Scalar.remsi v2 c8_i32_126
  let c1_i32_359 : BitVec 32 := 1#32
  let v531 : BitVec 32 := Scalar.addi v129 c1_i32_359
  let c5_i32_360 : BitVec 32 := 5#32
  let v532 : BitVec 32 := Scalar.addi v531 c5_i32_360
  let c8_i32_361 : BitVec 32 := 8#32
  let v533 : BitVec 32 := Scalar.remsi v532 c8_i32_361
  let v534 : BitVec 32 := Scalar.addi v530 v533
  let c64_i32_938 : BitVec 32 := 64#32
  let v1502 : BitVec 32 := Scalar.muli v534 c64_i32_938
  let c0_i32_943 : BitVec 32 := 0#32
  ![v1502.toNat, 0]
def k0_dev61 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_358 : BitVec 32 := 8#32
  let v530 : BitVec 32 := Scalar.muli v450 c8_i32_358
  let c8_i32_126 : BitVec 32 := 8#32
  let v129 : BitVec 32 := Scalar.remsi v2 c8_i32_126
  let c1_i32_359 : BitVec 32 := 1#32
  let v531 : BitVec 32 := Scalar.addi v129 c1_i32_359
  let c5_i32_360 : BitVec 32 := 5#32
  let v532 : BitVec 32 := Scalar.addi v531 c5_i32_360
  let c8_i32_361 : BitVec 32 := 8#32
  let v533 : BitVec 32 := Scalar.remsi v532 c8_i32_361
  let v534 : BitVec 32 := Scalar.addi v530 v533
  let c1_i32_939 : BitVec 32 := 1#32
  let v1503 : BitVec 32 := Scalar.muli v534 c1_i32_939
  let v1504 : BitVec 32 := Scalar.addi c0_i32_940 v1503
  v1504.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_363 : BitVec 32 := 8#32
  let v538 : BitVec 32 := Scalar.muli v450 c8_i32_363
  let c8_i32_126 : BitVec 32 := 8#32
  let v129 : BitVec 32 := Scalar.remsi v2 c8_i32_126
  let c1_i32_364 : BitVec 32 := 1#32
  let v539 : BitVec 32 := Scalar.addi v129 c1_i32_364
  let c6_i32_365 : BitVec 32 := 6#32
  let v540 : BitVec 32 := Scalar.addi v539 c6_i32_365
  let c8_i32_366 : BitVec 32 := 8#32
  let v541 : BitVec 32 := Scalar.remsi v540 c8_i32_366
  let v542 : BitVec 32 := Scalar.addi v538 v541
  let v543 : BitVec 1 := Scalar.cmpi .ne v542 v2
  let v544 : BitVec 32 := Scalar.extui v543
  let c0_i32_367 : BitVec 32 := 0#32
  let v545 : BitVec 1 := Scalar.cmpi .ne v544 c0_i32_367
  v545

def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_363 : BitVec 32 := 8#32
  let v538 : BitVec 32 := Scalar.muli v450 c8_i32_363
  let c8_i32_126 : BitVec 32 := 8#32
  let v129 : BitVec 32 := Scalar.remsi v2 c8_i32_126
  let c1_i32_364 : BitVec 32 := 1#32
  let v539 : BitVec 32 := Scalar.addi v129 c1_i32_364
  let c6_i32_365 : BitVec 32 := 6#32
  let v540 : BitVec 32 := Scalar.addi v539 c6_i32_365
  let c8_i32_366 : BitVec 32 := 8#32
  let v541 : BitVec 32 := Scalar.remsi v540 c8_i32_366
  let v542 : BitVec 32 := Scalar.addi v538 v541
  ![v542.toNat]
def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_363 : BitVec 32 := 8#32
  let v538 : BitVec 32 := Scalar.muli v450 c8_i32_363
  let c8_i32_126 : BitVec 32 := 8#32
  let v129 : BitVec 32 := Scalar.remsi v2 c8_i32_126
  let c1_i32_364 : BitVec 32 := 1#32
  let v539 : BitVec 32 := Scalar.addi v129 c1_i32_364
  let c6_i32_365 : BitVec 32 := 6#32
  let v540 : BitVec 32 := Scalar.addi v539 c6_i32_365
  let c8_i32_366 : BitVec 32 := 8#32
  let v541 : BitVec 32 := Scalar.remsi v540 c8_i32_366
  let v542 : BitVec 32 := Scalar.addi v538 v541
  let c64_i32_938 : BitVec 32 := 64#32
  let v1502 : BitVec 32 := Scalar.muli v542 c64_i32_938
  let c0_i32_943 : BitVec 32 := 0#32
  ![v1502.toNat, 0]
def k0_dev62 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_363 : BitVec 32 := 8#32
  let v538 : BitVec 32 := Scalar.muli v450 c8_i32_363
  let c8_i32_126 : BitVec 32 := 8#32
  let v129 : BitVec 32 := Scalar.remsi v2 c8_i32_126
  let c1_i32_364 : BitVec 32 := 1#32
  let v539 : BitVec 32 := Scalar.addi v129 c1_i32_364
  let c6_i32_365 : BitVec 32 := 6#32
  let v540 : BitVec 32 := Scalar.addi v539 c6_i32_365
  let c8_i32_366 : BitVec 32 := 8#32
  let v541 : BitVec 32 := Scalar.remsi v540 c8_i32_366
  let v542 : BitVec 32 := Scalar.addi v538 v541
  let c1_i32_939 : BitVec 32 := 1#32
  let v1503 : BitVec 32 := Scalar.muli v542 c1_i32_939
  let v1504 : BitVec 32 := Scalar.addi c0_i32_940 v1503
  v1504.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_368 : BitVec 32 := 8#32
  let v546 : BitVec 32 := Scalar.muli v450 c8_i32_368
  let c8_i32_126 : BitVec 32 := 8#32
  let v129 : BitVec 32 := Scalar.remsi v2 c8_i32_126
  let c1_i32_369 : BitVec 32 := 1#32
  let v547 : BitVec 32 := Scalar.addi v129 c1_i32_369
  let c7_i32_370 : BitVec 32 := 7#32
  let v548 : BitVec 32 := Scalar.addi v547 c7_i32_370
  let c8_i32_371 : BitVec 32 := 8#32
  let v549 : BitVec 32 := Scalar.remsi v548 c8_i32_371
  let v550 : BitVec 32 := Scalar.addi v546 v549
  let v551 : BitVec 1 := Scalar.cmpi .ne v550 v2
  let v552 : BitVec 32 := Scalar.extui v551
  let c0_i32_372 : BitVec 32 := 0#32
  let v553 : BitVec 1 := Scalar.cmpi .ne v552 c0_i32_372
  v553

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_368 : BitVec 32 := 8#32
  let v546 : BitVec 32 := Scalar.muli v450 c8_i32_368
  let c8_i32_126 : BitVec 32 := 8#32
  let v129 : BitVec 32 := Scalar.remsi v2 c8_i32_126
  let c1_i32_369 : BitVec 32 := 1#32
  let v547 : BitVec 32 := Scalar.addi v129 c1_i32_369
  let c7_i32_370 : BitVec 32 := 7#32
  let v548 : BitVec 32 := Scalar.addi v547 c7_i32_370
  let c8_i32_371 : BitVec 32 := 8#32
  let v549 : BitVec 32 := Scalar.remsi v548 c8_i32_371
  let v550 : BitVec 32 := Scalar.addi v546 v549
  ![v550.toNat]
def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_941 : BitVec 32 := 0#32
  let c0_i32_942 : BitVec 32 := 0#32
  ![v2.toNat, 0, 0]
def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_368 : BitVec 32 := 8#32
  let v546 : BitVec 32 := Scalar.muli v450 c8_i32_368
  let c8_i32_126 : BitVec 32 := 8#32
  let v129 : BitVec 32 := Scalar.remsi v2 c8_i32_126
  let c1_i32_369 : BitVec 32 := 1#32
  let v547 : BitVec 32 := Scalar.addi v129 c1_i32_369
  let c7_i32_370 : BitVec 32 := 7#32
  let v548 : BitVec 32 := Scalar.addi v547 c7_i32_370
  let c8_i32_371 : BitVec 32 := 8#32
  let v549 : BitVec 32 := Scalar.remsi v548 c8_i32_371
  let v550 : BitVec 32 := Scalar.addi v546 v549
  let c64_i32_938 : BitVec 32 := 64#32
  let v1502 : BitVec 32 := Scalar.muli v550 c64_i32_938
  let c0_i32_943 : BitVec 32 := 0#32
  ![v1502.toNat, 0]
def k0_dev63 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_125 : BitVec 32 := 8#32
  let v128 : BitVec 32 := Scalar.divsi v2 c8_i32_125
  let c1_i32_310 : BitVec 32 := 1#32
  let v448 : BitVec 32 := Scalar.addi v128 c1_i32_310
  let c3_i32_311 : BitVec 32 := 3#32
  let v449 : BitVec 32 := Scalar.addi v448 c3_i32_311
  let c4_i32_312 : BitVec 32 := 4#32
  let v450 : BitVec 32 := Scalar.remsi v449 c4_i32_312
  let c8_i32_368 : BitVec 32 := 8#32
  let v546 : BitVec 32 := Scalar.muli v450 c8_i32_368
  let c8_i32_126 : BitVec 32 := 8#32
  let v129 : BitVec 32 := Scalar.remsi v2 c8_i32_126
  let c1_i32_369 : BitVec 32 := 1#32
  let v547 : BitVec 32 := Scalar.addi v129 c1_i32_369
  let c7_i32_370 : BitVec 32 := 7#32
  let v548 : BitVec 32 := Scalar.addi v547 c7_i32_370
  let c8_i32_371 : BitVec 32 := 8#32
  let v549 : BitVec 32 := Scalar.remsi v548 c8_i32_371
  let v550 : BitVec 32 := Scalar.addi v546 v549
  let c1_i32_939 : BitVec 32 := 1#32
  let v1503 : BitVec 32 := Scalar.muli v550 c1_i32_939
  let v1504 : BitVec 32 := Scalar.addi c0_i32_940 v1503
  v1504.toNat
def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v554 : BitVec 32 := Scalar.muli v2 c64_i32
  let v555 : Index := Scalar.indexCast v554
  let c0_373 : Index := 0#32
  ![v555.toNat, 0]
def k0_off133 (d0 : Dev nD) (c31_i32 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v64 : BitVec 32 := Scalar.addi v2 c31_i32
  let c32_i32_31 : BitVec 32 := 32#32
  let v65 : BitVec 32 := Scalar.remsi v64 c32_i32_31
  ![v65.toNat]
def k0_off134 (d0 : Dev nD) (c31_i32 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v64 : BitVec 32 := Scalar.addi v2 c31_i32
  let c32_i32_31 : BitVec 32 := 32#32
  let v65 : BitVec 32 := Scalar.remsi v64 c32_i32_31
  let c0_i32_376 : BitVec 32 := 0#32
  let c0_i32_377 : BitVec 32 := 0#32
  ![v65.toNat, 0, 0]
def k0_off135 (d0 : Dev nD) (c31_i32 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v64 : BitVec 32 := Scalar.addi v2 c31_i32
  let c32_i32_31 : BitVec 32 := 32#32
  let v65 : BitVec 32 := Scalar.remsi v64 c32_i32_31
  let v606 : Index := Scalar.indexCast v65
  let c0_406 : Index := 0#32
  let c0_407 : Index := 0#32
  ![v606.toNat, 0, 0]
def k0_off136 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_564 : BitVec 32 := 64#32
  let v879 : BitVec 32 := Scalar.muli v2 c64_i32_564
  let c0_i32_567 : BitVec 32 := 0#32
  ![v879.toNat, 0]
def k0_dev64 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_565 : BitVec 32 := 1#32
  let v880 : BitVec 32 := Scalar.muli v5 c1_i32_565
  let v881 : BitVec 32 := Scalar.addi c0_i32_566 v880
  v881.toNat
def k0_dev65 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v6 : BitVec 32 := Scalar.addi v2 c2_i32
  let c32_i32_2 : BitVec 32 := 32#32
  let v7 : BitVec 32 := Scalar.remsi v6 c32_i32_2
  let c1_i32_569 : BitVec 32 := 1#32
  let v888 : BitVec 32 := Scalar.muli v7 c1_i32_569
  let v889 : BitVec 32 := Scalar.addi c0_i32_570 v888
  v889.toNat
def k0_dev66 (d0 : Dev nD) : Nat :=
  let c0_i32_574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v8 : BitVec 32 := Scalar.addi v2 c3_i32
  let c32_i32_3 : BitVec 32 := 32#32
  let v9 : BitVec 32 := Scalar.remsi v8 c32_i32_3
  let c1_i32_573 : BitVec 32 := 1#32
  let v896 : BitVec 32 := Scalar.muli v9 c1_i32_573
  let v897 : BitVec 32 := Scalar.addi c0_i32_574 v896
  v897.toNat
def k0_dev67 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.addi v2 c4_i32
  let c32_i32_4 : BitVec 32 := 32#32
  let v11 : BitVec 32 := Scalar.remsi v10 c32_i32_4
  let c1_i32_577 : BitVec 32 := 1#32
  let v904 : BitVec 32 := Scalar.muli v11 c1_i32_577
  let v905 : BitVec 32 := Scalar.addi c0_i32_578 v904
  v905.toNat
def k0_dev68 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v12 : BitVec 32 := Scalar.addi v2 c5_i32
  let c32_i32_5 : BitVec 32 := 32#32
  let v13 : BitVec 32 := Scalar.remsi v12 c32_i32_5
  let c1_i32_581 : BitVec 32 := 1#32
  let v912 : BitVec 32 := Scalar.muli v13 c1_i32_581
  let v913 : BitVec 32 := Scalar.addi c0_i32_582 v912
  v913.toNat
def k0_dev69 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v14 : BitVec 32 := Scalar.addi v2 c6_i32
  let c32_i32_6 : BitVec 32 := 32#32
  let v15 : BitVec 32 := Scalar.remsi v14 c32_i32_6
  let c1_i32_585 : BitVec 32 := 1#32
  let v920 : BitVec 32 := Scalar.muli v15 c1_i32_585
  let v921 : BitVec 32 := Scalar.addi c0_i32_586 v920
  v921.toNat
def k0_dev70 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v16 : BitVec 32 := Scalar.addi v2 c7_i32
  let c32_i32_7 : BitVec 32 := 32#32
  let v17 : BitVec 32 := Scalar.remsi v16 c32_i32_7
  let c1_i32_589 : BitVec 32 := 1#32
  let v928 : BitVec 32 := Scalar.muli v17 c1_i32_589
  let v929 : BitVec 32 := Scalar.addi c0_i32_590 v928
  v929.toNat
def k0_dev71 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v18 : BitVec 32 := Scalar.addi v2 c8_i32
  let c32_i32_8 : BitVec 32 := 32#32
  let v19 : BitVec 32 := Scalar.remsi v18 c32_i32_8
  let c1_i32_593 : BitVec 32 := 1#32
  let v936 : BitVec 32 := Scalar.muli v19 c1_i32_593
  let v937 : BitVec 32 := Scalar.addi c0_i32_594 v936
  v937.toNat
def k0_dev72 (d0 : Dev nD) : Nat :=
  let c0_i32_598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v20 : BitVec 32 := Scalar.addi v2 c9_i32
  let c32_i32_9 : BitVec 32 := 32#32
  let v21 : BitVec 32 := Scalar.remsi v20 c32_i32_9
  let c1_i32_597 : BitVec 32 := 1#32
  let v944 : BitVec 32 := Scalar.muli v21 c1_i32_597
  let v945 : BitVec 32 := Scalar.addi c0_i32_598 v944
  v945.toNat
def k0_dev73 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v22 : BitVec 32 := Scalar.addi v2 c10_i32
  let c32_i32_10 : BitVec 32 := 32#32
  let v23 : BitVec 32 := Scalar.remsi v22 c32_i32_10
  let c1_i32_601 : BitVec 32 := 1#32
  let v952 : BitVec 32 := Scalar.muli v23 c1_i32_601
  let v953 : BitVec 32 := Scalar.addi c0_i32_602 v952
  v953.toNat
def k0_dev74 (d0 : Dev nD) : Nat :=
  let c0_i32_606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v24 : BitVec 32 := Scalar.addi v2 c11_i32
  let c32_i32_11 : BitVec 32 := 32#32
  let v25 : BitVec 32 := Scalar.remsi v24 c32_i32_11
  let c1_i32_605 : BitVec 32 := 1#32
  let v960 : BitVec 32 := Scalar.muli v25 c1_i32_605
  let v961 : BitVec 32 := Scalar.addi c0_i32_606 v960
  v961.toNat
def k0_dev75 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v26 : BitVec 32 := Scalar.addi v2 c12_i32
  let c32_i32_12 : BitVec 32 := 32#32
  let v27 : BitVec 32 := Scalar.remsi v26 c32_i32_12
  let c1_i32_609 : BitVec 32 := 1#32
  let v968 : BitVec 32 := Scalar.muli v27 c1_i32_609
  let v969 : BitVec 32 := Scalar.addi c0_i32_610 v968
  v969.toNat
def k0_dev76 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v28 : BitVec 32 := Scalar.addi v2 c13_i32
  let c32_i32_13 : BitVec 32 := 32#32
  let v29 : BitVec 32 := Scalar.remsi v28 c32_i32_13
  let c1_i32_613 : BitVec 32 := 1#32
  let v976 : BitVec 32 := Scalar.muli v29 c1_i32_613
  let v977 : BitVec 32 := Scalar.addi c0_i32_614 v976
  v977.toNat
def k0_dev77 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v30 : BitVec 32 := Scalar.addi v2 c14_i32
  let c32_i32_14 : BitVec 32 := 32#32
  let v31 : BitVec 32 := Scalar.remsi v30 c32_i32_14
  let c1_i32_617 : BitVec 32 := 1#32
  let v984 : BitVec 32 := Scalar.muli v31 c1_i32_617
  let v985 : BitVec 32 := Scalar.addi c0_i32_618 v984
  v985.toNat
def k0_dev78 (d0 : Dev nD) : Nat :=
  let c0_i32_622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v32 : BitVec 32 := Scalar.addi v2 c15_i32
  let c32_i32_15 : BitVec 32 := 32#32
  let v33 : BitVec 32 := Scalar.remsi v32 c32_i32_15
  let c1_i32_621 : BitVec 32 := 1#32
  let v992 : BitVec 32 := Scalar.muli v33 c1_i32_621
  let v993 : BitVec 32 := Scalar.addi c0_i32_622 v992
  v993.toNat
def k0_dev79 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v34 : BitVec 32 := Scalar.addi v2 c16_i32
  let c32_i32_16 : BitVec 32 := 32#32
  let v35 : BitVec 32 := Scalar.remsi v34 c32_i32_16
  let c1_i32_625 : BitVec 32 := 1#32
  let v1000 : BitVec 32 := Scalar.muli v35 c1_i32_625
  let v1001 : BitVec 32 := Scalar.addi c0_i32_626 v1000
  v1001.toNat
def k0_dev80 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v36 : BitVec 32 := Scalar.addi v2 c17_i32
  let c32_i32_17 : BitVec 32 := 32#32
  let v37 : BitVec 32 := Scalar.remsi v36 c32_i32_17
  let c1_i32_629 : BitVec 32 := 1#32
  let v1008 : BitVec 32 := Scalar.muli v37 c1_i32_629
  let v1009 : BitVec 32 := Scalar.addi c0_i32_630 v1008
  v1009.toNat
def k0_dev81 (d0 : Dev nD) : Nat :=
  let c0_i32_634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v38 : BitVec 32 := Scalar.addi v2 c18_i32
  let c32_i32_18 : BitVec 32 := 32#32
  let v39 : BitVec 32 := Scalar.remsi v38 c32_i32_18
  let c1_i32_633 : BitVec 32 := 1#32
  let v1016 : BitVec 32 := Scalar.muli v39 c1_i32_633
  let v1017 : BitVec 32 := Scalar.addi c0_i32_634 v1016
  v1017.toNat
def k0_dev82 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v40 : BitVec 32 := Scalar.addi v2 c19_i32
  let c32_i32_19 : BitVec 32 := 32#32
  let v41 : BitVec 32 := Scalar.remsi v40 c32_i32_19
  let c1_i32_637 : BitVec 32 := 1#32
  let v1024 : BitVec 32 := Scalar.muli v41 c1_i32_637
  let v1025 : BitVec 32 := Scalar.addi c0_i32_638 v1024
  v1025.toNat
def k0_dev83 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v42 : BitVec 32 := Scalar.addi v2 c20_i32
  let c32_i32_20 : BitVec 32 := 32#32
  let v43 : BitVec 32 := Scalar.remsi v42 c32_i32_20
  let c1_i32_641 : BitVec 32 := 1#32
  let v1032 : BitVec 32 := Scalar.muli v43 c1_i32_641
  let v1033 : BitVec 32 := Scalar.addi c0_i32_642 v1032
  v1033.toNat
def k0_dev84 (d0 : Dev nD) : Nat :=
  let c0_i32_646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v44 : BitVec 32 := Scalar.addi v2 c21_i32
  let c32_i32_21 : BitVec 32 := 32#32
  let v45 : BitVec 32 := Scalar.remsi v44 c32_i32_21
  let c1_i32_645 : BitVec 32 := 1#32
  let v1040 : BitVec 32 := Scalar.muli v45 c1_i32_645
  let v1041 : BitVec 32 := Scalar.addi c0_i32_646 v1040
  v1041.toNat
def k0_dev85 (d0 : Dev nD) : Nat :=
  let c0_i32_650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v46 : BitVec 32 := Scalar.addi v2 c22_i32
  let c32_i32_22 : BitVec 32 := 32#32
  let v47 : BitVec 32 := Scalar.remsi v46 c32_i32_22
  let c1_i32_649 : BitVec 32 := 1#32
  let v1048 : BitVec 32 := Scalar.muli v47 c1_i32_649
  let v1049 : BitVec 32 := Scalar.addi c0_i32_650 v1048
  v1049.toNat
def k0_dev86 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v48 : BitVec 32 := Scalar.addi v2 c23_i32
  let c32_i32_23 : BitVec 32 := 32#32
  let v49 : BitVec 32 := Scalar.remsi v48 c32_i32_23
  let c1_i32_653 : BitVec 32 := 1#32
  let v1056 : BitVec 32 := Scalar.muli v49 c1_i32_653
  let v1057 : BitVec 32 := Scalar.addi c0_i32_654 v1056
  v1057.toNat
def k0_dev87 (d0 : Dev nD) : Nat :=
  let c0_i32_658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v50 : BitVec 32 := Scalar.addi v2 c24_i32
  let c32_i32_24 : BitVec 32 := 32#32
  let v51 : BitVec 32 := Scalar.remsi v50 c32_i32_24
  let c1_i32_657 : BitVec 32 := 1#32
  let v1064 : BitVec 32 := Scalar.muli v51 c1_i32_657
  let v1065 : BitVec 32 := Scalar.addi c0_i32_658 v1064
  v1065.toNat
def k0_dev88 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v52 : BitVec 32 := Scalar.addi v2 c25_i32
  let c32_i32_25 : BitVec 32 := 32#32
  let v53 : BitVec 32 := Scalar.remsi v52 c32_i32_25
  let c1_i32_661 : BitVec 32 := 1#32
  let v1072 : BitVec 32 := Scalar.muli v53 c1_i32_661
  let v1073 : BitVec 32 := Scalar.addi c0_i32_662 v1072
  v1073.toNat
def k0_dev89 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v54 : BitVec 32 := Scalar.addi v2 c26_i32
  let c32_i32_26 : BitVec 32 := 32#32
  let v55 : BitVec 32 := Scalar.remsi v54 c32_i32_26
  let c1_i32_665 : BitVec 32 := 1#32
  let v1080 : BitVec 32 := Scalar.muli v55 c1_i32_665
  let v1081 : BitVec 32 := Scalar.addi c0_i32_666 v1080
  v1081.toNat
def k0_dev90 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v56 : BitVec 32 := Scalar.addi v2 c27_i32
  let c32_i32_27 : BitVec 32 := 32#32
  let v57 : BitVec 32 := Scalar.remsi v56 c32_i32_27
  let c1_i32_669 : BitVec 32 := 1#32
  let v1088 : BitVec 32 := Scalar.muli v57 c1_i32_669
  let v1089 : BitVec 32 := Scalar.addi c0_i32_670 v1088
  v1089.toNat
def k0_dev91 (d0 : Dev nD) : Nat :=
  let c0_i32_674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v58 : BitVec 32 := Scalar.addi v2 c28_i32
  let c32_i32_28 : BitVec 32 := 32#32
  let v59 : BitVec 32 := Scalar.remsi v58 c32_i32_28
  let c1_i32_673 : BitVec 32 := 1#32
  let v1096 : BitVec 32 := Scalar.muli v59 c1_i32_673
  let v1097 : BitVec 32 := Scalar.addi c0_i32_674 v1096
  v1097.toNat
def k0_dev92 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v60 : BitVec 32 := Scalar.addi v2 c29_i32
  let c32_i32_29 : BitVec 32 := 32#32
  let v61 : BitVec 32 := Scalar.remsi v60 c32_i32_29
  let c1_i32_677 : BitVec 32 := 1#32
  let v1104 : BitVec 32 := Scalar.muli v61 c1_i32_677
  let v1105 : BitVec 32 := Scalar.addi c0_i32_678 v1104
  v1105.toNat
def k0_dev93 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v62 : BitVec 32 := Scalar.addi v2 c30_i32
  let c32_i32_30 : BitVec 32 := 32#32
  let v63 : BitVec 32 := Scalar.remsi v62 c32_i32_30
  let c1_i32_681 : BitVec 32 := 1#32
  let v1112 : BitVec 32 := Scalar.muli v63 c1_i32_681
  let v1113 : BitVec 32 := Scalar.addi c0_i32_682 v1112
  v1113.toNat
def k0_dev94 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v64 : BitVec 32 := Scalar.addi v2 c31_i32
  let c32_i32_31 : BitVec 32 := 32#32
  let v65 : BitVec 32 := Scalar.remsi v64 c32_i32_31
  let c1_i32_685 : BitVec 32 := 1#32
  let v1120 : BitVec 32 := Scalar.muli v65 c1_i32_685
  let v1121 : BitVec 32 := Scalar.addi c0_i32_686 v1120
  v1121.toNat
def k0_off138 (d0 : Dev nD) (c31_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v64 : BitVec 32 := Scalar.addi v2 c31_i32
  let c32_i32_31 : BitVec 32 := 32#32
  let v65 : BitVec 32 := Scalar.remsi v64 c32_i32_31
  let c64_i32_688 : BitVec 32 := 64#32
  let v1127 : BitVec 32 := Scalar.muli v65 c64_i32_688
  let c0_i32_691 : BitVec 32 := 0#32
  ![v1127.toNat, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_812 : BitVec 32 := 0#32
  let v1313 : BitVec 1 := Scalar.cmpi .ne v2 c0_i32_812
  let v1314 : BitVec 32 := Scalar.extui v1313
  let c0_i32_813 : BitVec 32 := 0#32
  let v1315 : BitVec 1 := Scalar.cmpi .ne v1314 c0_i32_813
  v1315

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_943 : BitVec 32 := 0#32
  let c0_i32_944 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_814 : BitVec 32 := 1#32
  let v1316 : BitVec 1 := Scalar.cmpi .ne v2 c1_i32_814
  let v1317 : BitVec 32 := Scalar.extui v1316
  let c0_i32_815 : BitVec 32 := 0#32
  let v1318 : BitVec 1 := Scalar.cmpi .ne v1317 c0_i32_815
  v1318

def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_943 : BitVec 32 := 0#32
  let c0_i32_944 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_816 : BitVec 32 := 2#32
  let v1319 : BitVec 1 := Scalar.cmpi .ne v2 c2_i32_816
  let v1320 : BitVec 32 := Scalar.extui v1319
  let c0_i32_817 : BitVec 32 := 0#32
  let v1321 : BitVec 1 := Scalar.cmpi .ne v1320 c0_i32_817
  v1321

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_818 : BitVec 32 := 3#32
  let v1322 : BitVec 1 := Scalar.cmpi .ne v2 c3_i32_818
  let v1323 : BitVec 32 := Scalar.extui v1322
  let c0_i32_819 : BitVec 32 := 0#32
  let v1324 : BitVec 1 := Scalar.cmpi .ne v1323 c0_i32_819
  v1324

def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_820 : BitVec 32 := 4#32
  let v1325 : BitVec 1 := Scalar.cmpi .ne v2 c4_i32_820
  let v1326 : BitVec 32 := Scalar.extui v1325
  let c0_i32_821 : BitVec 32 := 0#32
  let v1327 : BitVec 1 := Scalar.cmpi .ne v1326 c0_i32_821
  v1327

def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_822 : BitVec 32 := 5#32
  let v1328 : BitVec 1 := Scalar.cmpi .ne v2 c5_i32_822
  let v1329 : BitVec 32 := Scalar.extui v1328
  let c0_i32_823 : BitVec 32 := 0#32
  let v1330 : BitVec 1 := Scalar.cmpi .ne v1329 c0_i32_823
  v1330

def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_824 : BitVec 32 := 6#32
  let v1331 : BitVec 1 := Scalar.cmpi .ne v2 c6_i32_824
  let v1332 : BitVec 32 := Scalar.extui v1331
  let c0_i32_825 : BitVec 32 := 0#32
  let v1333 : BitVec 1 := Scalar.cmpi .ne v1332 c0_i32_825
  v1333

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_826 : BitVec 32 := 7#32
  let v1334 : BitVec 1 := Scalar.cmpi .ne v2 c7_i32_826
  let v1335 : BitVec 32 := Scalar.extui v1334
  let c0_i32_827 : BitVec 32 := 0#32
  let v1336 : BitVec 1 := Scalar.cmpi .ne v1335 c0_i32_827
  v1336

def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_828 : BitVec 32 := 8#32
  let v1337 : BitVec 1 := Scalar.cmpi .ne v2 c8_i32_828
  let v1338 : BitVec 32 := Scalar.extui v1337
  let c0_i32_829 : BitVec 32 := 0#32
  let v1339 : BitVec 1 := Scalar.cmpi .ne v1338 c0_i32_829
  v1339

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_943 : BitVec 32 := 0#32
  let c0_i32_944 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_830 : BitVec 32 := 9#32
  let v1340 : BitVec 1 := Scalar.cmpi .ne v2 c9_i32_830
  let v1341 : BitVec 32 := Scalar.extui v1340
  let c0_i32_831 : BitVec 32 := 0#32
  let v1342 : BitVec 1 := Scalar.cmpi .ne v1341 c0_i32_831
  v1342

def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_832 : BitVec 32 := 10#32
  let v1343 : BitVec 1 := Scalar.cmpi .ne v2 c10_i32_832
  let v1344 : BitVec 32 := Scalar.extui v1343
  let c0_i32_833 : BitVec 32 := 0#32
  let v1345 : BitVec 1 := Scalar.cmpi .ne v1344 c0_i32_833
  v1345

def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_834 : BitVec 32 := 11#32
  let v1346 : BitVec 1 := Scalar.cmpi .ne v2 c11_i32_834
  let v1347 : BitVec 32 := Scalar.extui v1346
  let c0_i32_835 : BitVec 32 := 0#32
  let v1348 : BitVec 1 := Scalar.cmpi .ne v1347 c0_i32_835
  v1348

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_836 : BitVec 32 := 12#32
  let v1349 : BitVec 1 := Scalar.cmpi .ne v2 c12_i32_836
  let v1350 : BitVec 32 := Scalar.extui v1349
  let c0_i32_837 : BitVec 32 := 0#32
  let v1351 : BitVec 1 := Scalar.cmpi .ne v1350 c0_i32_837
  v1351

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_838 : BitVec 32 := 13#32
  let v1352 : BitVec 1 := Scalar.cmpi .ne v2 c13_i32_838
  let v1353 : BitVec 32 := Scalar.extui v1352
  let c0_i32_839 : BitVec 32 := 0#32
  let v1354 : BitVec 1 := Scalar.cmpi .ne v1353 c0_i32_839
  v1354

def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_840 : BitVec 32 := 14#32
  let v1355 : BitVec 1 := Scalar.cmpi .ne v2 c14_i32_840
  let v1356 : BitVec 32 := Scalar.extui v1355
  let c0_i32_841 : BitVec 32 := 0#32
  let v1357 : BitVec 1 := Scalar.cmpi .ne v1356 c0_i32_841
  v1357

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_842 : BitVec 32 := 15#32
  let v1358 : BitVec 1 := Scalar.cmpi .ne v2 c15_i32_842
  let v1359 : BitVec 32 := Scalar.extui v1358
  let c0_i32_843 : BitVec 32 := 0#32
  let v1360 : BitVec 1 := Scalar.cmpi .ne v1359 c0_i32_843
  v1360

def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_844 : BitVec 32 := 16#32
  let v1361 : BitVec 1 := Scalar.cmpi .ne v2 c16_i32_844
  let v1362 : BitVec 32 := Scalar.extui v1361
  let c0_i32_845 : BitVec 32 := 0#32
  let v1363 : BitVec 1 := Scalar.cmpi .ne v1362 c0_i32_845
  v1363

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_846 : BitVec 32 := 17#32
  let v1364 : BitVec 1 := Scalar.cmpi .ne v2 c17_i32_846
  let v1365 : BitVec 32 := Scalar.extui v1364
  let c0_i32_847 : BitVec 32 := 0#32
  let v1366 : BitVec 1 := Scalar.cmpi .ne v1365 c0_i32_847
  v1366

def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_848 : BitVec 32 := 18#32
  let v1367 : BitVec 1 := Scalar.cmpi .ne v2 c18_i32_848
  let v1368 : BitVec 32 := Scalar.extui v1367
  let c0_i32_849 : BitVec 32 := 0#32
  let v1369 : BitVec 1 := Scalar.cmpi .ne v1368 c0_i32_849
  v1369

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_850 : BitVec 32 := 19#32
  let v1370 : BitVec 1 := Scalar.cmpi .ne v2 c19_i32_850
  let v1371 : BitVec 32 := Scalar.extui v1370
  let c0_i32_851 : BitVec 32 := 0#32
  let v1372 : BitVec 1 := Scalar.cmpi .ne v1371 c0_i32_851
  v1372

def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_852 : BitVec 32 := 20#32
  let v1373 : BitVec 1 := Scalar.cmpi .ne v2 c20_i32_852
  let v1374 : BitVec 32 := Scalar.extui v1373
  let c0_i32_853 : BitVec 32 := 0#32
  let v1375 : BitVec 1 := Scalar.cmpi .ne v1374 c0_i32_853
  v1375

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_854 : BitVec 32 := 21#32
  let v1376 : BitVec 1 := Scalar.cmpi .ne v2 c21_i32_854
  let v1377 : BitVec 32 := Scalar.extui v1376
  let c0_i32_855 : BitVec 32 := 0#32
  let v1378 : BitVec 1 := Scalar.cmpi .ne v1377 c0_i32_855
  v1378

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_856 : BitVec 32 := 22#32
  let v1379 : BitVec 1 := Scalar.cmpi .ne v2 c22_i32_856
  let v1380 : BitVec 32 := Scalar.extui v1379
  let c0_i32_857 : BitVec 32 := 0#32
  let v1381 : BitVec 1 := Scalar.cmpi .ne v1380 c0_i32_857
  v1381

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_858 : BitVec 32 := 23#32
  let v1382 : BitVec 1 := Scalar.cmpi .ne v2 c23_i32_858
  let v1383 : BitVec 32 := Scalar.extui v1382
  let c0_i32_859 : BitVec 32 := 0#32
  let v1384 : BitVec 1 := Scalar.cmpi .ne v1383 c0_i32_859
  v1384

def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_860 : BitVec 32 := 24#32
  let v1385 : BitVec 1 := Scalar.cmpi .ne v2 c24_i32_860
  let v1386 : BitVec 32 := Scalar.extui v1385
  let c0_i32_861 : BitVec 32 := 0#32
  let v1387 : BitVec 1 := Scalar.cmpi .ne v1386 c0_i32_861
  v1387

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_862 : BitVec 32 := 25#32
  let v1388 : BitVec 1 := Scalar.cmpi .ne v2 c25_i32_862
  let v1389 : BitVec 32 := Scalar.extui v1388
  let c0_i32_863 : BitVec 32 := 0#32
  let v1390 : BitVec 1 := Scalar.cmpi .ne v1389 c0_i32_863
  v1390

def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_864 : BitVec 32 := 26#32
  let v1391 : BitVec 1 := Scalar.cmpi .ne v2 c26_i32_864
  let v1392 : BitVec 32 := Scalar.extui v1391
  let c0_i32_865 : BitVec 32 := 0#32
  let v1393 : BitVec 1 := Scalar.cmpi .ne v1392 c0_i32_865
  v1393

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_866 : BitVec 32 := 27#32
  let v1394 : BitVec 1 := Scalar.cmpi .ne v2 c27_i32_866
  let v1395 : BitVec 32 := Scalar.extui v1394
  let c0_i32_867 : BitVec 32 := 0#32
  let v1396 : BitVec 1 := Scalar.cmpi .ne v1395 c0_i32_867
  v1396

def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_868 : BitVec 32 := 28#32
  let v1397 : BitVec 1 := Scalar.cmpi .ne v2 c28_i32_868
  let v1398 : BitVec 32 := Scalar.extui v1397
  let c0_i32_869 : BitVec 32 := 0#32
  let v1399 : BitVec 1 := Scalar.cmpi .ne v1398 c0_i32_869
  v1399

def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_870 : BitVec 32 := 29#32
  let v1400 : BitVec 1 := Scalar.cmpi .ne v2 c29_i32_870
  let v1401 : BitVec 32 := Scalar.extui v1400
  let c0_i32_871 : BitVec 32 := 0#32
  let v1402 : BitVec 1 := Scalar.cmpi .ne v1401 c0_i32_871
  v1402

def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_872 : BitVec 32 := 30#32
  let v1403 : BitVec 1 := Scalar.cmpi .ne v2 c30_i32_872
  let v1404 : BitVec 32 := Scalar.extui v1403
  let c0_i32_873 : BitVec 32 := 0#32
  let v1405 : BitVec 1 := Scalar.cmpi .ne v1404 c0_i32_873
  v1405

def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_874 : BitVec 32 := 31#32
  let v1406 : BitVec 1 := Scalar.cmpi .ne v2 c31_i32_874
  let v1407 : BitVec 32 := Scalar.extui v1406
  let c0_i32_875 : BitVec 32 := 0#32
  let v1408 : BitVec 1 := Scalar.cmpi .ne v1407 c0_i32_875
  v1408

def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_942 : BitVec 32 := 0#32
  let c0_i32_943 : BitVec 32 := 0#32
  ![v2.toNat, 0, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x128x1024 : Shape := ⟨3, ![2048, 128, 1024]⟩
abbrev S2048x2x1024 : Shape := ⟨3, ![2048, 2, 1024]⟩
abbrev S2048x1024 : Shape := ⟨2, ![2048, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x2, .i32⟩
  | .hbm, ⟨3, _⟩ => ⟨S128x512x1024, .bf16⟩
  | .hbm, ⟨4, _⟩ => ⟨S2048x512, .f32⟩
  | .hbm, ⟨5, _⟩ => ⟨S512x128, .f32⟩
  | .hbm, ⟨6, _⟩ => ⟨S2048x128, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x128, .f32⟩
  | .hbm, ⟨17, _⟩ => ⟨S2048x128, .f32⟩
  | .hbm, ⟨18, _⟩ => ⟨S_, .i32⟩
  | .hbm, ⟨19, _⟩ => ⟨S2048x2, .i32⟩
  | .hbm, ⟨20, _⟩ => ⟨S2048x2, .i1⟩
  | .hbm, ⟨21, _⟩ => ⟨S_, .i32⟩
  | .hbm, ⟨22, _⟩ => ⟨S2048x2, .i32⟩
  | .hbm, ⟨23, _⟩ => ⟨S2048x2, .i32⟩
  | .hbm, ⟨24, _⟩ => ⟨S2048x2, .i32⟩
  | .hbm, ⟨25, _⟩ => ⟨S2048x2x1, .i32⟩
  | .hbm, ⟨26, _⟩ => ⟨S2048x2, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x2, .f32⟩
  | .hbm, ⟨31, _⟩ => ⟨S2048x2, .f32⟩
  | .hbm, ⟨32, _⟩ => ⟨S128x512x1024, .f32⟩
  | .hbm, ⟨33, _⟩ => ⟨S2048x128x1024, .f32⟩
  | .hbm, ⟨34, _⟩ => ⟨S2048x2x1, .i32⟩
  | .hbm, ⟨35, _⟩ => ⟨S_, .i32⟩
  | .hbm, ⟨36, _⟩ => ⟨S2048x2x1, .i32⟩
  | .hbm, ⟨37, _⟩ => ⟨S2048x2x1, .i1⟩
  | .hbm, ⟨38, _⟩ => ⟨S_, .i32⟩
  | .hbm, ⟨39, _⟩ => ⟨S2048x2x1, .i32⟩
  | .hbm, ⟨40, _⟩ => ⟨S2048x2x1, .i32⟩
  | .hbm, ⟨41, _⟩ => ⟨S2048x2x1, .i32⟩
  | .hbm, ⟨42, _⟩ => ⟨S2048x2x1024, .f32⟩
  | .hbm, ⟨43, _⟩ => ⟨S2048x2x1, .f32⟩
  | .hbm, ⟨44, _⟩ => ⟨S2048x2x1024, .f32⟩
  | .hbm, ⟨45, _⟩ => ⟨S2048x2x1024, .f32⟩
  | .hbm, ⟨46, _⟩ => ⟨S_, .f32⟩
  | .hbm, ⟨47, _⟩ => ⟨S2048x1024, .f32⟩
  | .hbm, ⟨48, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Proof.Common.lean ====
/-
  What the modules about the kernel share: the resource algebra, the numbering of the devices as one device counts the
  others, the kernel's memory references, its semaphores as cells of the rounds library with what each hands over, what
  every device owes at launch, and the levels under which no wait can block another.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.ShareLeaves
public import Idealize.ShloMosaic.Lib.ValueIdxCore
public import Idealize.ShloMosaic.Harness.Basic

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

/-! ## The resource algebra -/

/-- The pipeline's rounds, whose cells have one duty, -/
abbrev UP (nD : Nat) (τ : Topo) : Type := URounds (GSem nD τ sig) Unit
/-- the kernel's rounds, whose duties are named by a device, -/
abbrev UK (nD : Nat) (τ : Topo) : Type := URounds (GSem nD τ sig) (Dev nD)
/-- and the two side by side. -/
abbrev UU (nD : Nat) (τ : Topo) : Type := UP nD τ × UK nD τ

local notation "𝕄" => MT nD τ sig Unit (Elt F) ℕ (UU nD τ) ℕ

def EP : Emb (UP nD τ) (MT nD τ sig Unit (Elt F) ℕ (UU nD τ) ℕ) :=
  (Emb.inl : Emb (UP nD τ) (UU nD τ)).trans (uEmb (nD := nD) (sig := sig) (Ix := Unit) (Val := Elt F) (Name := ℕ) (U := UU nD τ) (Lvl := ℕ)).toEmb
def ER : Emb (UK nD τ) (MT nD τ sig Unit (Elt F) ℕ (UU nD τ) ℕ) :=
  (Emb.inr : Emb (UK nD τ) (UU nD τ)).trans (uEmb (nD := nD) (sig := sig) (Ix := Unit) (Val := Elt F) (Name := ℕ) (U := UU nD τ) (Lvl := ℕ)).toEmb

instance EP_landsIn : (EP : Emb (UP nD τ) 𝕄).LandsIn (upEmb : UEmb _ 𝕄) := by unfold EP; infer_instance
instance ER_landsIn : (ER : Emb (UK nD τ) 𝕄).LandsIn (upEmb : UEmb _ 𝕄) := by unfold ER; infer_instance

/-! ## The devices, as device `c` counts them -/

set_option backward.proofsInPublic true in
/-- The device `k + 1` places after `c`: the order of the signals, of the second copies and of the receives. -/
def peer (c : Dev nD) (k : ℕ) : Dev nD := ⟨(c.val + k + 1) % 32, Nat.mod_lt _ (by decide)⟩
set_option backward.proofsInPublic true in
/-- The `j`-th device the first copies go to: four groups of eight, `c`'s own group and `c` itself last. -/
def ord (c : Dev nD) (j : ℕ) : Dev nD :=
  ⟨8 * ((c.val / 8 + 1 + j / 8) % 4) + (c.val % 8 + 1 + j % 8) % 8, by show _ < 32; omega⟩

theorem peer_ne (c : Dev nD) (k : ℕ) (hk : k < 31) : peer c k ≠ c := fun h => by
  have := congrArg Fin.val h; have hc : c.val < 32 := c.isLt; simp only [peer] at this; omega
theorem peer_inj (c : Dev nD) (k : ℕ) (hk : k < 31) (j : ℕ) (hj : j < 31) (h : peer c k = peer c j) : k = j := by
  have := congrArg Fin.val h; have hc : c.val < 32 := c.isLt; simp only [peer] at this; omega
theorem ord_inj (c : Dev nD) (k : ℕ) (hk : k < 32) (j : ℕ) (hj : j < 32) (h : ord c k = ord c j) : k = j := by
  have := congrArg Fin.val h; have hc : c.val < 32 := c.isLt; simp only [ord] at this; omega
theorem ord_last (c : Dev nD) : ord c 31 = c := by
  apply Fin.ext; have hc : c.val < 32 := c.isLt; simp only [ord]; omega
theorem ord_ne (c : Dev nD) (k : ℕ) (hk : k < 31) : ord c k ≠ c := fun h => by
  have := ord_inj c k (by omega) 31 (by decide) (h.trans (ord_last c).symm); omega

/-- 31 different devices, none of them `c`, are all the others. -/
theorem image_others (c : Dev nD) (f : ℕ → Dev nD) (hne : ∀ k, k < 31 → f k ≠ c) (hinj : ∀ k, k < 31 → ∀ j, j < 31 → f k = f j → k = j) :
    (Finset.range 31).image f = Finset.univ.erase c := by
  refine Finset.eq_of_subset_of_card_le (fun d hd => ?_) ?_
  · obtain ⟨k, hk, rfl⟩ := Finset.mem_image.mp hd
    exact Finset.mem_erase.mpr ⟨hne k (Finset.mem_range.mp hk), Finset.mem_univ _⟩
  · rw [Finset.card_image_of_injOn (fun k hk j hj h => hinj k (Finset.mem_range.mp hk) j (Finset.mem_range.mp hj) h),
      Finset.card_erase_of_mem (Finset.mem_univ _), Finset.card_range, Finset.card_univ, Fintype.card_fin]; exact le_refl 31
theorem peer_image (c : Dev nD) : (Finset.range 31).image (peer c) = Finset.univ.erase c := image_others c _ (peer_ne c) (peer_inj c)
theorem ord_image (c : Dev nD) : (Finset.range 31).image (ord c) = Finset.univ.erase c :=
  image_others c _ (ord_ne c) fun k hk j hj => ord_inj c k (by omega) j (by omega)

/-! ## The kernel's memory references -/

abbrev xM : Memref sig .tc .vmem S2048x512 .bf16 := Memref.whole cc0_stg0_0
abbrev gM : Memref sig .tc .vmem S2048x4 .bf16 := Memref.whole cc0_stg1_0
abbrev wM : Memref sig .tc .vmem S4x512x1024 .bf16 := Memref.whole cc0_stg2_0
abbrev oM : Memref sig .tc .vmem S2048x1024 .bf16 := Memref.whole cc0_stg3_0
abbrev rsM : Memref sig .tc .vmem S32x64x1024 .bf16 := Memref.whole cc0_scratch0
abbrev redM : Memref sig .tc .vmem S64x1024 .bf16 := Memref.whole cc0_scratch1
abbrev sndM : Memref sig .tc .vmem S2048x1024 .bf16 := Memref.whole cc0_scratch2

theorem inb_sem (p : Dev nD) : ∀ a, (![p.val] : Fin 1 → Nat) a + S1.size a ≤ S32.size a := by revert p; decide
theorem inb_slot (p : Dev nD) : ∀ a, (![p.val, 0, 0] : Fin 3 → Nat) a + S1x64x1024.size a ≤ S32x64x1024.size a := by revert p; decide
theorem inb_rows (p : Dev nD) : ∀ a, (![64 * p.val, 0] : Fin 2 → Nat) a + S64x1024.size a ≤ S2048x1024.size a := by revert p; decide

/-- Slot `p` of the receive buffer, 64 rows of the result and 64 rows of the send buffer. -/
abbrev rsSl (p : Dev nD) : Memref sig .tc .vmem S64x1024 .bf16 :=
  (rsM.slice (Rect.unit (s := S32x64x1024) ![p.val, 0, 0] S1x64x1024.size (inb_slot p)) (fun _ => rfl)).squeeze S64x1024 squeezes_S1x64x1024_S64x1024
abbrev oSl (p : Dev nD) : Memref sig .tc .vmem S64x1024 .bf16 :=
  oM.slice (Rect.unit (s := S2048x1024) ![64 * p.val, 0] S64x1024.size (inb_rows p)) (fun _ => rfl)
abbrev sSl (p : Dev nD) : Memref sig .tc .vmem S64x1024 .bf16 :=
  sndM.slice (Rect.unit (s := S2048x1024) ![64 * p.val, 0] S64x1024.size (inb_rows p)) (fun _ => rfl)

/-- Semaphore `p` of an array of 32. -/
abbrev semAt (A : DmaSems sig S32) (p : Dev nD) : DmaSem sig :=
  ((A.slice (Rect.unit (s := S32) ![p.val] S1.size (inb_sem p))).squeeze S_ squeezes_S1_S_).sem

abbrev barS : Sem sig := (SemArray.scalar (sig.barrier 0 rfl) : Sems sig S_).sem
abbrev barCell (c : Dev nD) : GSem nD τ sig := ((c : Thread nD τ), .reg barS)
abbrev s1Cell (c p : Dev nD) : GSem nD τ sig := ((c : Thread nD τ), .dma (semAt cc0_scratch3 p))
abbrev r1Cell (c p : Dev nD) : GSem nD τ sig := ((c : Thread nD τ), .dma (semAt cc0_scratch4 p))
abbrev s2Cell (c p : Dev nD) : GSem nD τ sig := ((c : Thread nD τ), .dma (semAt cc0_scratch5 p))
abbrev r2Cell (c p : Dev nD) : GSem nD τ sig := ((c : Thread nD τ), .dma (semAt cc0_scratch6 p))

theorem val_s1 (p : Dev nD) : (semAt cc0_scratch3 p).val = 4 + p.val := by revert p; decide +kernel
theorem val_r1 (p : Dev nD) : (semAt cc0_scratch4 p).val = 36 + p.val := by revert p; decide +kernel
theorem val_s2 (p : Dev nD) : (semAt cc0_scratch5 p).val = 68 + p.val := by revert p; decide +kernel
theorem val_r2 (p : Dev nD) : (semAt cc0_scratch6 p).val = 100 + p.val := by revert p; decide +kernel

/-- What a semaphore is for: 5 the barrier, 1 and 2 the first copies' two ends, 3 and 4 the second's, 0 the rest; -/
def kd : SemLoc sig → ℕ
  | .reg _ => 5
  | .dma s => (s.val + 28) / 32
set_option backward.proofsInPublic true in
/-- and its place in its array. -/
def at' : SemLoc sig → Dev nD
  | .reg _ => ⟨0, by decide⟩
  | .dma s => ⟨(s.val + 28) % 32, Nat.mod_lt _ (by decide)⟩

theorem kd_bar : kd (.reg barS) = 5 := rfl
theorem kd_s1 (p : Dev nD) : kd (.dma (semAt cc0_scratch3 p)) = 1 := by
  have := val_s1 p; have : p.val < 32 := p.isLt; simp only [kd]; omega
theorem kd_r1 (p : Dev nD) : kd (.dma (semAt cc0_scratch4 p)) = 2 := by
  have := val_r1 p; have : p.val < 32 := p.isLt; simp only [kd]; omega
theorem kd_s2 (p : Dev nD) : kd (.dma (semAt cc0_scratch5 p)) = 3 := by
  have := val_s2 p; have : p.val < 32 := p.isLt; simp only [kd]; omega
theorem kd_r2 (p : Dev nD) : kd (.dma (semAt cc0_scratch6 p)) = 4 := by
  have := val_r2 p; have : p.val < 32 := p.isLt; simp only [kd]; omega
theorem at_s1 (p : Dev nD) : at' (.dma (semAt cc0_scratch3 p)) = p := by
  have := val_s1 p; have : p.val < 32 := p.isLt; simp only [at']; apply Fin.ext; simp only; omega
theorem at_r1 (p : Dev nD) : at' (.dma (semAt cc0_scratch4 p)) = p := by
  have := val_r1 p; have : p.val < 32 := p.isLt; simp only [at']; apply Fin.ext; simp only; omega
theorem at_s2 (p : Dev nD) : at' (.dma (semAt cc0_scratch5 p)) = p := by
  have := val_s2 p; have : p.val < 32 := p.isLt; simp only [at']; apply Fin.ext; simp only; omega
theorem at_r2 (p : Dev nD) : at' (.dma (semAt cc0_scratch6 p)) = p := by
  have := val_r2 p; have : p.val < 32 := p.isLt; simp only [at']; apply Fin.ext; simp only; omega

/-- What one copy of 64 rows credits. -/
abbrev N : ℕ := (redM : Memref sig .tc .vmem S64x1024 .bf16).view.dmaCredit
theorem N_pos : 0 < N := View.dmaCredit_pos _ (by decide)
theorem N_rs (p : Dev nD) : (rsSl p).view.dmaCredit = N := rfl
theorem N_o (p : Dev nD) : (oSl p).view.dmaCredit = N := rfl
theorem N_s (p : Dev nD) : (sSl p).view.dmaCredit = N := rfl

/-! ## Contents

The two families everything else is read from: what each device's send buffer holds once filled, and what its 64 reduced
rows are. -/

variable (SN : Dev nD → (cc0_scratch2 : Ref sig .tc).ty.Contents (Elt F)) (RE : Dev nD → (cc0_scratch1 : Ref sig .tc).ty.Contents (Elt F))

set_option backward.proofsInPublic true in
/-- Device `d`'s receive buffer once all first copies have landed: in slot `p` the rows of device `p` meant for `d`. -/
def rsC (d : Dev nD) : (cc0_scratch0 : Ref sig .tc).ty.Contents (Elt F) :=
  fun (i : S32x64x1024.Idx) => SN (i 0) (ix2 (n0 := 2048) (n1 := 1024) ⟨64 * d.val + (i 1).val, by have h1 : (i 1).val < 64 := (i 1).isLt; have h2 : d.val < 32 := d.isLt; omega⟩ (i 2))
set_option backward.proofsInPublic true in
/-- The result, the same on all devices: rows `64 q` on are device `q`'s. -/
def outC : (cc0_stg3_0 : Ref sig .tc).ty.Contents (Elt F) :=
  fun (i : S2048x1024.Idx) => RE ⟨(i 0).val / 64, by have h1 : (i 0).val < 2048 := (i 0).isLt; show _ < 32; omega⟩ (ix2 (n0 := 64) (n1 := 1024) ⟨(i 0).val % 64, Nat.mod_lt _ (by decide)⟩ (i 1))

/-! ## The pieces that travel -/

/-- Device `c`'s slot `p`; its rows `p` of the result; its rows `p` of the send buffer; a share of its reduced rows. -/
def rsPt (c p : Dev nD) (f : (cc0_scratch0 : Ref sig .tc).ty.Contents (Elt F)) : sProp 𝕄 :=
  (rsSl p).view.loc (c : Thread nD τ) ↦[(rsSl p).view.set]{fullShare} f
def oPt (c p : Dev nD) (f : (cc0_stg3_0 : Ref sig .tc).ty.Contents (Elt F)) : sProp 𝕄 :=
  (oSl p).view.loc (c : Thread nD τ) ↦[(oSl p).view.set]{fullShare} f
def sPt (c p : Dev nD) (f : (cc0_scratch2 : Ref sig .tc).ty.Contents (Elt F)) : sProp 𝕄 :=
  (sSl p).view.loc (c : Thread nD τ) ↦[(sSl p).view.set]{fullShare} f
/-- The share of the reduced rows that the copy to `p` reads through. -/
def lf (p : Dev nD) : PosShare TreeShare := Idealize.ShloMosaic.ShareLeaves.leaf 5 fullShare (p : Fin 32)
def redPt (c p : Dev nD) (f : (cc0_scratch1 : Ref sig .tc).ty.Contents (Elt F)) : sProp 𝕄 :=
  redM.view.loc (c : Thread nD τ) ↦[redM.view.set]{lf p} f

/-! ## The schedule -/

/-- What device `p`'s barrier signal hands device `c`: `p`'s slot and rows for `c`, and that `p`'s two cells for `c` are open. -/
def barPay (c p : Dev nD) : sProp 𝕄 :=
  iprop((∃ f, rsPt p c f) ∗ (∃ f, oPt p c f) ∗ reached ER (r1Cell p c) 0 ∗ reached ER (r2Cell p c) 0)

set_option backward.proofsInPublic true in
/-- One round: the barrier cell has a duty of one unit for each other device, every other cell of index `p` on a device
    other than `p` the one duty of the copy it is for. -/
def Rd : Rounds.Schedule (GSem nD τ sig) (Dev nD) 𝕄 where
  duties g r := if r = 0 ∧ g.1.2 = .tc then
      (if kd g.2 = 5 then (if g.2 = .reg barS then Finset.univ.erase g.1.1 else ∅)
       else if kd g.2 = 0 then ∅
       else if at' g.2 = g.1.1 then ∅ else {at' g.2})
    else ∅
  unitless _ := False
  amount g _ _ := if kd g.2 = 5 then 1 else N
  payload g _ d :=
    if kd g.2 = 5 then barPay g.1.1 d
    else if kd g.2 = 1 then sPt g.1.1 (at' g.2) (SN g.1.1)
    else if kd g.2 = 2 then rsPt g.1.1 (at' g.2) (rsC SN g.1.1)
    else if kd g.2 = 3 then redPt g.1.1 (at' g.2) (RE g.1.1)
    else oPt g.1.1 (at' g.2) (outC RE)
  amount_pos g _ _ _ := by
    by_cases h : kd g.2 = 5
    · rw [if_pos h]; exact Nat.one_pos
    · rw [if_neg h]; exact N_pos

instance Rd_payload_storable (g : GSem nD τ sig) (r : ℕ) (d : Dev nD) :
    BI.Storable (upEmb : UEmb _ 𝕄) ((Rd (F := F) SN RE).payload g r d) := by
  show BI.Storable upEmb (if kd g.2 = 5 then barPay g.1.1 d
    else if kd g.2 = 1 then sPt g.1.1 (at' g.2) (SN g.1.1)
    else if kd g.2 = 2 then rsPt g.1.1 (at' g.2) (rsC SN g.1.1)
    else if kd g.2 = 3 then redPt g.1.1 (at' g.2) (RE g.1.1)
    else oPt g.1.1 (at' g.2) (outC RE))
  unfold barPay rsPt oPt sPt redPt
  (repeat' split) <;> infer_instance

section Sched

variable (c p d : Dev nD)

theorem duties_bar : (Rd (F := F) SN RE).duties (barCell c) 0 = Finset.univ.erase c := by
  dsimp only [Rd]; rw [if_pos ⟨rfl, rfl⟩, if_pos kd_bar, if_pos rfl]
theorem duties_s1 (h : p ≠ c) : (Rd (F := F) SN RE).duties (s1Cell c p) 0 = {p} := by
  dsimp only [Rd]; rw [if_pos ⟨rfl, rfl⟩, kd_s1, at_s1, if_neg (by decide), if_neg (by decide), if_neg h]
theorem duties_r1 (h : p ≠ c) : (Rd (F := F) SN RE).duties (r1Cell c p) 0 = {p} := by
  dsimp only [Rd]; rw [if_pos ⟨rfl, rfl⟩, kd_r1, at_r1, if_neg (by decide), if_neg (by decide), if_neg h]
theorem duties_s2 (h : p ≠ c) : (Rd (F := F) SN RE).duties (s2Cell c p) 0 = {p} := by
  dsimp only [Rd]; rw [if_pos ⟨rfl, rfl⟩, kd_s2, at_s2, if_neg (by decide), if_neg (by decide), if_neg h]
theorem duties_r2 (h : p ≠ c) : (Rd (F := F) SN RE).duties (r2Cell c p) 0 = {p} := by
  dsimp only [Rd]; rw [if_pos ⟨rfl, rfl⟩, kd_r2, at_r2, if_neg (by decide), if_neg (by decide), if_neg h]
theorem duties_later (g : GSem nD τ sig) : ∀ r, 1 ≤ r → (Rd (F := F) SN RE).duties g r = ∅ :=
  fun r hr => by dsimp only [Rd]; rw [if_neg (fun h => by omega)]
theorem duties_own (g : GSem nD τ sig) (h5 : kd g.2 ≠ 5) (h : at' g.2 = g.1.1) : ∀ r, 0 ≤ r → (Rd (F := F) SN RE).duties g r = ∅ :=
  fun r _ => by dsimp only [Rd]; rw [if_neg h5, if_pos h]; simp only [ite_self]

theorem amount_bar : (Rd (F := F) SN RE).amount (barCell c) 0 d = 1 := by dsimp only [Rd]; exact if_pos rfl
theorem amount_s1 : (Rd (F := F) SN RE).amount (s1Cell c p) 0 d = N := by dsimp only [Rd]; rw [kd_s1]; exact if_neg (by decide)
theorem amount_r1 : (Rd (F := F) SN RE).amount (r1Cell c p) 0 d = N := by dsimp only [Rd]; rw [kd_r1]; exact if_neg (by decide)
theorem amount_s2 : (Rd (F := F) SN RE).amount (s2Cell c p) 0 d = N := by dsimp only [Rd]; rw [kd_s2]; exact if_neg (by decide)
theorem amount_r2 : (Rd (F := F) SN RE).amount (r2Cell c p) 0 d = N := by dsimp only [Rd]; rw [kd_r2]; exact if_neg (by decide)

theorem payload_bar : (Rd (F := F) SN RE).payload (barCell c) 0 d = barPay c d := by dsimp only [Rd]; exact if_pos rfl
theorem payload_s1 : (Rd (F := F) SN RE).payload (s1Cell c p) 0 d = sPt c p (SN c) := by
  dsimp only [Rd]; rw [kd_s1, at_s1, if_neg (by decide), if_pos rfl]
theorem payload_r1 : (Rd (F := F) SN RE).payload (r1Cell c p) 0 d = rsPt c p (rsC SN c) := by
  dsimp only [Rd]; rw [kd_r1, at_r1, if_neg (by decide), if_neg (by decide), if_pos rfl]
theorem payload_s2 : (Rd (F := F) SN RE).payload (s2Cell c p) 0 d = redPt c p (RE c) := by
  dsimp only [Rd]; rw [kd_s2, at_s2, if_neg (by decide), if_neg (by decide), if_neg (by decide), if_pos rfl]
theorem payload_r2 : (Rd (F := F) SN RE).payload (r2Cell c p) 0 d = oPt c p (outC RE) := by
  dsimp only [Rd]; rw [kd_r2, at_r2, if_neg (by decide), if_neg (by decide), if_neg (by decide), if_neg (by decide)]

theorem expect_bar : (Rd (F := F) SN RE).expect (barCell c) 0 = 31 := by
  unfold Schedule.expect Schedule.amountOf
  rw [duties_bar, Finset.sum_congr rfl (fun d _ => amount_bar SN RE c d), Finset.sum_const, Finset.card_erase_of_mem (Finset.mem_univ _)]
  simp [nD]
theorem expect_s1 (h : p ≠ c) : (Rd (F := F) SN RE).expect (s1Cell c p) 0 = N := by
  unfold Schedule.expect Schedule.amountOf; rw [duties_s1 SN RE c p h, Finset.sum_singleton, amount_s1]
theorem expect_r1 (h : p ≠ c) : (Rd (F := F) SN RE).expect (r1Cell c p) 0 = N := by
  unfold Schedule.expect Schedule.amountOf; rw [duties_r1 SN RE c p h, Finset.sum_singleton, amount_r1]
theorem expect_s2 (h : p ≠ c) : (Rd (F := F) SN RE).expect (s2Cell c p) 0 = N := by
  unfold Schedule.expect Schedule.amountOf; rw [duties_s2 SN RE c p h, Finset.sum_singleton, amount_s2]
theorem expect_r2 (h : p ≠ c) : (Rd (F := F) SN RE).expect (r2Cell c p) 0 = N := by
  unfold Schedule.expect Schedule.amountOf; rw [duties_r2 SN RE c p h, Finset.sum_singleton, amount_r2]

end Sched

/-! ## What each device owes; the levels -/

/-- Device `c` still owes the barrier units from the `k`-th on; the first copies' from the `j`-th; the second's. -/
def barO (c : Dev nD) (k : ℕ) : CellTallies nD τ sig Unit := ∑ i ∈ Finset.Ico k 31, tallyAt (barCell (peer c i)) () 1
def r1O (c : Dev nD) (k : ℕ) : CellTallies nD τ sig Unit := ∑ i ∈ Finset.Ico k 31, tallyAt (r1Cell (ord c i) c) () N
def r2O (c : Dev nD) (k : ℕ) : CellTallies nD τ sig Unit := ∑ i ∈ Finset.Ico k 31, tallyAt (r2Cell (peer c i) c) () N
def O₀ (c : Dev nD) : CellTallies nD τ sig Unit := barO c 0 + (r1O c 0 + r2O c 0)

theorem barO_step (c : Dev nD) (k : ℕ) (hk : k < 31) : barO c k = barO c (k + 1) + tallyAt (barCell (peer c k)) () 1 := by
  unfold barO; rw [Finset.sum_eq_sum_Ico_succ_bot hk, add_comm]
theorem r1O_step (c : Dev nD) (k : ℕ) (hk : k < 31) : r1O c k = r1O c (k + 1) + tallyAt (r1Cell (ord c k) c) () N := by
  unfold r1O; rw [Finset.sum_eq_sum_Ico_succ_bot hk, add_comm]
theorem r2O_step (c : Dev nD) (k : ℕ) (hk : k < 31) : r2O c k = r2O c (k + 1) + tallyAt (r2Cell (peer c k) c) () N := by
  unfold r2O; rw [Finset.sum_eq_sum_Ico_succ_bot hk, add_comm]
theorem barO_end (c : Dev nD) : barO c 31 = 0 := by unfold barO; rw [Finset.Ico_self, Finset.sum_empty]
theorem r1O_end (c : Dev nD) : r1O c 31 = 0 := by unfold r1O; rw [Finset.Ico_self, Finset.sum_empty]
theorem r2O_end (c : Dev nD) : r2O c 31 = 0 := by unfold r2O; rw [Finset.Ico_self, Finset.sum_empty]

def L (g : GSem nD τ sig) : Finset Unit := if g.1.2 = .tc then {()} else ∅
/-- The barrier at 1, the first copies' landings at 2, the second's at 3, everything else at 0. -/
def lv (g : GSem nD τ sig) (_ : Unit) : ℕ := if kd g.2 = 5 then 1 else if kd g.2 = 2 then 2 else if kd g.2 = 4 then 3 else 0

theorem L_of_ne (g : GSem nD τ sig) (h : g.1.2 ≠ .tc) : L g = ∅ := if_neg h
theorem L_tc (c : Dev nD) (sm : SemLoc sig) : L ((c : Thread nD τ), sm) = {()} := if_pos rfl

/-- A sum of tallies that owes something at a cell owes it at one of the summands' cells. -/
theorem owed_mem {s : Finset ℕ} {f : ℕ → GSem nD τ sig} {n : ℕ} {g : GSem nD τ sig} {u : Unit}
    (h : 0 < (∑ i ∈ s, tallyAt (f i) () n : CellTallies nD τ sig Unit) g u) : ∃ i ∈ s, g = f i := by
  by_contra hc
  push Not at hc
  have : (∑ i ∈ s, tallyAt (f i) () n : CellTallies nD τ sig Unit) g u = 0 := by
    rw [Finset.sum_apply, Finset.sum_apply']
    refine Finset.sum_eq_zero fun i hi => ?_
    rw [tallyAt_apply, if_neg (fun h => hc i hi h.1)]
  omega

theorem lv_bar (c : Dev nD) (u : Unit) : lv (barCell c) u = 1 := by dsimp only [lv]; rw [kd_bar]; rfl
theorem lv_r1 (c p : Dev nD) (u : Unit) : lv (r1Cell c p) u = 2 := by dsimp only [lv]; rw [kd_r1]; rfl
theorem lv_r2 (c p : Dev nD) (u : Unit) : lv (r2Cell c p) u = 3 := by dsimp only [lv]; rw [kd_r2]; rfl

/-- Everything owed at launch is at a TensorCore's cell of level at least 1; -/
theorem owed_bar {c : Dev nD} {k : ℕ} {g : GSem nD τ sig} {u : Unit} (h : 0 < barO c k g u) : u ∈ L g ∧ lv g u = 1 := by
  obtain ⟨i, -, rfl⟩ := owed_mem h; exact ⟨by rw [L_tc]; exact Finset.mem_singleton_self _, lv_bar _ _⟩
theorem owed_r1 {c : Dev nD} {k : ℕ} {g : GSem nD τ sig} {u : Unit} (h : 0 < r1O c k g u) : u ∈ L g ∧ lv g u = 2 := by
  obtain ⟨i, -, rfl⟩ := owed_mem h; exact ⟨by rw [L_tc]; exact Finset.mem_singleton_self _, lv_r1 _ _ _⟩
theorem owed_r2 {c : Dev nD} {k : ℕ} {g : GSem nD τ sig} {u : Unit} (h : 0 < r2O c k g u) : u ∈ L g ∧ lv g u = 3 := by
  obtain ⟨i, -, rfl⟩ := owed_mem h; exact ⟨by rw [L_tc]; exact Finset.mem_singleton_self _, lv_r2 _ _ _⟩

theorem owed_add {O₁ O₂ : CellTallies nD τ sig Unit} {g : GSem nD τ sig} {u : Unit} (h : 0 < (O₁ + O₂) g u) : 0 < O₁ g u ∨ 0 < O₂ g u := by
  have : (O₁ + O₂) g u = O₁ g u + O₂ g u := rfl
  omega

/-- the wait on the barrier cell sits below the copies' landings still owed, -/
theorem mayWait_bar (c : Dev nD) :
    (levAts L lv : sProp 𝕄) ⊢ MayWait (c : Thread nD τ) (.reg barS) () (r1O c 0 + r2O c 0) :=
  MayOwe.of_cut (L := L) (lev := lv) 1 (fun p hp => by rw [Finset.mem_singleton.mp hp, L_tc]; exact Finset.mem_singleton_self _)
    (fun g u hg => (owed_add hg).elim (fun h => (owed_r1 h).1) (fun h => (owed_r2 h).1))
    (fun p hp => by rw [Finset.mem_singleton.mp hp]; exact (lv_bar c ()).le)
    (fun g u hg => (owed_add hg).elim (fun h => by rw [(owed_r1 h).2]; decide) (fun h => by rw [(owed_r2 h).2]; decide))
/-- the waits for the first copies below the second's landings. -/
theorem mayWait_r1 (c p : Dev nD) :
    (levAts L lv : sProp 𝕄) ⊢ MayWait (c : Thread nD τ) (.dma (semAt cc0_scratch4 p)) () (r2O c 0) :=
  MayOwe.of_cut (L := L) (lev := lv) 2 (fun q hq => by rw [Finset.mem_singleton.mp hq, L_tc]; exact Finset.mem_singleton_self _)
    (fun g u hg => (owed_r2 hg).1)
    (fun q hq => by rw [Finset.mem_singleton.mp hq]; exact (lv_r1 c p ()).le)
    (fun g u hg => by rw [(owed_r2 hg).2]; decide)

end Cert.Proof
-- ==== Proof.Pieces.lean ====
/-
  Pieces and wholes: the receive buffer as its 32 slots, the result and the send buffer as 32 blocks of 64 rows, the send
  buffer's four blocks of 512 rows as eight of those each; what a copy or a store into a piece leaves there, read as one
  buffer's contents; and lists of resources counted by the order the kernel takes the other devices in.
-/
module

public import proofs.«01_k».proof.Proof.Common
public import Idealize.ShloMosaic.Lib.Ring

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

/-! ## Counting resources -/

section Count

variable {M : Type} [URA M]

theorem bigSep_image_of_injOn {α β : Type} [DecidableEq α] [DecidableEq β] (s : Finset α) (f : α → β) (hf : ∀ a ∈ s, ∀ b ∈ s, f a = f b → a = b) (Φ : β → sProp M) :
    bigSep (s.image f) Φ = bigSep s fun a => Φ (f a) := by
  induction s using Finset.induction_on with
  | empty => rfl
  | insert a s ha ih =>
    have hn : f a ∉ s.image f := fun h => by
      obtain ⟨b, hb, e⟩ := Finset.mem_image.mp h
      exact ha (hf b (Finset.mem_insert_of_mem hb) a (Finset.mem_insert_self _ _) e ▸ hb)
    rw [Finset.image_insert, bigSep_insert hn, bigSep_insert ha,
      ih fun b hb d hd => hf b (Finset.mem_insert_of_mem hb) d (Finset.mem_insert_of_mem hd)]

theorem bigSep_Ico_step {k n : ℕ} (h : k < n) (Φ : ℕ → sProp M) :
    bigSep (Finset.Ico k n) Φ = iprop(Φ k ∗ bigSep (Finset.Ico (k + 1) n) Φ) := by
  rw [← Finset.insert_Ico_add_one_left_eq_Ico h]
  exact bigSep_insert (by simp)

theorem bigSep_Ico_zero (n : ℕ) (Φ : ℕ → sProp M) : bigSep (Finset.Ico 0 n) Φ = bigSep (Finset.range n) Φ := by
  rw [Finset.range_eq_Ico]

theorem bigSep_Ico_self (n : ℕ) (Φ : ℕ → sProp M) : bigSep (Finset.Ico n n) Φ = (BI.emp : sProp M) := by
  rw [Finset.Ico_self]; rfl

theorem bigSep_range_zero (Φ : ℕ → sProp M) : bigSep (Finset.range 0) Φ = (BI.emp : sProp M) := by
  rw [Finset.range_zero]; rfl

theorem bigSep_range_step (n : ℕ) (Φ : ℕ → sProp M) :
    bigSep (Finset.range (n + 1)) Φ = iprop(Φ n ∗ bigSep (Finset.range n) Φ) := by
  rw [Finset.range_add_one]; exact bigSep_insert (by simp)

theorem bigSep_Ico_append {k m n : ℕ} (h : k ≤ m) (h' : m ≤ n) (Φ : ℕ → sProp M) :
    bigSep (Finset.Ico k n) Φ = iprop(bigSep (Finset.Ico k m) Φ ∗ bigSep (Finset.Ico m n) Φ) := by
  rw [← Finset.Ico_union_Ico_eq_Ico h h']; exact bigSep_union (Finset.Ico_disjoint_Ico_consecutive k m n)

/-- One resource for each other device, in the order `peer` or `ord` counts them. -/
theorem bigSep_peer (c : Dev nD) (Φ : Dev nD → sProp M) :
    bigSep (Finset.univ.erase c) Φ = bigSep (Finset.range 31) fun k => Φ (peer c k) := by
  rw [← peer_image c]
  exact bigSep_image_of_injOn _ _ (fun a ha b hb => peer_inj c a (Finset.mem_range.mp ha) b (Finset.mem_range.mp hb)) Φ
theorem bigSep_ord (c : Dev nD) (Φ : Dev nD → sProp M) :
    bigSep (Finset.univ.erase c) Φ = bigSep (Finset.range 31) fun k => Φ (ord c k) := by
  rw [← ord_image c]
  exact bigSep_image_of_injOn _ _ (fun a ha b hb => ord_inj c a (by have := Finset.mem_range.mp ha; omega) b (by have := Finset.mem_range.mp hb; omega)) Φ
theorem bigSep_ord_all (c : Dev nD) (Φ : Dev nD → sProp M) :
    bigSep Finset.univ Φ = bigSep (Finset.range 32) fun k => Φ (ord c k) := by
  rw [bigSep_univ_split c, bigSep_ord c, bigSep_range_step 31, ord_last]; rfl

/-- One of a list, taken out and put back. -/
theorem bigSep_take {α : Type} [DecidableEq α] {s : Finset α} {a : α} (h : a ∈ s) (Φ : α → sProp M) :
    bigSep s Φ ⊢ iprop(Φ a ∗ (Φ a -∗ bigSep s Φ)) := by
  rw [bigSep_erase h]
  show iprop(Φ a ∗ bigSep (s.erase a) Φ) ⊢ iprop(Φ a ∗ (Φ a -∗ iprop(Φ a ∗ bigSep (s.erase a) Φ)))
  iintro ⟨Ha, Hr⟩
  isplitl [Ha]; · iexact Ha
  iintro Ha
  isplitl [Ha] <;> iassumption

end Count

/-! ## Where the pieces sit -/

theorem emb_rs (p : Dev nD) (x : S64x1024.Idx) : (rsSl p).view.emb x = ix3 (n0 := 32) (n1 := 64) (n2 := 1024) p (x 0) (x 1) := by
  have e : (rsSl p).view.emb x = (Rect.unit (s := S32x64x1024) ![p.val, 0, 0] S1x64x1024.size (inb_slot p)).emb
      (Shape.reshapeEquiv (squeezes_S1x64x1024_S64x1024).numel_eq x) := rfl
  rw [e, Shape.reshapeEquiv_cons_one (n := 2) (d := ![64, 1024]) (squeezes_S1x64x1024_S64x1024).numel_eq x]
  funext a
  apply Fin.ext
  rw [Rect.emb_apply]
  match a with
  | ⟨0, _⟩ => rfl
  | ⟨1, _⟩ => show 0 + 1 * (x 0).val = (x 0).val; omega
  | ⟨2, _⟩ => show 0 + 1 * (x 1).val = (x 1).val; omega

/-- An index of 64 rows, moved down to the rows of device `p`. -/
abbrev dn (p : Dev nD) (x : S64x1024.Idx) : S2048x1024.Idx :=
  ix2 (n0 := 2048) (n1 := 1024) ⟨64 * p.val + (x 0).val, by have h1 : (x 0).val < 64 := (x 0).isLt; have h2 : p.val < 32 := p.isLt; omega⟩ (x 1)

theorem emb_rows (p : Dev nD) (x : S64x1024.Idx) :
    (Rect.unit (s := S2048x1024) ![64 * p.val, 0] S64x1024.size (inb_rows p)).emb x = dn p x := by
  funext a
  apply Fin.ext
  rw [Rect.emb_apply]
  match a with
  | ⟨0, _⟩ => show 64 * p.val + 1 * (x 0).val = 64 * p.val + (x 0).val; omega
  | ⟨1, _⟩ => show 0 + 1 * (x 1).val = (x 1).val; omega

theorem emb_o (p : Dev nD) (x : S64x1024.Idx) : (oSl p).view.emb x = dn p x := emb_rows p x
theorem emb_s (p : Dev nD) (x : S64x1024.Idx) : (sSl p).view.emb x = dn p x := emb_rows p x

theorem mem_rs (p : Dev nD) (i : S32x64x1024.Idx) : i ∈ (rsSl p).view.set ↔ i 0 = p := by
  constructor
  · intro h
    obtain ⟨x, -, rfl⟩ := Finset.mem_map.mp h
    rw [emb_rs]
  · intro h
    have e : (rsSl p).view.emb (ix2 (n0 := 64) (n1 := 1024) (i 1) (i 2)) = i := by
      rw [emb_rs, ← h]; exact (ValueIdx.eq_ix3 i).symm
    exact e.subst (motive := fun j => j ∈ (rsSl p).view.set) (View.emb_mem_set _ _)

theorem mem_rows_aux (p : Dev nD) (i : S2048x1024.Idx) :
    (∃ x : S64x1024.Idx, dn p x = i) ↔ (i 0).val / 64 = p.val := by
  constructor
  · rintro ⟨x, rfl⟩
    have h1 : (x 0).val < 64 := (x 0).isLt
    show (64 * p.val + (x 0).val) / 64 = p.val; omega
  · intro h
    refine ⟨ix2 (n0 := 64) (n1 := 1024) ⟨(i 0).val % 64, Nat.mod_lt _ (by decide)⟩ (i 1), ?_⟩
    rw [ValueIdx.eq_ix2 i]
    have e : (⟨64 * p.val + (i 0).val % 64, by have := (i 0).isLt; have h1 : (i 0).val < 2048 := (i 0).isLt; omega⟩ : Fin 2048) = i 0 := Fin.ext (by show 64 * p.val + (i 0).val % 64 = (i 0).val; omega)
    exact congrArg (fun t : Fin 2048 => ix2 (n0 := 2048) (n1 := 1024) t (i 1)) e

theorem mem_o (p : Dev nD) (i : S2048x1024.Idx) : i ∈ (oSl p).view.set ↔ (i 0).val / 64 = p.val := by
  rw [← mem_rows_aux]
  exact ⟨fun h => by obtain ⟨x, -, e⟩ := Finset.mem_map.mp h; exact ⟨x, (emb_o p x).symm.trans e⟩,
    fun ⟨x, e⟩ => by rw [← e, ← emb_o]; exact View.emb_mem_set _ _⟩
theorem mem_s (p : Dev nD) (i : S2048x1024.Idx) : i ∈ (sSl p).view.set ↔ (i 0).val / 64 = p.val := by
  rw [← mem_rows_aux]
  exact ⟨fun h => by obtain ⟨x, -, e⟩ := Finset.mem_map.mp h; exact ⟨x, (emb_s p x).symm.trans e⟩,
    fun ⟨x, e⟩ => by rw [← e, ← emb_s]; exact View.emb_mem_set _ _⟩

/-! ## Wholes as pieces -/

theorem rs_disj (p p' : Dev nD) (h : p ≠ p') : Disjoint (rsSl p).view.set (rsSl p').view.set :=
  Finset.disjoint_left.mpr fun i hi hi' => h (((mem_rs p i).mp hi).symm.trans ((mem_rs p' i).mp hi'))
theorem rs_cover : Finset.univ.biUnion (β := S32x64x1024.Idx) (fun p : Dev nD => (rsSl p).view.set) = Finset.univ := by
  ext i
  simp only [Finset.mem_biUnion, Finset.mem_univ, iff_true]
  exact ⟨i 0, trivial, (mem_rs _ i).mpr rfl⟩
theorem rs_whole (c : Dev nD) (f : (cc0_scratch0 : Ref sig .tc).ty.Contents (Elt F)) :
    ((((c : Thread nD τ).loc cc0_scratch0) ↦{fullShare} f : sProp 𝕄)) = bigSep Finset.univ fun p : Dev nD => rsPt c p f :=
  Ring.pointsTo_blocks (nD := nD) (τ := τ) (sig := sig) (Ix := Unit) (Val := Elt F) (Name := ℕ) (U := UU nD τ) (Lvl := ℕ)
    (ℓ := (c : Thread nD τ).loc cc0_scratch0) (fun p : Dev nD => (rsSl p).view.set) rs_disj rs_cover (q := fullShare) f
theorem rs_join (c : Dev nD) (f₀ : (cc0_scratch0 : Ref sig .tc).ty.Contents (Elt F)) :
    bigSep Finset.univ (fun p : Dev nD => iprop(∃ f, rsPt c p f))
      ⊢ (iprop(∃ f : Buf (Elt F) ((c : Thread nD τ).loc cc0_scratch0), ((c : Thread nD τ).loc cc0_scratch0) ↦{fullShare} f) : sProp 𝕄) :=
  Ring.pointsTo_blocks_join_exists (nD := nD) (τ := τ) (sig := sig) (Ix := Unit) (Val := Elt F) (Name := ℕ) (U := UU nD τ) (Lvl := ℕ)
    (ℓ := (c : Thread nD τ).loc cc0_scratch0) (fun p : Dev nD => (rsSl p).view.set) rs_disj rs_cover (q := fullShare) f₀

/-- The device whose rows an index is among. -/
def rowDev (i : S2048x1024.Idx) : Dev nD := ⟨(i 0).val / 64, by have h1 : (i 0).val < 2048 := (i 0).isLt; show _ < 32; omega⟩

theorem o_disj (p p' : Dev nD) (h : p ≠ p') : Disjoint (oSl p).view.set (oSl p').view.set :=
  Finset.disjoint_left.mpr fun i hi hi' => h (Fin.ext (((mem_o p i).mp hi).symm.trans ((mem_o p' i).mp hi')))
theorem o_cover : Finset.univ.biUnion (β := S2048x1024.Idx) (fun p : Dev nD => (oSl p).view.set) = Finset.univ := by
  ext i
  simp only [Finset.mem_biUnion, Finset.mem_univ, iff_true]
  exact ⟨rowDev i, trivial, (mem_o _ i).mpr rfl⟩
theorem o_whole (c : Dev nD) (f : (cc0_stg3_0 : Ref sig .tc).ty.Contents (Elt F)) :
    ((((c : Thread nD τ).loc cc0_stg3_0) ↦{fullShare} f : sProp 𝕄)) = bigSep Finset.univ fun p : Dev nD => oPt c p f :=
  Ring.pointsTo_blocks (nD := nD) (τ := τ) (sig := sig) (Ix := Unit) (Val := Elt F) (Name := ℕ) (U := UU nD τ) (Lvl := ℕ)
    (ℓ := (c : Thread nD τ).loc cc0_stg3_0) (fun p : Dev nD => (oSl p).view.set) o_disj o_cover (q := fullShare) f

theorem s_disj (p p' : Dev nD) (h : p ≠ p') : Disjoint (sSl p).view.set (sSl p').view.set :=
  Finset.disjoint_left.mpr fun i hi hi' => h (Fin.ext (((mem_s p i).mp hi).symm.trans ((mem_s p' i).mp hi')))
theorem s_cover : Finset.univ.biUnion (β := S2048x1024.Idx) (fun p : Dev nD => (sSl p).view.set) = Finset.univ := by
  ext i
  simp only [Finset.mem_biUnion, Finset.mem_univ, iff_true]
  exact ⟨rowDev i, trivial, (mem_s _ i).mpr rfl⟩
theorem s_whole (c : Dev nD) (f : (cc0_scratch2 : Ref sig .tc).ty.Contents (Elt F)) :
    ((((c : Thread nD τ).loc cc0_scratch2) ↦{fullShare} f : sProp 𝕄)) = bigSep Finset.univ fun p : Dev nD => sPt c p f :=
  Ring.pointsTo_blocks (nD := nD) (τ := τ) (sig := sig) (Ix := Unit) (Val := Elt F) (Name := ℕ) (U := UU nD τ) (Lvl := ℕ)
    (ℓ := (c : Thread nD τ).loc cc0_scratch2) (fun p : Dev nD => (sSl p).view.set) s_disj s_cover (q := fullShare) f

/-- The reduced rows as the 32 shares the copies read through. -/
theorem red_whole (c : Dev nD) (f : (cc0_scratch1 : Ref sig .tc).ty.Contents (Elt F)) :
    ((((c : Thread nD τ).loc cc0_scratch1) ↦{fullShare} f : sProp 𝕄)) = bigSep Finset.univ fun p : Dev nD => redPt c p f := by
  have h := ShareLeaves.pointsTo_leaves (nD := nD) (τ := τ) (sig := sig) (Ix := Unit) (Val := Elt F) (Name := ℕ) (U := UU nD τ) (Lvl := ℕ)
    (ℓ := (c : Thread nD τ).loc cc0_scratch1) Finset.univ f 5 fullShare
  refine h.trans ?_
  unfold redPt lf
  rw [show redM.view.set = Finset.univ from View.set_whole _]
  rfl

/-! ## The send buffer's blocks of 512 rows -/

set_option backward.proofsInPublic true in
/-- The block that device `c` fills `b`-th: the four blocks from the one after its own group's on. -/
def bord (c : Dev nD) (b : ℕ) : Fin 4 := ⟨(c.val / 8 + 1 + b) % 4, Nat.mod_lt _ (by decide)⟩

theorem inb_blk (t : Fin 4) : ∀ a, (![512 * t.val, 0] : Fin 2 → Nat) a + S512x1024.size a ≤ S2048x1024.size a := by revert t; decide
abbrev blkR (t : Fin 4) : Rect S2048x1024 := Rect.unit (s := S2048x1024) ![512 * t.val, 0] S512x1024.size (inb_blk t)

/-- An index of 512 rows, moved down to block `t`. -/
abbrev dnB (t : Fin 4) (x : S512x1024.Idx) : S2048x1024.Idx :=
  ix2 (n0 := 2048) (n1 := 1024) ⟨512 * t.val + (x 0).val, by have h1 : (x 0).val < 512 := (x 0).isLt; have h2 := t.isLt; omega⟩ (x 1)

theorem emb_blk (t : Fin 4) (x : S512x1024.Idx) : (sndM.access (blkR t)).emb x = dnB t x := by
  show (blkR t).emb x = dnB t x
  funext a
  apply Fin.ext
  rw [Rect.emb_apply]
  match a with
  | ⟨0, _⟩ => show 512 * t.val + 1 * (x 0).val = 512 * t.val + (x 0).val; omega
  | ⟨1, _⟩ => show 0 + 1 * (x 1).val = (x 1).val; omega

theorem mem_blk (t : Fin 4) (i : S2048x1024.Idx) : i ∈ (sndM.access (blkR t)).set ↔ (i 0).val / 512 = t.val := by
  constructor
  · intro h
    obtain ⟨x, -, rfl⟩ := Finset.mem_map.mp h
    have h1 : (x 0).val < 512 := (x 0).isLt
    rw [emb_blk]
    show (512 * t.val + (x 0).val) / 512 = t.val; omega
  · intro h
    have h1 : (i 0).val < 2048 := (i 0).isLt
    have e : (sndM.access (blkR t)).emb (ix2 (n0 := 512) (n1 := 1024) ⟨(i 0).val % 512, Nat.mod_lt _ (by decide)⟩ (i 1)) = i := by
      rw [emb_blk, ValueIdx.eq_ix2 i]
      have e : (⟨512 * t.val + (i 0).val % 512, by omega⟩ : Fin 2048) = i 0 := Fin.ext (by show 512 * t.val + (i 0).val % 512 = (i 0).val; omega)
      exact congrArg (fun t : Fin 2048 => ix2 (n0 := 2048) (n1 := 1024) t (i 1)) e
    exact e.subst (motive := fun j => j ∈ (sndM.access (blkR t)).set) (View.emb_mem_set _ _)

def blkPt (c : Dev nD) (t : Fin 4) (f : (cc0_scratch2 : Ref sig .tc).ty.Contents (Elt F)) : sProp 𝕄 :=
  (sndM.access (blkR t)).loc (c : Thread nD τ) ↦[(sndM.access (blkR t)).set]{fullShare} f

theorem chunk_of_row (c b i : ℕ) (hb : b < 4) (h : i / 512 = (c / 8 + 1 + b) % 4) :
    ∃ j, (8 * b ≤ j ∧ j < 8 * b + 8) ∧ i / 64 = 8 * ((c / 8 + 1 + j / 8) % 4) + (c % 8 + 1 + j % 8) % 8 := by
  obtain ⟨t, ht⟩ : ∃ t, t = (i / 64 % 8 + 15 - c % 8) % 8 := ⟨_, rfl⟩
  refine ⟨8 * b + t, by omega, ?_⟩
  rw [show (8 * b + t) / 8 = b by omega, show (8 * b + t) % 8 = t by omega, ← h]
  have : (c % 8 + 1 + t) % 8 = i / 64 % 8 := by omega
  omega
theorem row_of_chunk (c b j i : ℕ) (hj : 8 * b ≤ j ∧ j < 8 * b + 8)
    (h : i / 64 = 8 * ((c / 8 + 1 + j / 8) % 4) + (c % 8 + 1 + j % 8) % 8) : i / 512 = (c / 8 + 1 + b) % 4 := by
  rw [show j / 8 = b by omega] at h
  omega

theorem blk_set (c : Dev nD) (b : ℕ) (hb : b < 4) :
    (sndM.access (blkR (bord c b))).set = (Finset.Ico (8 * b) (8 * b + 8)).biUnion (β := S2048x1024.Idx) fun j => (sSl (ord c j)).view.set := by
  ext i
  have h1 : (i 0).val < 2048 := (i 0).isLt
  simp only [Finset.mem_biUnion, Finset.mem_Ico]
  constructor
  · intro h
    obtain ⟨j, hj, e⟩ := chunk_of_row c.val b (i 0).val hb ((mem_blk _ i).mp h)
    exact ⟨j, hj, (mem_s _ i).mpr e⟩
  · rintro ⟨j, hj, h⟩
    exact (mem_blk _ i).mpr (row_of_chunk c.val b j _ hj ((mem_s _ i).mp h))

theorem chunk_disj (c : Dev nD) (b : ℕ) (hb : b < 4) (j : ℕ) (hj : j ∈ Finset.Ico (8 * b) (8 * b + 8)) (j' : ℕ) (hj' : j' ∈ Finset.Ico (8 * b) (8 * b + 8))
    (h : j ≠ j') : Disjoint (sSl (ord c j)).view.set (sSl (ord c j')).view.set := by
  have hj := Finset.mem_Ico.mp hj
  have hj' := Finset.mem_Ico.mp hj'
  exact s_disj _ _ fun e => h (ord_inj c j (by omega) j' (by omega) e)

/-- The block filled `b`-th is the eight chunks sent from the `8 b`-th on. -/
theorem blk_chunks (c : Dev nD) (b : ℕ) (hb : b < 4) (f : (cc0_scratch2 : Ref sig .tc).ty.Contents (Elt F)) :
    (blkPt c (bord c b) f : sProp 𝕄) = bigSep (Finset.Ico (8 * b) (8 * b + 8)) fun j => sPt c (ord c j) f := by
  unfold blkPt
  rw [blk_set c b hb]
  exact pointsTo_biUnion (ℓ := (c : Thread nD τ).loc cc0_scratch2) _ _ (chunk_disj c b hb)

/-! ## What a copy or a store leaves in a piece -/

section Writes

variable (SN : Dev nD → (cc0_scratch2 : Ref sig .tc).ty.Contents (Elt F)) (RE : Dev nD → (cc0_scratch1 : Ref sig .tc).ty.Contents (Elt F))

/-- Rows `d` of `c`'s send buffer, landed in slot `c` on `d`; -/
theorem rs_landed (c d : Dev nD) (fd : (cc0_scratch0 : Ref sig .tc).ty.Contents (Elt F)) :
    ((rsSl c).view.loc (d : Thread nD τ) ↦[(rsSl c).view.set]{fullShare} ((rsSl c).view.write (Elt F) fd ((sSl d).view.read (Elt F) (SN c)) Finset.univ) : sProp 𝕄)
      = rsPt d c (rsC SN d) := by
  unfold rsPt
  refine pointsTo_congr fun i hi => ?_
  obtain ⟨x, -, rfl⟩ := Finset.mem_map.mp hi
  rw [View.write_emb_of_mem _ _ (Finset.mem_univ x), View.read_apply, emb_s, emb_rs]
  rfl

/-- `c`'s reduced rows, landed in rows `c` of the result on `d`, -/
theorem o_landed (c d : Dev nD) (fd : (cc0_stg3_0 : Ref sig .tc).ty.Contents (Elt F)) (w : S64x1024.Idx → Elt F .bf16) (hw : ∀ x, w x = RE c x) :
    ((oSl c).view.loc (d : Thread nD τ) ↦[(oSl c).view.set]{fullShare} ((oSl c).view.write (Elt F) fd w Finset.univ) : sProp 𝕄)
      = oPt d c (outC RE) := by
  unfold oPt
  refine pointsTo_congr fun i hi => ?_
  obtain ⟨x, -, rfl⟩ := Finset.mem_map.mp hi
  rw [View.write_emb_of_mem _ _ (Finset.mem_univ x), hw, emb_o]
  have h1 : (x 0).val < 64 := (x 0).isLt
  have e1 : (⟨(64 * c.val + (x 0).val) / 64, by have h2 : c.val < 32 := c.isLt; show _ < 32; omega⟩ : Dev nD) = c := Fin.ext (by show (64 * c.val + (x 0).val) / 64 = c.val; omega)
  have e2 : (⟨(64 * c.val + (x 0).val) % 64, Nat.mod_lt _ (by decide)⟩ : Fin 64) = x 0 := Fin.ext (by show (64 * c.val + (x 0).val) % 64 = (x 0).val; omega)
  show RE c x = RE ⟨(64 * c.val + (x 0).val) / 64, _⟩ (ix2 (n0 := 64) (n1 := 1024) ⟨(64 * c.val + (x 0).val) % 64, _⟩ (x 1))
  rw [e1, e2]
  exact congrArg (RE c) (ValueIdx.eq_ix2 x)

/-- and a block stored into the send buffer. -/
theorem blk_stored (c : Dev nD) (t : Fin 4) (f : (cc0_scratch2 : Ref sig .tc).ty.Contents (Elt F)) (w : S512x1024.Idx → Elt F .bf16)
    (hw : ∀ x, w x = SN c (dnB t x)) :
    ((sndM.access (blkR t)).loc (c : Thread nD τ) ↦[(sndM.access (blkR t)).set]{fullShare} ((sndM.access (blkR t)).write (Elt F) f w Finset.univ) : sProp 𝕄)
      = blkPt c t (SN c) := by
  unfold blkPt
  refine pointsTo_congr fun i hi => ?_
  obtain ⟨x, -, rfl⟩ := Finset.mem_map.mp hi
  rw [View.write_emb_of_mem _ _ (Finset.mem_univ x), hw, emb_blk]
  rfl

end Writes

end Cert.Proof
-- ==== Proof.Steps.lean ====
/-
  The kernel's communication one operation at a time. Each phase has a state counted by a number of operations done or still
  to do; each lemma runs one operation and moves its state one on. The offsets and devices the program computes enter as
  variables with an equation, so that one lemma serves every occurrence.
-/
module

public import proofs.«01_k».proof.Proof.Pieces

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

abbrev 𝒱₀ : Variants := Variants.none

/-- A weakest precondition of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (SN : Dev nD → (cc0_scratch2 : Ref sig .tc).ty.Contents (Elt F)) (RE : Dev nD → (cc0_scratch1 : Ref sig .tc).ty.Contents (Elt F))
variable (K : GSem nD τ sig → ℕ)

/-- A list of pairs is a pair of lists. -/
theorem bsep {I : Type} (s : Finset I) (Φ Ψ : I → sProp 𝕄) :
    bigSep s (fun i => iprop(Φ i ∗ Ψ i)) = iprop(bigSep s Φ ∗ bigSep s Ψ) := bigSep_sep s Φ Ψ

/-- One of a list. -/
theorem belim {I : Type} [DecidableEq I] {s : Finset I} {i : I} (h : i ∈ s) (Φ : I → sProp 𝕄) : (bigSep s Φ : sProp 𝕄) ⊢ Φ i := bigSep_elim h

/-! ## What every device may use at any time -/

/-- The invariant of a cell. -/
abbrev Inv (g : GSem nD τ sig) : sProp 𝕄 := cellInv ER (Rd SN RE) (K g) g

/-- The invariants of all the cells, that the barrier cells are open, and the levels. -/
def Ctx : sProp 𝕄 :=
  iprop((bigSep Finset.univ fun d : Dev nD => iprop(Inv SN RE K (barCell d) ∗ reached ER (barCell d) 0))
    ∗ (bigSep Finset.univ fun x : Dev nD × Dev nD =>
        iprop(Inv SN RE K (s1Cell x.1 x.2) ∗ Inv SN RE K (r1Cell x.1 x.2) ∗ Inv SN RE K (s2Cell x.1 x.2) ∗ Inv SN RE K (r2Cell x.1 x.2)))
    ∗ levAts L lv)

instance Ctx_persistent : BI.Persistent (Ctx SN RE K) := by unfold Ctx; infer_instance

theorem Ctx_bar (d : Dev nD) : Ctx SN RE K ⊢ iprop(Inv SN RE K (barCell d) ∗ reached ER (barCell d) 0) := by
  unfold Ctx
  iintro ⟨H, -, -⟩
  iapply (belim (Finset.mem_univ d) (fun d : Dev nD => iprop(Inv SN RE K (barCell d) ∗ reached ER (barCell d) 0))); iexact H
theorem Ctx_dma (d p : Dev nD) : Ctx SN RE K
    ⊢ iprop(Inv SN RE K (s1Cell d p) ∗ Inv SN RE K (r1Cell d p) ∗ Inv SN RE K (s2Cell d p) ∗ Inv SN RE K (r2Cell d p)) := by
  unfold Ctx
  iintro ⟨-, H, -⟩
  iapply (belim (Finset.mem_univ ((d, p) : Dev nD × Dev nD))
    (fun x : Dev nD × Dev nD => iprop(Inv SN RE K (s1Cell x.1 x.2) ∗ Inv SN RE K (r1Cell x.1 x.2) ∗ Inv SN RE K (s2Cell x.1 x.2) ∗ Inv SN RE K (r2Cell x.1 x.2))))
  iexact H
theorem Ctx_lev : Ctx SN RE K ⊢ (levAts L lv : sProp 𝕄) := by
  unfold Ctx
  iintro ⟨-, -, H⟩
  iexact H

/-- Owing `O`, whatever was waited on. -/
def owesE (c : Dev nD) (O : CellTallies nD τ sig Unit) : sProp 𝕄 := iprop(∃ W, owes (c : Thread nD τ) O W)

/-! ## The barrier -/

/-- The signals from the `k`-th on are still to be sent. -/
def Sg (c : Dev nD) (k : ℕ) : sProp 𝕄 :=
  iprop(Ctx SN RE K ∗ (bigSep (Finset.Ico k 31) fun i => iprop(dutyTok ER (barCell (peer c i)) 0 c ∗ barPay (peer c i) c))
    ∗ owesE c (barO c k + (r1O c 0 + r2O c 0)))

theorem step_signal (c : Dev nD) (k : ℕ) (hk : k < 31) {n : ℕ} (hn : n < nD) (e : n = (c.val + k + 1) % 32)
    {α : Type} (kk : PUnit → Prog (TpuEff nD τ sig (Elt F) Λ₀ .tc) α) (Q : α → sProp 𝕄) :
    Sg SN RE K c k ⊢ iprop((Sg SN RE K c (k + 1) -∗ WP c (kk ⟨⟩) Q)
      -∗ WP c (.op (.semSignal ((⟨n, hn⟩ : Dev nD), .tc) barS (1#32 : BitVec 32).toInt) kk) Q) := by
  subst e
  have e1 : (1#32 : BitVec 32).toInt = ((1 : ℕ) : ℤ) := by decide
  rw [e1]
  unfold Sg owesE
  rw [bigSep_Ico_step hk]
  iintro ⟨#HC, ⟨⟨Ht, Hp⟩, Hs⟩, ⟨%W, HO⟩⟩ Hk
  ihave #Hb := (Ctx_bar SN RE K (peer c k)) $$ HC
  icases Hb with ⟨#HI, #HR⟩
  iapply (Rounds.wp_signal 𝒱₀ ER (Rd SN RE) (c : Thread nD τ) none (dst := (peer c k : Thread nD τ)) (sem := barS) (r := 0) (d := c)
      (κ := K (barCell (peer c k)))
      (by rw [duties_bar]; exact Finset.mem_erase.mpr ⟨(peer_ne c k hk).symm, Finset.mem_univ _⟩) (amount_bar SN RE (peer c k) c) ()
      (O₀ := barO c k + (r1O c 0 + r2O c 0)) (barO c (k + 1) + (r1O c 0 + r2O c 0)) (by rw [barO_step c k hk]; abel)) $$ [HO Ht Hp]
  · isplitr; · iexact HI
    isplitl [HO]; · iexact HO
    isplitl [Ht]; · iexact Ht
    isplitl [Hp]
    · rw [payload_bar]; iexact Hp
    · iexact HR
  iintro HO
  iapply Hk
  isplitr; · iexact HC
  isplitl [Hs]; · iexact Hs
  iexists W; iexact HO

/-- What the copies to device `ord c i` still want but the slot they land in; and the second copies to `peer c i` but the rows. -/
def pre1 (c : Dev nD) (i : ℕ) : sProp 𝕄 :=
  iprop(dutyTok ER (s1Cell c (ord c i)) 0 (ord c i) ∗ reached ER (s1Cell c (ord c i)) 0 ∗ dutyTok ER (r1Cell (ord c i) c) 0 c)
def pre2 (c : Dev nD) (i : ℕ) : sProp 𝕄 :=
  iprop(dutyTok ER (s2Cell c (peer c i)) 0 (peer c i) ∗ reached ER (s2Cell c (peer c i)) 0 ∗ dutyTok ER (r2Cell (peer c i) c) 0 c)
/-- And with them. -/
def snd1 (c : Dev nD) (i : ℕ) : sProp 𝕄 := iprop(pre1 c i ∗ (∃ f, rsPt (ord c i) c f) ∗ reached ER (r1Cell (ord c i) c) 0)
def snd2 (c : Dev nD) (i : ℕ) : sProp 𝕄 := iprop(pre2 c i ∗ (∃ f, oPt (peer c i) c f) ∗ reached ER (r2Cell (peer c i) c) 0)

/-- The first copies from the `j`-th on are still to be sent. -/
def Bs (c : Dev nD) (j : ℕ) : sProp 𝕄 :=
  iprop(Ctx SN RE K ∗ bigSep (Finset.Ico j 31) (snd1 c) ∗ (bigSep (Finset.range j) fun i => cred (tallyAt (s1Cell c (ord c i)) () N))
    ∗ owesE c (r1O c j + r2O c 0))

theorem barPay_split (c : Dev nD) :
    bigSep (Finset.univ.erase c) (fun p => barPay c p)
      ⊢ iprop((bigSep (Finset.range 31) fun i => iprop((∃ f, rsPt (F := F) (ord c i) c f) ∗ reached ER (r1Cell (ord c i) c) 0))
        ∗ (bigSep (Finset.range 31) fun i => iprop((∃ f, oPt (F := F) (peer c i) c f) ∗ reached ER (r2Cell (peer c i) c) 0))) := by
  rw [← bigSep_ord c (fun p => iprop((∃ f, rsPt (F := F) p c f) ∗ reached ER (r1Cell p c) 0)),
    ← bigSep_peer c (fun p => iprop((∃ f, oPt (F := F) p c f) ∗ reached ER (r2Cell p c) 0)), ← bsep]
  refine bigSep_mono fun p _ => ?_
  show barPay c p ⊢ iprop(((∃ f, rsPt (F := F) p c f) ∗ reached ER (r1Cell p c) 0) ∗ ((∃ f, oPt (F := F) p c f) ∗ reached ER (r2Cell p c) 0))
  unfold barPay
  iintro ⟨H1, H2, H3, H4⟩
  isplitl [H1 H3]
  · isplitl [H1]; · iexact H1
    iexact H3
  · isplitl [H2]; · iexact H2
    iexact H4

theorem step_barrier (c : Dev nD) {α : Type} (kk : PUnit → Prog (TpuEff nD τ sig (Elt F) Λ₀ .tc) α) (Q : α → sProp 𝕄) :
    iprop(Sg SN RE K c 31 ∗ cred (tallyAt (barCell c) () 31) ∗ atPos ER (barCell c) 0 ∅ 0
        ∗ bigSep (Finset.range 31) (pre1 c) ∗ bigSep (Finset.range 31) (pre2 c))
      ⊢ iprop(((Bs SN RE K c 0 ∗ bigSep (Finset.range 31) (snd2 c) ∗ atPos ER (barCell c) 1 ∅ 0) -∗ WP c (kk ⟨⟩) Q)
        -∗ WP c (.op (.semWait barS (31#32 : BitVec 32).toInt) kk) Q) := by
  have e1 : (31#32 : BitVec 32).toInt = ((31 : ℕ) : ℤ) := by decide
  rw [e1]
  unfold Sg Bs owesE
  rw [barO_end, zero_add]
  iintro ⟨⟨#HC, -, ⟨%W, HO⟩⟩, Hc, Hat, H1, H2⟩ Hk
  ihave #Hb := (Ctx_bar SN RE K c) $$ HC
  icases Hb with ⟨#HI, -⟩
  ihave #HL := (Ctx_lev SN RE K) $$ HC
  iapply (Rounds.wp_wait_rest_token 𝒱₀ ER (Rd SN RE) (c : Thread nD τ) none (κ := K (barCell c))
      (wpE_semWait_eq 𝒱₀ (c : Thread nD τ) none Set.univ) (Set.mem_univ _) () (O := r1O c 0 + r2O c 0) (W := W) (R := 0) (m := 0) (T := ∅)
      ((Nat.zero_add 31).trans (expect_bar SN RE c).symm)) $$ [Hc HO Hat]
  · isplitr; · iexact HI
    isplitl [Hc]; · iexact Hc
    isplitl [HO]; · iexact HO
    isplitr; · iapply (mayWait_bar c); iexact HL
    iexact Hat
  rw [Finset.sdiff_empty, duties_bar, bigSep_congr (fun d _ => payload_bar SN RE c d)]
  iintro ⟨HO, Hat, -, Hp⟩
  ihave Hp := (barPay_split c) $$ Hp
  icases Hp with ⟨Ha, Hb⟩
  iapply Hk
  isplitr [H2 Hb Hat]
  · isplitr; · iexact HC
    isplitl [H1 Ha]
    · rw [bigSep_Ico_zero]
      ihave H := (Entails.of_eq (bsep (Finset.range 31) (pre1 (F := F) c)
        (fun i => iprop((∃ f, rsPt (F := F) (ord c i) c f) ∗ reached ER (r1Cell (ord c i) c) 0))).symm) $$ [H1 Ha]
      · isplitl [H1]; · iexact H1
        iexact Ha
      iexact H
    isplitr
    · rw [bigSep_range_zero]; iempintro
    iexists (insert (SemLoc.reg barS, ()) W); iexact HO
  · isplitl [H2 Hb]
    · ihave H := (Entails.of_eq (bsep (Finset.range 31) (pre2 (F := F) c)
        (fun i => iprop((∃ f, oPt (F := F) (peer c i) c f) ∗ reached ER (r2Cell (peer c i) c) 0))).symm) $$ [H2 Hb]
      · isplitl [H2]; · iexact H2
        iexact Hb
      iexact H
    · iexact Hat

/-! ## The send buffer: 512 rows are written, then copied away 64 at a time -/

/-- Blocks from the `b`-th on still hold `f`; of the blocks before, the pieces from the `j`-th on are still here, written. -/
def Sn (f : (cc0_scratch2 : Ref sig .tc).ty.Contents (Elt F)) (c : Dev nD) (b j : ℕ) : sProp 𝕄 :=
  iprop((bigSep (Finset.Ico (8 * b) 32) fun i => sPt c (ord c i) f) ∗ bigSep (Finset.Ico j (8 * b)) fun i => sPt c (ord c i) (SN c))

theorem Sn_open (f : (cc0_scratch2 : Ref sig .tc).ty.Contents (Elt F)) (c : Dev nD) (b : ℕ) (hb : b < 4) :
    Sn SN f c b (8 * b) = iprop((blkPt c (bord c b) f ∗ bigSep (Finset.Ico (8 * (b + 1)) 32) fun i => sPt c (ord c i) f) ∗ BI.emp) := by
  unfold Sn
  rw [bigSep_Ico_append (show 8 * b ≤ 8 * b + 8 by omega) (show 8 * b + 8 ≤ 32 by omega), bigSep_Ico_self, blk_chunks c b hb f]
  rfl
theorem Sn_close (f : (cc0_scratch2 : Ref sig .tc).ty.Contents (Elt F)) (c : Dev nD) (b : ℕ) (hb : b < 4) :
    iprop(blkPt c (bord c b) (SN c) ∗ bigSep (Finset.Ico (8 * (b + 1)) 32) fun i => sPt c (ord c i) f) ⊢ Sn SN f c (b + 1) (8 * b) := by
  unfold Sn
  rw [blk_chunks c b hb (SN c), show 8 * (b + 1) = 8 * b + 8 by ring]
  iintro ⟨H1, H2⟩
  isplitl [H2]; · iexact H2
  iexact H1

theorem step_ldblk (f : (cc0_scratch2 : Ref sig .tc).ty.Contents (Elt F)) (c : Dev nD) (b : ℕ) (hb : b < 4)
    {o : Fin 2 → ℕ} {ho : ∀ a, o a + S512x1024.size a ≤ S2048x1024.size a} (e : o = ![512 * (bord c b).val, 0])
    {hl : sndM.view.LoadsAt (Rect.unit (s := S2048x1024) o S512x1024.size ho).toLoadRect}
    {α : Type} {kk : (S512x1024.Idx → Elt F .bf16) → Prog (TpuEff nD τ sig (Elt F) Λ₀ .tc) α} {Q : α → sProp 𝕄} :
    Sn SN f c b (8 * b) ⊢ iprop((∀ v, Sn SN f c b (8 * b) -∗ WP c (kk v) Q)
      -∗ WP c (.op (.load sndM (Rect.unit (s := S2048x1024) o S512x1024.size ho).toLoadRect hl) kk) Q) := by
  subst e
  rw [Sn_open SN f c b hb]
  iintro ⟨⟨H, Hr⟩, He⟩ Hk
  unfold blkPt
  iapply (wp_load_rect 𝒱₀ (c : Thread nD τ) none Set.univ (m := sndM) (r := blkR (bord c b)) (Finset.Subset.refl _)) $$ H
  iintro H
  iapply Hk
  isplitr [He]
  · isplitl [H]; · iexact H
    iexact Hr
  · iexact He

theorem step_stblk (f : (cc0_scratch2 : Ref sig .tc).ty.Contents (Elt F)) (c : Dev nD) (b : ℕ) (hb : b < 4)
    {o : Fin 2 → ℕ} {ho : ∀ a, o a + S512x1024.size a ≤ S2048x1024.size a} (e : o = ![512 * (bord c b).val, 0])
    {w : S512x1024.Idx → Elt F .bf16} (hw : ∀ x, w x = SN c (dnB (bord c b) x))
    {hx : (sndM.access (Rect.unit (s := S2048x1024) o S512x1024.size ho)).Stores Finset.univ} {hm}
    {α : Type} {kk : PUnit → Prog (TpuEff nD τ sig (Elt F) Λ₀ .tc) α} {Q : α → sProp 𝕄} :
    Sn SN f c b (8 * b) ⊢ iprop((Sn SN f c (b + 1) (8 * b) -∗ WP c (kk ⟨⟩) Q)
      -∗ WP c (.op (.store sndM (Rect.unit (s := S2048x1024) o S512x1024.size ho) w Finset.univ hx hm) kk) Q) := by
  subst e
  rw [Sn_open SN f c b hb]
  iintro ⟨⟨H, Hr⟩, He⟩ Hk
  unfold blkPt
  iapply (wp_store 𝒱₀ (c : Thread nD τ) none Set.univ (m := sndM) (r := blkR (bord c b)) (Mk := Finset.univ)
    (S := (sndM.access (blkR (bord c b))).set) (Finset.Subset.refl _)) $$ H
  iintro H
  ihave H := (Entails.of_eq (blk_stored SN c (bord c b) f w hw)) $$ H
  iapply Hk
  iapply (Sn_close SN f c b hb)
  isplitl [H]; · iexact H
  iexact Hr

/-! ## The first copies -/

theorem step_send1 (f : (cc0_scratch2 : Ref sig .tc).ty.Contents (Elt F)) (c : Dev nD) (b j : ℕ) (hj : j < 31) (hb : j < 8 * b)
    {o4 o5 : Fin 1 → ℕ} {o6 : Fin 3 → ℕ} {o7 : Fin 2 → ℕ} {n : ℕ} {hn : n < nD}
    {h4 : ∀ a, o4 a + S1.size a ≤ S32.size a} {h5 : ∀ a, o5 a + S1.size a ≤ S32.size a}
    {h6 : ∀ a, o6 a + S1x64x1024.size a ≤ S32x64x1024.size a} {h7 : ∀ a, o7 a + S64x1024.size a ≤ S2048x1024.size a}
    (e4 : o4 = ![(ord c j).val]) (e5 : o5 = ![c.val]) (e6 : o6 = ![c.val, 0, 0]) (e7 : o7 = ![64 * (ord c j).val, 0]) (en : n = (ord c j).val)
    {hsrc : (sndM.slice (Rect.unit (s := S2048x1024) o7 S64x1024.size h7) (fun _ => rfl)).view.WordExact}
    {hdst : ((rsM.slice (Rect.unit (s := S32x64x1024) o6 S1x64x1024.size h6) (fun _ => rfl)).squeeze S64x1024 squeezes_S1x64x1024_S64x1024).view.WordExact}
    {hsc : ((rsM.slice (Rect.unit (s := S32x64x1024) o6 S1x64x1024.size h6) (fun _ => rfl)).squeeze S64x1024 squeezes_S1x64x1024_S64x1024).view.ref.isScScratch = false}
    {hsem}
    {α : Type} {kk : PUnit → Prog (TpuEff nD τ sig (Elt F) Λ₀ .tc) α} {Q : α → sProp 𝕄} :
    iprop(Bs SN RE K c j ∗ Sn SN f c b j) ⊢ iprop(((Bs SN RE K c (j + 1) ∗ Sn SN f c b (j + 1)) -∗ WP c (kk ⟨⟩) Q)
      -∗ WP c (.op (.enqueueDma (sndM.slice (Rect.unit (s := S2048x1024) o7 S64x1024.size h7) (fun _ => rfl))
          (.remote (Dev.tc (⟨n, hn⟩ : Dev nD))
            ((rsM.slice (Rect.unit (s := S32x64x1024) o6 S1x64x1024.size h6) (fun _ => rfl)).squeeze S64x1024 squeezes_S1x64x1024_S64x1024)
            (.dma ((cc0_scratch3.slice (Rect.unit (s := S32) o4 S1.size h4)).squeeze S_ squeezes_S1_S_).sem) hsc)
          (.dma ((cc0_scratch4.slice (Rect.unit (s := S32) o5 S1.size h5)).squeeze S_ squeezes_S1_S_).sem) hsrc hdst hsem) kk) Q) := by
  subst e4 e5 e6 e7 en
  unfold Bs Sn owesE
  rw [bigSep_Ico_step hj, bigSep_Ico_step hb, bigSep_range_step]
  unfold snd1 pre1
  iintro ⟨⟨#HC, ⟨⟨⟨Ht1, #HR1, Ht2⟩, ⟨%fd, Hd⟩, #HR2⟩, Hs⟩, Hcr, ⟨%W, HO⟩⟩, Hf, Hp, Hps⟩ Hk
  ihave #Hi1 := (Ctx_dma SN RE K c (ord c j)) $$ HC
  ihave #Hi2 := (Ctx_dma SN RE K (ord c j) c) $$ HC
  icases Hi1 with ⟨#HI1, -⟩
  icases Hi2 with ⟨-, #HI2, -⟩
  unfold rsPt sPt
  iapply (Rounds.wp_send_pointsTo 𝒱₀ ER (Rd SN RE) (c : Thread nD τ) none (c' := (ord c j : Thread nD τ)) (src := sSl (ord c j)) (dst := rsSl c)
      (sS := .dma (semAt cc0_scratch3 (ord c j))) (sem := .dma (semAt cc0_scratch4 c)) (q := fullShare) (fs := SN c)
      (κ₁ := K (s1Cell c (ord c j))) (κ₂ := K (r1Cell (ord c j) c)) (r₁ := 0) (r₂ := 0) (d₁ := ord c j) (d₂ := c) (fd := fd)
      (by rw [duties_s1 SN RE c _ (ord_ne c j hj)]; exact Finset.mem_singleton_self _)
      (by rw [duties_r1 SN RE _ c (ord_ne c j hj).symm]; exact Finset.mem_singleton_self _)
      () () N rfl (amount_s1 SN RE c _ _) (amount_r1 SN RE _ c _) (O₀ := r1O c j + r2O c 0) (r1O c (j + 1) + r2O c 0)
      (by rw [r1O_step c j hj]; abel) (W := W)
      (by rw [payload_s1]; exact BI.Entails.refl _)
      (by rw [payload_r1]; exact Entails.of_eq (rs_landed SN c (ord c j) fd))) $$ [Ht1 Ht2 Hd HO Hp]
  · isplitr; · iexact HI1
    isplitr; · iexact HI2
    isplitl [Hp]; · iexact Hp
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitr [Hf Hps]
  · isplitr; · iexact HC
    isplitl [Hs]; · iexact Hs
    isplitr [HO]
    · isplitl [Hc]; · iexact Hc
      iexact Hcr
    · iexists W; iexact HO
  · isplitl [Hf]; · iexact Hf
    iexact Hps

/-! ## A wait for one copy -/

theorem wait_one (c p : Dev nD) {sm : DmaSem sig} (hd : (Rd (F := F) SN RE).duties ((c : Thread nD τ), .dma sm) 0 = {p})
    (he : (Rd (F := F) SN RE).expect ((c : Thread nD τ), .dma sm) 0 = N) (O : CellTallies nD τ sig Unit)
    (hmay : (levAts L lv : sProp 𝕄) ⊢ MayWait (c : Thread nD τ) (.dma sm) () O)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {kk : PUnit → Prog (TpuEff nD τ sig (Elt F) Λ₀ .tc) α} {Q : α → sProp 𝕄} :
    iprop(Inv SN RE K ((c : Thread nD τ), .dma sm) ∗ levAts L lv ∗ (cred (tallyAt ((c : Thread nD τ), .dma sm) () N) ∗ atPos ER ((c : Thread nD τ), .dma sm) 0 ∅ 0) ∗ owesE c O)
      ⊢ iprop((((atPos ER ((c : Thread nD τ), .dma sm) 1 ∅ 0 ∗ (Rd SN RE).payload ((c : Thread nD τ), .dma sm) 0 p) ∗ owesE c O) -∗ WP c (kk ⟨⟩) Q)
        -∗ WP c (.op (.waitDma2 sm src dst hsrc hdst) kk) Q) := by
  unfold owesE
  iintro ⟨#HI, #HL, ⟨Hc, Hat⟩, ⟨%W, HO⟩⟩ Hk
  iapply (Rounds.wp_wait_rest_token 𝒱₀ ER (Rd SN RE) (c : Thread nD τ) none (κ := K ((c : Thread nD τ), .dma sm))
      (wpE_waitDma2_eq 𝒱₀ (c : Thread nD τ) none Set.univ) (Set.mem_univ _) () (O := O) (W := W) (R := 0) (m := 0) (T := ∅)
      ((Nat.zero_add _).trans (hN.trans he.symm))) $$ [Hc HO Hat]
  · isplitr; · iexact HI
    isplitl [Hc]; · rw [hN]; iexact Hc
    isplitl [HO]; · iexact HO
    isplitr; · iapply hmay; iexact HL
    iexact Hat
  rw [Finset.sdiff_empty, hd, bigSep_singleton]
  iintro ⟨HO, Hat, -, Hp⟩
  iapply Hk
  isplitr [HO]
  · isplitl [Hat]; · iexact Hat
    iexact Hp
  · iexists _; iexact HO

theorem may_zero (c : Dev nD) (sm : SemLoc sig) : (levAts L lv : sProp 𝕄) ⊢ MayWait (c : Thread nD τ) sm () 0 := by
  rw [MayWait_zero]; iintro H; iempintro

/-! ## The waits for the first copies -/

/-- Waited for from `peer c 30` down to `peer c n`: those slots hold what they were sent. -/
def Cs (c : Dev nD) (n : ℕ) : sProp 𝕄 :=
  iprop(Ctx SN RE K ∗ (bigSep (Finset.range n) fun i => iprop(cred (tallyAt (r1Cell c (peer c i)) () N) ∗ atPos ER (r1Cell c (peer c i)) 0 ∅ 0))
    ∗ (bigSep (Finset.Ico n 31) fun i => iprop(atPos ER (r1Cell c (peer c i)) 1 ∅ 0 ∗ rsPt c (peer c i) (rsC SN c)))
    ∗ owesE c (r2O c 0))

theorem step_r1 (c : Dev nD) (k : ℕ) (hk : k < 31)
    {o3 : Fin 1 → ℕ} {o4 : Fin 3 → ℕ} {h3 : ∀ a, o3 a + S1.size a ≤ S32.size a} {h4 : ∀ a, o4 a + S1x64x1024.size a ≤ S32x64x1024.size a}
    (e3 : o3 = ![(peer c k).val])
    {sp' : Space} {s' : Shape} {e' : EltTy} {src : Memref sig .tc sp' s' e'} {hsrc : src.view.WordExact}
    {hdst : ((rsM.slice (Rect.unit (s := S32x64x1024) o4 S1x64x1024.size h4) (fun _ => rfl)).squeeze S64x1024 squeezes_S1x64x1024_S64x1024).view.WordExact}
    {α : Type} {kk : PUnit → Prog (TpuEff nD τ sig (Elt F) Λ₀ .tc) α} {Q : α → sProp 𝕄} :
    Cs SN RE K c (k + 1) ⊢ iprop((Cs SN RE K c k -∗ WP c (kk ⟨⟩) Q)
      -∗ WP c (.op (.waitDma2 ((cc0_scratch4.slice (Rect.unit (s := S32) o3 S1.size h3)).squeeze S_ squeezes_S1_S_).sem src
        ((rsM.slice (Rect.unit (s := S32x64x1024) o4 S1x64x1024.size h4) (fun _ => rfl)).squeeze S64x1024 squeezes_S1x64x1024_S64x1024) hsrc hdst) kk) Q) := by
  subst e3
  unfold Cs
  rw [bigSep_range_step, bigSep_Ico_step hk]
  iintro ⟨#HC, ⟨Hw, Hws⟩, Hd, HO⟩ Hk
  ihave #Hi := (Ctx_dma SN RE K c (peer c k)) $$ HC
  icases Hi with ⟨-, #HI, -⟩
  ihave #HL := (Ctx_lev SN RE K) $$ HC
  iapply (wait_one SN RE K c (peer c k) (sm := semAt cc0_scratch4 (peer c k)) (duties_r1 SN RE c _ (peer_ne c k hk)) (expect_r1 SN RE c _ (peer_ne c k hk))
    (r2O c 0) (mayWait_r1 c (peer c k))
    (dst := (rsM.slice (Rect.unit (s := S32x64x1024) o4 S1x64x1024.size h4) (fun _ => rfl)).squeeze S64x1024 squeezes_S1x64x1024_S64x1024) rfl) $$ [Hw HO]
  · isplitr; · iexact HI
    isplitr; · iexact HL
    isplitl [Hw]; · iexact Hw
    iexact HO
  rw [payload_r1]
  iintro ⟨Hat, HO⟩
  iapply Hk
  isplitr; · iexact HC
  isplitl [Hws]; · iexact Hws
  isplitr [HO]
  · isplitl [Hat]; · iexact Hat
    iexact Hd
  · iexact HO

/-- What a load of the slot of `peer c k` gives. -/
def rsLd (c : Dev nD) (k : ℕ) : S1x64x1024.Idx → Elt F .bf16 :=
  rsM.view.readAt (Elt F) (Rect.unit (s := S32x64x1024) ![(peer c k).val, 0, 0] S1x64x1024.size (inb_slot (peer c k))).toLoadRect (rsC SN c)

abbrev slotR (p : Dev nD) : Rect S32x64x1024 := Rect.unit (s := S32x64x1024) ![p.val, 0, 0] S1x64x1024.size (inb_slot p)

theorem slot_set (p : Dev nD) : (rsSl p).view.set = (rsM.access (slotR p)).set :=
  View.set_reshape (rsM.access (slotR p)) (squeezes_S1x64x1024_S64x1024).numel_eq

theorem step_ldrs (c : Dev nD) (n k : ℕ) (hn : n ≤ k) (hk : k < 31)
    {o5 : Fin 3 → ℕ} {h5 : ∀ a, o5 a + S1x64x1024.size a ≤ S32x64x1024.size a} (e5 : o5 = ![(peer c k).val, 0, 0])
    {hl : rsM.view.LoadsAt (Rect.unit (s := S32x64x1024) o5 S1x64x1024.size h5).toLoadRect}
    {α : Type} {kk : (S1x64x1024.Idx → Elt F .bf16) → Prog (TpuEff nD τ sig (Elt F) Λ₀ .tc) α} {Q : α → sProp 𝕄} :
    Cs SN RE K c n ⊢ iprop((Cs SN RE K c n -∗ WP c (kk (rsLd SN c k)) Q)
      -∗ WP c (.op (.load rsM (Rect.unit (s := S32x64x1024) o5 S1x64x1024.size h5).toLoadRect hl) kk) Q) := by
  subst e5
  unfold Cs
  iintro ⟨#HC, Hws, Hd, HO⟩ Hk
  ihave Hd := (bigSep_take (Finset.mem_Ico.mpr ⟨hn, hk⟩) (fun i => iprop(atPos ER (r1Cell c (peer c i)) 1 ∅ 0 ∗ rsPt c (peer c i) (rsC SN c)))) $$ Hd
  icases Hd with ⟨⟨Hat, Hp⟩, Hb⟩
  unfold rsPt
  rw [slot_set (peer c k)]
  iapply (wp_load_rect 𝒱₀ (c : Thread nD τ) none Set.univ (m := rsM)
    (r := Rect.unit (s := S32x64x1024) ![(peer c k).val, 0, 0] S1x64x1024.size (inb_slot (peer c k))) (Finset.Subset.refl _)) $$ Hp
  iintro Hp
  iapply Hk
  isplitr; · iexact HC
  isplitl [Hws]; · iexact Hws
  isplitr [HO]
  · iapply Hb
    isplitl [Hat]; · iexact Hat
    iexact Hp
  · iexact HO

end Cert.Proof
-- ==== Proof.Steps2.lean ====
/-
  The rest of the communication, operation by operation: the reduced rows' stores, the second copies, and the waits for both
  ends of all the copies.
-/
module

public import proofs.«01_k».proof.Proof.Steps

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F))
variable (K : GSem nD τ sig → ℕ)

/-! ## The reduced rows -/

theorem emp_mid (P : sProp 𝕄) : iprop(BI.emp ∗ P ∗ BI.emp) = P := by
  refine BI.Entails.antisymm ?_ ?_
  · show iprop(BI.emp ∗ P ∗ BI.emp) ⊢ P
    iintro ⟨-, H, -⟩; iexact H
  · show P ⊢ iprop(BI.emp ∗ P ∗ BI.emp)
    iintro H
    isplitr; · iempintro
    isplitl [H]; · iexact H
    iempintro

/-- The chunk of the send buffer that stays here. -/
theorem Sn_own (f : (cc0_scratch2 : Ref sig .tc).ty.Contents (Elt F)) (c : Dev nD) : Sn SN f c 4 31 = sPt c c (SN c) := by
  unfold Sn
  rw [show 8 * 4 = 31 + 1 from rfl, show (32 : ℕ) = 31 + 1 from rfl, bigSep_Ico_self, bigSep_Ico_step (Nat.lt_succ_self 31), bigSep_Ico_self, ord_last]
  exact emp_mid _

/-- What a load of that chunk gives. -/
def ownLd (c : Dev nD) : S64x1024.Idx → Elt F .bf16 :=
  sndM.view.readAt (Elt F) (Rect.unit (s := S2048x1024) ![64 * c.val, 0] S64x1024.size (inb_rows c)).toLoadRect (SN c)

theorem step_ldown (c : Dev nD) {o : Fin 2 → ℕ} {ho : ∀ a, o a + S64x1024.size a ≤ S2048x1024.size a} (e : o = ![64 * c.val, 0])
    {hl : sndM.view.LoadsAt (Rect.unit (s := S2048x1024) o S64x1024.size ho).toLoadRect}
    {α : Type} {kk : (S64x1024.Idx → Elt F .bf16) → Prog (TpuEff nD τ sig (Elt F) Λ₀ .tc) α} {Q : α → sProp 𝕄} :
    sPt c c (SN c) ⊢ iprop((sPt c c (SN c) -∗ WP c (kk (ownLd SN c)) Q)
      -∗ WP c (.op (.load sndM (Rect.unit (s := S2048x1024) o S64x1024.size ho).toLoadRect hl) kk) Q) := by
  subst e
  unfold sPt
  iintro H Hk
  iapply (wp_load_rect 𝒱₀ (c : Thread nD τ) none Set.univ (m := sndM)
    (r := Rect.unit (s := S2048x1024) ![64 * c.val, 0] S64x1024.size (inb_rows c)) (Finset.Subset.refl _)) $$ H
  iintro H
  iapply Hk
  iexact H

/-- The whole of the reduced rows' buffer, and the rows of the result that are `c`'s own: loads nothing depends on, and the stores. -/
def redAll (c : Dev nD) (f : (cc0_scratch1 : Ref sig .tc).ty.Contents (Elt F)) : sProp 𝕄 := ((c : Thread nD τ).loc cc0_scratch1) ↦{fullShare} f

abbrev redR : Rect S64x1024 := Rect.unit (s := S64x1024) ![0, 0] S64x1024.size inb_S64x1024_S64x1024_0_0

theorem emb_red (x : S64x1024.Idx) : (redM.access redR).emb x = x := by
  show redR.emb x = x
  funext a
  apply Fin.ext
  rw [Rect.emb_apply]
  match a with
  | ⟨0, _⟩ => show 0 + 1 * (x 0).val = (x 0).val; omega
  | ⟨1, _⟩ => show 0 + 1 * (x 1).val = (x 1).val; omega

theorem step_ldred (c : Dev nD) (f : (cc0_scratch1 : Ref sig .tc).ty.Contents (Elt F)) {hl : redM.view.LoadsAt redR.toLoadRect}
    {α : Type} {kk : (S64x1024.Idx → Elt F .bf16) → Prog (TpuEff nD τ sig (Elt F) Λ₀ .tc) α} {Q : α → sProp 𝕄} :
    redAll c f ⊢ iprop((∀ v, redAll c f -∗ WP c (kk v) Q) -∗ WP c (.op (.load redM redR.toLoadRect hl) kk) Q) := by
  unfold redAll
  iintro H Hk
  iapply (wp_load 𝒱₀ (c : Thread nD τ) none Set.univ (m := redM) (r := redR.toLoadRect) (S := Finset.univ) (Finset.subset_univ _)) $$ H
  iintro H
  iapply Hk
  iexact H

theorem step_stred (c : Dev nD) (f : (cc0_scratch1 : Ref sig .tc).ty.Contents (Elt F)) {w : S64x1024.Idx → Elt F .bf16} (hw : ∀ x, w x = RE c x)
    {hx : (redM.access redR).Stores Finset.univ} {hm}
    {α : Type} {kk : PUnit → Prog (TpuEff nD τ sig (Elt F) Λ₀ .tc) α} {Q : α → sProp 𝕄} :
    redAll c f ⊢ iprop((redAll c (RE c) -∗ WP c (kk ⟨⟩) Q) -∗ WP c (.op (.store redM redR w Finset.univ hx hm) kk) Q) := by
  have hf : (redM.access redR).write (Elt F) f w Finset.univ = RE c := by
    funext x
    have e := View.write_emb_of_mem (v := redM.access redR) (Val := Elt F) f w (Finset.mem_univ x)
    rw [emb_red] at e
    exact e.trans (hw x)
  unfold redAll
  iintro H Hk
  iapply (wp_store 𝒱₀ (c : Thread nD τ) none Set.univ (m := redM) (r := redR) (Mk := Finset.univ) (S := Finset.univ) (Finset.subset_univ _)) $$ H
  rw [hf]
  iintro H
  iapply Hk
  iexact H

theorem step_ldout (c : Dev nD) (f : (cc0_stg3_0 : Ref sig .tc).ty.Contents (Elt F)) {o : Fin 2 → ℕ} {ho : ∀ a, o a + S64x1024.size a ≤ S2048x1024.size a}
    (e : o = ![64 * c.val, 0]) {hl : oM.view.LoadsAt (Rect.unit (s := S2048x1024) o S64x1024.size ho).toLoadRect}
    {α : Type} {kk : (S64x1024.Idx → Elt F .bf16) → Prog (TpuEff nD τ sig (Elt F) Λ₀ .tc) α} {Q : α → sProp 𝕄} :
    oPt c c f ⊢ iprop((∀ v, oPt c c f -∗ WP c (kk v) Q)
      -∗ WP c (.op (.load oM (Rect.unit (s := S2048x1024) o S64x1024.size ho).toLoadRect hl) kk) Q) := by
  subst e
  unfold oPt
  iintro H Hk
  iapply (wp_load_rect 𝒱₀ (c : Thread nD τ) none Set.univ (m := oM)
    (r := Rect.unit (s := S2048x1024) ![64 * c.val, 0] S64x1024.size (inb_rows c)) (Finset.Subset.refl _)) $$ H
  iintro H
  iapply Hk
  iexact H

theorem step_stout (c : Dev nD) (f : (cc0_stg3_0 : Ref sig .tc).ty.Contents (Elt F)) {o : Fin 2 → ℕ} {ho : ∀ a, o a + S64x1024.size a ≤ S2048x1024.size a}
    (e : o = ![64 * c.val, 0]) {w : S64x1024.Idx → Elt F .bf16} (hw : ∀ x, w x = RE c x)
    {hx : (oM.access (Rect.unit (s := S2048x1024) o S64x1024.size ho)).Stores Finset.univ} {hm}
    {α : Type} {kk : PUnit → Prog (TpuEff nD τ sig (Elt F) Λ₀ .tc) α} {Q : α → sProp 𝕄} :
    oPt c c f ⊢ iprop((oPt c c (outC RE) -∗ WP c (kk ⟨⟩) Q)
      -∗ WP c (.op (.store oM (Rect.unit (s := S2048x1024) o S64x1024.size ho) w Finset.univ hx hm) kk) Q) := by
  subst e
  iintro H Hk
  unfold oPt
  iapply (wp_store 𝒱₀ (c : Thread nD τ) none Set.univ (m := oM) (r := Rect.unit (s := S2048x1024) ![64 * c.val, 0] S64x1024.size (inb_rows c))
    (Mk := Finset.univ) (S := (oSl c).view.set) (Finset.Subset.refl _)) $$ H
  iintro H
  ihave H := (Entails.of_eq (o_landed RE c c f w hw)) $$ H
  iapply Hk
  unfold oPt
  iexact H

/-! ## The second copies -/

/-- The second copies from the `k`-th on are still to be sent. -/
def Es (c : Dev nD) (k : ℕ) : sProp 𝕄 :=
  iprop(Ctx SN RE K ∗ (bigSep (Finset.Ico k 31) fun i => iprop(snd2 c i ∗ redPt c (peer c i) (RE c)))
    ∗ (bigSep (Finset.range k) fun i => cred (tallyAt (s2Cell c (peer c i)) () N)) ∗ owesE c (r2O c k))

/-- All the shares of the reduced rows but `c`'s own, and that. -/
theorem red_split (c : Dev nD) : redAll c (RE c) = iprop(redPt c c (RE c) ∗ bigSep (Finset.range 31) fun i => redPt c (peer c i) (RE c)) := by
  unfold redAll
  rw [red_whole c (RE c), bigSep_univ_split c, bigSep_peer c]
  rfl

theorem step_send2 (c : Dev nD) (k : ℕ) (hk : k < 31)
    {o3 o6 : Fin 1 → ℕ} {o7 : Fin 2 → ℕ} {n : ℕ} {hn : n < nD}
    {h3 : ∀ a, o3 a + S1.size a ≤ S32.size a} {h6 : ∀ a, o6 a + S1.size a ≤ S32.size a} {h7 : ∀ a, o7 a + S64x1024.size a ≤ S2048x1024.size a}
    (e3 : o3 = ![(peer c k).val]) (e6 : o6 = ![c.val]) (e7 : o7 = ![64 * c.val, 0]) (en : n = (peer c k).val)
    {hsrc : redM.view.WordExact}
    {hdst : (oM.slice (Rect.unit (s := S2048x1024) o7 S64x1024.size h7) (fun _ => rfl)).view.WordExact}
    {hsc : (oM.slice (Rect.unit (s := S2048x1024) o7 S64x1024.size h7) (fun _ => rfl)).view.ref.isScScratch = false}
    {hsem}
    {α : Type} {kk : PUnit → Prog (TpuEff nD τ sig (Elt F) Λ₀ .tc) α} {Q : α → sProp 𝕄} :
    Es SN RE K c k ⊢ iprop((Es SN RE K c (k + 1) -∗ WP c (kk ⟨⟩) Q)
      -∗ WP c (.op (.enqueueDma redM
          (.remote (Dev.tc (⟨n, hn⟩ : Dev nD)) (oM.slice (Rect.unit (s := S2048x1024) o7 S64x1024.size h7) (fun _ => rfl))
            (.dma ((cc0_scratch5.slice (Rect.unit (s := S32) o3 S1.size h3)).squeeze S_ squeezes_S1_S_).sem) hsc)
          (.dma ((cc0_scratch6.slice (Rect.unit (s := S32) o6 S1.size h6)).squeeze S_ squeezes_S1_S_).sem) hsrc hdst hsem) kk) Q) := by
  subst e3 e6 e7 en
  unfold Es owesE
  rw [bigSep_Ico_step hk, bigSep_range_step]
  unfold snd2 pre2
  iintro ⟨#HC, ⟨⟨⟨⟨Ht1, #HR1, Ht2⟩, ⟨%fd, Hd⟩, #HR2⟩, Hp⟩, Hs⟩, Hcr, ⟨%W, HO⟩⟩ Hk
  ihave #Hi1 := (Ctx_dma SN RE K c (peer c k)) $$ HC
  ihave #Hi2 := (Ctx_dma SN RE K (peer c k) c) $$ HC
  icases Hi1 with ⟨-, -, #HI1, -⟩
  icases Hi2 with ⟨-, -, -, #HI2⟩
  unfold oPt redPt
  iapply (Rounds.wp_send_pointsTo 𝒱₀ ER (Rd SN RE) (c : Thread nD τ) none (c' := (peer c k : Thread nD τ)) (src := redM) (dst := oSl c)
      (sS := .dma (semAt cc0_scratch5 (peer c k))) (sem := .dma (semAt cc0_scratch6 c)) (q := lf (peer c k)) (fs := RE c)
      (κ₁ := K (s2Cell c (peer c k))) (κ₂ := K (r2Cell (peer c k) c)) (r₁ := 0) (r₂ := 0) (d₁ := peer c k) (d₂ := c) (fd := fd)
      (by rw [duties_s2 SN RE c _ (peer_ne c k hk)]; exact Finset.mem_singleton_self _)
      (by rw [duties_r2 SN RE _ c (peer_ne c k hk).symm]; exact Finset.mem_singleton_self _)
      () () N rfl (amount_s2 SN RE c _ _) (amount_r2 SN RE _ c _) (O₀ := r2O c k) (r2O c (k + 1))
      (r2O_step c k hk) (W := W)
      (by rw [payload_s2]; exact BI.Entails.refl _)
      (by rw [payload_r2]; exact Entails.of_eq (o_landed RE c (peer c k) fd (redM.view.read (Elt F) (RE c)) fun _ => rfl))) $$ [Ht1 Ht2 Hd HO Hp]
  · isplitr; · iexact HI1
    isplitr; · iexact HI2
    isplitl [Hp]; · iexact Hp
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitr; · iexact HC
  isplitl [Hs]; · iexact Hs
  isplitr [HO]
  · isplitl [Hc]; · iexact Hc
    iexact Hcr
  · iexists W; iexact HO

/-! ## The waits for the second copies -/

/-- Waited for from `peer c 30` down to `peer c n`: those rows of the result are there. -/
def Fs (c : Dev nD) (n : ℕ) : sProp 𝕄 :=
  iprop(Ctx SN RE K ∗ (bigSep (Finset.range n) fun i => iprop(cred (tallyAt (r2Cell c (peer c i)) () N) ∗ atPos ER (r2Cell c (peer c i)) 0 ∅ 0))
    ∗ (bigSep (Finset.Ico n 31) fun i => iprop(atPos ER (r2Cell c (peer c i)) 1 ∅ 0 ∗ oPt c (peer c i) (outC RE)))
    ∗ owesE c 0)

theorem step_r2 (c : Dev nD) (k : ℕ) (hk : k < 31)
    {o3 : Fin 1 → ℕ} {o4 : Fin 2 → ℕ} {h3 : ∀ a, o3 a + S1.size a ≤ S32.size a} {h4 : ∀ a, o4 a + S64x1024.size a ≤ S2048x1024.size a}
    (e3 : o3 = ![(peer c k).val])
    {sp' : Space} {s' : Shape} {e' : EltTy} {src : Memref sig .tc sp' s' e'} {hsrc : src.view.WordExact}
    {hdst : (oM.slice (Rect.unit (s := S2048x1024) o4 S64x1024.size h4) (fun _ => rfl)).view.WordExact}
    {α : Type} {kk : PUnit → Prog (TpuEff nD τ sig (Elt F) Λ₀ .tc) α} {Q : α → sProp 𝕄} :
    Fs SN RE K c (k + 1) ⊢ iprop((Fs SN RE K c k -∗ WP c (kk ⟨⟩) Q)
      -∗ WP c (.op (.waitDma2 ((cc0_scratch6.slice (Rect.unit (s := S32) o3 S1.size h3)).squeeze S_ squeezes_S1_S_).sem src
        (oM.slice (Rect.unit (s := S2048x1024) o4 S64x1024.size h4) (fun _ => rfl)) hsrc hdst) kk) Q) := by
  subst e3
  unfold Fs
  rw [bigSep_range_step, bigSep_Ico_step hk]
  iintro ⟨#HC, ⟨Hw, Hws⟩, Hd, HO⟩ Hk
  ihave #Hi := (Ctx_dma SN RE K c (peer c k)) $$ HC
  icases Hi with ⟨-, -, -, #HI⟩
  ihave #HL := (Ctx_lev SN RE K) $$ HC
  iapply (wait_one SN RE K c (peer c k) (sm := semAt cc0_scratch6 (peer c k)) (duties_r2 SN RE c _ (peer_ne c k hk)) (expect_r2 SN RE c _ (peer_ne c k hk))
    0 (may_zero c _) (dst := oM.slice (Rect.unit (s := S2048x1024) o4 S64x1024.size h4) (fun _ => rfl)) rfl) $$ [Hw HO]
  · isplitr; · iexact HI
    isplitr; · iexact HL
    isplitl [Hw]; · iexact Hw
    iexact HO
  rw [payload_r2]
  iintro ⟨Hat, HO⟩
  iapply Hk
  isplitr; · iexact HC
  isplitl [Hws]; · iexact Hws
  isplitr [HO]
  · isplitl [Hat]; · iexact Hat
    iexact Hd
  · iexact HO

/-! ## The waits for the sends -/

/-- The first sends to the devices from `n` on are still to be waited for; -/
def Gs (c : Dev nD) (n : ℕ) : sProp 𝕄 :=
  iprop(Ctx SN RE K ∗ (bigSep ((Finset.univ.erase c).filter fun q => n ≤ q.val) fun q => iprop(cred (tallyAt (s1Cell c q) () N) ∗ atPos ER (s1Cell c q) 0 ∅ 0))
    ∗ (bigSep ((Finset.univ.erase c).filter fun q => q.val < n) fun q => iprop(atPos ER (s1Cell c q) 1 ∅ 0 ∗ sPt c q (SN c)))
    ∗ owesE c 0)

theorem todo_step (c q : Dev nD) (hq : q ≠ c) : ((Finset.univ.erase c).filter fun d : Dev nD => q.val ≤ d.val)
    = insert q ((Finset.univ.erase c).filter fun d : Dev nD => q.val + 1 ≤ d.val) := by
  ext d
  simp only [Finset.mem_filter, Finset.mem_erase, Finset.mem_univ, Finset.mem_insert, and_true]
  constructor
  · rintro ⟨h1, h2⟩
    by_cases h : d = q
    · exact Or.inl h
    · have : d.val ≠ q.val := fun e => h (Fin.ext e)
      exact Or.inr ⟨h1, by omega⟩
  · rintro (rfl | ⟨h1, h2⟩)
    · exact ⟨hq, le_refl _⟩
    · exact ⟨h1, by omega⟩
theorem done_step (c q : Dev nD) (hq : q ≠ c) : ((Finset.univ.erase c).filter fun d : Dev nD => d.val < q.val + 1)
    = insert q ((Finset.univ.erase c).filter fun d : Dev nD => d.val < q.val) := by
  ext d
  simp only [Finset.mem_filter, Finset.mem_erase, Finset.mem_univ, Finset.mem_insert, and_true]
  constructor
  · rintro ⟨h1, h2⟩
    by_cases h : d = q
    · exact Or.inl h
    · have : d.val ≠ q.val := fun e => h (Fin.ext e)
      exact Or.inr ⟨h1, by omega⟩
  · rintro (rfl | ⟨h1, h2⟩)
    · exact ⟨hq, Nat.lt_succ_self _⟩
    · exact ⟨h1, by omega⟩
theorem todo_skip (c : Dev nD) : ((Finset.univ.erase c).filter fun d : Dev nD => c.val ≤ d.val)
    = ((Finset.univ.erase c).filter fun d : Dev nD => c.val + 1 ≤ d.val) := by
  ext d
  simp only [Finset.mem_filter, Finset.mem_erase, Finset.mem_univ, and_true]
  refine and_congr_right fun h => ?_
  have : d.val ≠ c.val := fun e => h (Fin.ext e)
  omega
theorem done_skip (c : Dev nD) : ((Finset.univ.erase c).filter fun d : Dev nD => d.val < c.val + 1)
    = ((Finset.univ.erase c).filter fun d : Dev nD => d.val < c.val) := by
  ext d
  simp only [Finset.mem_filter, Finset.mem_erase, Finset.mem_univ, and_true]
  refine and_congr_right fun h => ?_
  have : d.val ≠ c.val := fun e => h (Fin.ext e)
  omega

theorem Gs_skip (c : Dev nD) : Gs SN RE K c c.val = Gs SN RE K c (c.val + 1) := by
  unfold Gs; rw [todo_skip, done_skip]

/-- A wait for the send to `q`, which the program leaves out if `q` is the device itself. -/
theorem step_s1 (c q : Dev nD) {P : Prop} [Decidable P] (hP : P ↔ q ≠ c)
    {h3 : ∀ a, (![q.val] : Fin 1 → ℕ) a + S1.size a ≤ S32.size a} {o4 : Fin 2 → ℕ} {h4 : ∀ a, o4 a + S64x1024.size a ≤ S2048x1024.size a}
    {sp' : Space} {s' : Shape} {e' : EltTy} {src : P → Memref sig .tc sp' s' e'} {hsrc : ∀ h, (src h).view.WordExact}
    {hdst : (sndM.slice (Rect.unit (s := S2048x1024) o4 S64x1024.size h4) (fun _ => rfl)).view.WordExact}
    {α : Type} {kk : PUnit → Prog (TpuEff nD τ sig (Elt F) Λ₀ .tc) α} {Q : α → sProp 𝕄} :
    Gs SN RE K c q.val ⊢ iprop((Gs SN RE K c (q.val + 1) -∗ WP c (kk ⟨⟩) Q)
      -∗ WP c (if h : P then .op (.waitDma2 ((cc0_scratch3.slice (Rect.unit (s := S32) ![q.val] S1.size h3)).squeeze S_ squeezes_S1_S_).sem (src h)
        (sndM.slice (Rect.unit (s := S2048x1024) o4 S64x1024.size h4) (fun _ => rfl)) (hsrc h) hdst) (fun _ => kk ⟨⟩) else kk ⟨⟩) Q) := by
  by_cases hq : q = c
  · subst hq
    rw [dif_neg (fun h => hP.mp h rfl), Gs_skip]
    iintro H Hk
    iapply Hk; iexact H
  · rw [dif_pos (hP.mpr hq)]
    unfold Gs
    rw [todo_step c q hq, done_step c q hq, bigSep_insert (by simp), bigSep_insert (by simp)]
    show iprop(Ctx SN RE K ∗ ((cred (tallyAt (s1Cell c q) () N) ∗ atPos ER (s1Cell c q) 0 ∅ 0) ∗ _) ∗ _ ∗ owesE c 0) ⊢
      iprop((iprop(Ctx SN RE K ∗ _ ∗ ((atPos ER (s1Cell c q) 1 ∅ 0 ∗ sPt c q (SN c)) ∗ _) ∗ owesE c 0) -∗ _) -∗ _)
    iintro ⟨#HC, ⟨Hw, Hws⟩, Hd, HO⟩ Hk
    ihave #Hi := (Ctx_dma SN RE K c q) $$ HC
    icases Hi with ⟨#HI, -⟩
    ihave #HL := (Ctx_lev SN RE K) $$ HC
    iapply (wait_one SN RE K c q (sm := semAt cc0_scratch3 q) (duties_s1 SN RE c _ hq) (expect_s1 SN RE c _ hq)
      0 (may_zero c _) (dst := sndM.slice (Rect.unit (s := S2048x1024) o4 S64x1024.size h4) (fun _ => rfl)) rfl) $$ [Hw HO]
    · isplitr; · iexact HI
      isplitr; · iexact HL
      isplitl [Hw]; · iexact Hw
      iexact HO
    rw [payload_s1]
    iintro ⟨Hat, HO⟩
    iapply Hk
    isplitr; · iexact HC
    isplitl [Hws]; · iexact Hws
    isplitr [HO]
    · isplitl [Hat]; · iexact Hat
      iexact Hd
    · iexact HO

/-- the second sends from the `k`-th on are. -/
def Hs (c : Dev nD) (k : ℕ) : sProp 𝕄 :=
  iprop(Ctx SN RE K ∗ (bigSep (Finset.Ico k 31) fun i => iprop(cred (tallyAt (s2Cell c (peer c i)) () N) ∗ atPos ER (s2Cell c (peer c i)) 0 ∅ 0))
    ∗ (bigSep (Finset.range k) fun i => iprop(atPos ER (s2Cell c (peer c i)) 1 ∅ 0 ∗ redPt c (peer c i) (RE c)))
    ∗ owesE c 0)

theorem step_s2 (c : Dev nD) (k : ℕ) (hk : k < 31)
    {o3 : Fin 1 → ℕ} {h3 : ∀ a, o3 a + S1.size a ≤ S32.size a} (e3 : o3 = ![(peer c k).val])
    {sp' : Space} {s' : Shape} {e' : EltTy} {src : Memref sig .tc sp' s' e'} {hsrc : src.view.WordExact} {hdst : redM.view.WordExact}
    {α : Type} {kk : PUnit → Prog (TpuEff nD τ sig (Elt F) Λ₀ .tc) α} {Q : α → sProp 𝕄} :
    Hs SN RE K c k ⊢ iprop((Hs SN RE K c (k + 1) -∗ WP c (kk ⟨⟩) Q)
      -∗ WP c (.op (.waitDma2 ((cc0_scratch5.slice (Rect.unit (s := S32) o3 S1.size h3)).squeeze S_ squeezes_S1_S_).sem src redM hsrc hdst) kk) Q) := by
  subst e3
  unfold Hs
  rw [bigSep_range_step, bigSep_Ico_step hk]
  iintro ⟨#HC, ⟨Hw, Hws⟩, Hd, HO⟩ Hk
  ihave #Hi := (Ctx_dma SN RE K c (peer c k)) $$ HC
  icases Hi with ⟨-, -, #HI, -⟩
  ihave #HL := (Ctx_lev SN RE K) $$ HC
  iapply (wait_one SN RE K c (peer c k) (sm := semAt cc0_scratch5 (peer c k)) (duties_s2 SN RE c _ (peer_ne c k hk)) (expect_s2 SN RE c _ (peer_ne c k hk))
    0 (may_zero c _) (dst := redM) rfl) $$ [Hw HO]
  · isplitr; · iexact HI
    isplitr; · iexact HL
    isplitl [Hw]; · iexact Hw
    iexact HO
  rw [payload_s2]
  iintro ⟨Hat, HO⟩
  iapply Hk
  isplitr; · iexact HC
  isplitl [Hws]; · iexact Hws
  isplitr [HO]
  · isplitl [Hat]; · iexact Hat
    iexact Hd
  · iexact HO

/-! ## The staged inputs -/

section Inputs

variable (xs : (cc0_stg0_0 : Ref sig .tc).ty.Contents (Elt F)) (gs : (cc0_stg1_0 : Ref sig .tc).ty.Contents (Elt F))
  (ws : (cc0_stg2_0 : Ref sig .tc).ty.Contents (Elt F))

/-- The activations, the gates and the experts' weights in device `c`'s staging buffers. -/
def inPts (c : Dev nD) : sProp 𝕄 :=
  iprop((((c : Thread nD τ).loc cc0_stg0_0) ↦{fullShare} xs) ∗ (((c : Thread nD τ).loc cc0_stg1_0) ↦{fullShare} gs)
    ∗ (((c : Thread nD τ).loc cc0_stg2_0) ↦{fullShare} ws))

theorem inb_x (t : Fin 4) : ∀ a, (![512 * t.val, 0] : Fin 2 → Nat) a + S512x512.size a ≤ S2048x512.size a := by revert t; decide
theorem inb_g (t : Fin 4) : ∀ a, (![512 * t.val, 0] : Fin 2 → Nat) a + S512x4.size a ≤ S2048x4.size a := by revert t; decide
theorem inb_w (e : Fin 4) : ∀ a, (![e.val, 0, 0] : Fin 3 → Nat) a + S1x512x1024.size a ≤ S4x512x1024.size a := by revert e; decide

/-- 512 rows of the activations, of the gates, and one expert's weights, as loads give them. -/
def ldX (t : Fin 4) : S512x512.Idx → Elt F .bf16 :=
  xM.view.readAt (Elt F) (Rect.unit (s := S2048x512) ![512 * t.val, 0] S512x512.size (inb_x t)).toLoadRect xs
def ldG (t : Fin 4) : S512x4.Idx → Elt F .bf16 :=
  gM.view.readAt (Elt F) (Rect.unit (s := S2048x4) ![512 * t.val, 0] S512x4.size (inb_g t)).toLoadRect gs
def ldW (e : Fin 4) : S1x512x1024.Idx → Elt F .bf16 :=
  wM.view.readAt (Elt F) (Rect.unit (s := S4x512x1024) ![e.val, 0, 0] S1x512x1024.size (inb_w e)).toLoadRect ws

/-- What block `t` of the send buffer is filled with. -/
def blkVal (t : Fin 4) : S512x1024.Idx → Elt F .bf16 :=
  k0_pay5 (k0_pay1 (ldX xs t)) (k0_pay2 (ldG gs t)) (k0_pay3 (ldX xs t) (ldG gs t) (ldW ws 0)) (k0_pay4 (ldX xs t) (ldG gs t) (ldW ws 1)) (ldW ws 2) (ldW ws 3)

theorem step_ldx (c : Dev nD) (t : Fin 4) {o : Fin 2 → ℕ} {ho : ∀ a, o a + S512x512.size a ≤ S2048x512.size a} (e : o = ![512 * t.val, 0])
    {hl : xM.view.LoadsAt (Rect.unit (s := S2048x512) o S512x512.size ho).toLoadRect}
    {α : Type} {kk : (S512x512.Idx → Elt F .bf16) → Prog (TpuEff nD τ sig (Elt F) Λ₀ .tc) α} {Q : α → sProp 𝕄} :
    inPts xs gs ws c ⊢ iprop((inPts xs gs ws c -∗ WP c (kk (ldX xs t)) Q)
      -∗ WP c (.op (.load xM (Rect.unit (s := S2048x512) o S512x512.size ho).toLoadRect hl) kk) Q) := by
  subst e
  unfold inPts
  iintro ⟨H, H1⟩ Hk
  iapply (wp_load 𝒱₀ (c : Thread nD τ) none Set.univ (m := xM) (S := Finset.univ) (Finset.subset_univ _)) $$ H
  iintro H
  iapply Hk
  isplitl [H]; · iexact H
  iexact H1

theorem step_ldg (c : Dev nD) (t : Fin 4) {o : Fin 2 → ℕ} {ho : ∀ a, o a + S512x4.size a ≤ S2048x4.size a} (e : o = ![512 * t.val, 0])
    {hl : gM.view.LoadsAt (Rect.unit (s := S2048x4) o S512x4.size ho).toLoadRect}
    {α : Type} {kk : (S512x4.Idx → Elt F .bf16) → Prog (TpuEff nD τ sig (Elt F) Λ₀ .tc) α} {Q : α → sProp 𝕄} :
    inPts xs gs ws c ⊢ iprop((inPts xs gs ws c -∗ WP c (kk (ldG gs t)) Q)
      -∗ WP c (.op (.load gM (Rect.unit (s := S2048x4) o S512x4.size ho).toLoadRect hl) kk) Q) := by
  subst e
  unfold inPts
  iintro ⟨H1, H, H2⟩ Hk
  iapply (wp_load 𝒱₀ (c : Thread nD τ) none Set.univ (m := gM) (S := Finset.univ) (Finset.subset_univ _)) $$ H
  iintro H
  iapply Hk
  isplitl [H1]; · iexact H1
  isplitl [H]; · iexact H
  iexact H2

theorem step_ldw (c : Dev nD) (k : Fin 4) {o : Fin 3 → ℕ} {ho : ∀ a, o a + S1x512x1024.size a ≤ S4x512x1024.size a} (e : o = ![k.val, 0, 0])
    {hl : wM.view.LoadsAt (Rect.unit (s := S4x512x1024) o S1x512x1024.size ho).toLoadRect}
    {α : Type} {kk : (S1x512x1024.Idx → Elt F .bf16) → Prog (TpuEff nD τ sig (Elt F) Λ₀ .tc) α} {Q : α → sProp 𝕄} :
    inPts xs gs ws c ⊢ iprop((inPts xs gs ws c -∗ WP c (kk (ldW ws k)) Q)
      -∗ WP c (.op (.load wM (Rect.unit (s := S4x512x1024) o S1x512x1024.size ho).toLoadRect hl) kk) Q) := by
  subst e
  unfold inPts
  iintro ⟨H1, H2, H⟩ Hk
  iapply (wp_load 𝒱₀ (c : Thread nD τ) none Set.univ (m := wM) (S := Finset.univ) (Finset.subset_univ _)) $$ H
  iintro H
  iapply Hk
  isplitl [H1]; · iexact H1
  isplitl [H2]; · iexact H2
  iexact H

end Inputs

/-! ## Putting the pieces of the program together -/

/-- A piece of the program and what follows it. -/
theorem wp_seq (c : Dev nD) {α β : Type} {p : Prog (TpuEff nD τ sig (Elt F) Λ₀ .tc) α} {kk : α → Prog (TpuEff nD τ sig (Elt F) Λ₀ .tc) β}
    {S : sProp 𝕄} {Φ : α → sProp 𝕄} {Q : β → sProp 𝕄} (h : S ⊢ WP c p Φ) :
    S ⊢ iprop((∀ r, Φ r -∗ WP c (kk r) Q) -∗ WP c (p >>= kk) Q) := by
  unfold WP at *
  rw [wp_bind]
  exact h.trans (wp_wand _ _ _)

theorem vec1 {a b : ℕ} (h : a = b) : (![a] : Fin 1 → ℕ) = ![b] := by rw [h]
theorem vec2 {a b : ℕ} (h : a = b) : (![a, 0] : Fin 2 → ℕ) = ![b, 0] := by rw [h]

/-- The block offsets the program computes. -/
theorem bord_eq (c : Dev nD) (r : Fin 4) : (![512 * ((c.val / 8 + r.val + 1) % 4), 0] : Fin 2 → ℕ) = ![512 * (bord c r.val).val, 0] :=
  vec2 (by show _ = 512 * ((c.val / 8 + 1 + r.val) % 4); omega)

end Cert.Proof
-- ==== Proof.Parts1.lean ====
module
public import proofs.«01_k».proof.Proof.Steps2

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F))
variable (K : GSem nD τ sig → ℕ)

theorem ret_intro (c : Dev nD) {α : Type} (a : α) (Φ : α → sProp 𝕄) : Φ a ⊢ WP c (.ret a) Φ := by
  unfold WP
  rw [wp_ret]
  iintro H
  imodintro
  iexact H

/-- The device the `j`-th of the first copies goes to, and its rows, as the program computes them. -/
theorem ord_val (c : Dev nD) (j n : ℕ) (h : n = 8 * ((c.val / 8 + 1 + j / 8) % 4) + (c.val % 8 + 1 + j % 8) % 8) : n = (ord c j).val := h
theorem ord_rows (c : Dev nD) (j n : ℕ) (h : n = 64 * (8 * ((c.val / 8 + 1 + j / 8) % 4) + (c.val % 8 + 1 + j % 8) % 8)) : n = 64 * (ord c j).val := h

/-! ## The first signals -/

theorem part3 (c : Dev nD) {a0 a1 a2 a3 a4 a5 a6 a7 a8 a9 : BitVec 32}:
    Sg SN RE K c 0 ⊢ WP c (k0_part3 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 (SemArray.scalar (sig.barrier 0 rfl) : Sems sig S_) a1 a2 a3 a4 a5 a6 a7 a8 a9)
      (fun _ => Sg SN RE K c 8) := by
  rw [k0_part3_eq_skeleton]
  unfold k0_part3_skel
  simp only [semSignalWord, semWaitWord, Prog.lift, Prog.bind_op, Prog.bind_ret, Prog.pure_eq_ret]
  iintro H
  iapply (step_signal SN RE K c 0 (by decide) (k0_dev1_lt c) (k0_dev1_eq c) _ _) $$ H
  iintro H
  iapply (step_signal SN RE K c 1 (by decide) (k0_dev2_lt c) (k0_dev2_eq c) _ _) $$ H
  iintro H
  iapply (step_signal SN RE K c 2 (by decide) (k0_dev3_lt c) (k0_dev3_eq c) _ _) $$ H
  iintro H
  iapply (step_signal SN RE K c 3 (by decide) (k0_dev4_lt c) (k0_dev4_eq c) _ _) $$ H
  iintro H
  iapply (step_signal SN RE K c 4 (by decide) (k0_dev5_lt c) (k0_dev5_eq c) _ _) $$ H
  iintro H
  iapply (step_signal SN RE K c 5 (by decide) (k0_dev6_lt c) (k0_dev6_eq c) _ _) $$ H
  iintro H
  iapply (step_signal SN RE K c 6 (by decide) (k0_dev7_lt c) (k0_dev7_eq c) _ _) $$ H
  iintro H
  iapply (step_signal SN RE K c 7 (by decide) (k0_dev8_lt c) (k0_dev8_eq c) _ _) $$ H
  iintro H
  iapply ret_intro
  iexact H

theorem part4 (c : Dev nD) {a0 a1 a2 a3 a4 a5 a6 a7 a8 a9 : BitVec 32}:
    Sg SN RE K c 8 ⊢ WP c (k0_part4 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c (SemArray.scalar (sig.barrier 0 rfl) : Sems sig S_) a0 a1 a2 a3 a4 a5 a6 a7 a8 a9)
      (fun _ => Sg SN RE K c 18) := by
  rw [k0_part4_eq_skeleton]
  unfold k0_part4_skel
  simp only [semSignalWord, semWaitWord, Prog.lift, Prog.bind_op, Prog.bind_ret, Prog.pure_eq_ret]
  iintro H
  iapply (step_signal SN RE K c 8 (by decide) (k0_dev9_lt c) (k0_dev9_eq c) _ _) $$ H
  iintro H
  iapply (step_signal SN RE K c 9 (by decide) (k0_dev10_lt c) (k0_dev10_eq c) _ _) $$ H
  iintro H
  iapply (step_signal SN RE K c 10 (by decide) (k0_dev11_lt c) (k0_dev11_eq c) _ _) $$ H
  iintro H
  iapply (step_signal SN RE K c 11 (by decide) (k0_dev12_lt c) (k0_dev12_eq c) _ _) $$ H
  iintro H
  iapply (step_signal SN RE K c 12 (by decide) (k0_dev13_lt c) (k0_dev13_eq c) _ _) $$ H
  iintro H
  iapply (step_signal SN RE K c 13 (by decide) (k0_dev14_lt c) (k0_dev14_eq c) _ _) $$ H
  iintro H
  iapply (step_signal SN RE K c 14 (by decide) (k0_dev15_lt c) (k0_dev15_eq c) _ _) $$ H
  iintro H
  iapply (step_signal SN RE K c 15 (by decide) (k0_dev16_lt c) (k0_dev16_eq c) _ _) $$ H
  iintro H
  iapply (step_signal SN RE K c 16 (by decide) (k0_dev17_lt c) (k0_dev17_eq c) _ _) $$ H
  iintro H
  iapply (step_signal SN RE K c 17 (by decide) (k0_dev18_lt c) (k0_dev18_eq c) _ _) $$ H
  iintro H
  iapply ret_intro
  iexact H

theorem part5 (c : Dev nD) {a0 a1 a2 a3 a4 a5 a6 a7 a8 a9 : BitVec 32}:
    Sg SN RE K c 18 ⊢ WP c (k0_part5 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c (SemArray.scalar (sig.barrier 0 rfl) : Sems sig S_) a0 a1 a2 a3 a4 a5 a6 a7 a8 a9)
      (fun _ => Sg SN RE K c 28) := by
  rw [k0_part5_eq_skeleton]
  unfold k0_part5_skel
  simp only [semSignalWord, semWaitWord, Prog.lift, Prog.bind_op, Prog.bind_ret, Prog.pure_eq_ret]
  iintro H
  iapply (step_signal SN RE K c 18 (by decide) (k0_dev19_lt c) (k0_dev19_eq c) _ _) $$ H
  iintro H
  iapply (step_signal SN RE K c 19 (by decide) (k0_dev20_lt c) (k0_dev20_eq c) _ _) $$ H
  iintro H
  iapply (step_signal SN RE K c 20 (by decide) (k0_dev21_lt c) (k0_dev21_eq c) _ _) $$ H
  iintro H
  iapply (step_signal SN RE K c 21 (by decide) (k0_dev22_lt c) (k0_dev22_eq c) _ _) $$ H
  iintro H
  iapply (step_signal SN RE K c 22 (by decide) (k0_dev23_lt c) (k0_dev23_eq c) _ _) $$ H
  iintro H
  iapply (step_signal SN RE K c 23 (by decide) (k0_dev24_lt c) (k0_dev24_eq c) _ _) $$ H
  iintro H
  iapply (step_signal SN RE K c 24 (by decide) (k0_dev25_lt c) (k0_dev25_eq c) _ _) $$ H
  iintro H
  iapply (step_signal SN RE K c 25 (by decide) (k0_dev26_lt c) (k0_dev26_eq c) _ _) $$ H
  iintro H
  iapply (step_signal SN RE K c 26 (by decide) (k0_dev27_lt c) (k0_dev27_eq c) _ _) $$ H
  iintro H
  iapply (step_signal SN RE K c 27 (by decide) (k0_dev28_lt c) (k0_dev28_eq c) _ _) $$ H
  iintro H
  iapply ret_intro
  iexact H

/-! ## The barrier, and the first block of the product -/

theorem part6 (xs : (cc0_stg0_0 : Ref sig .tc).ty.Contents (Elt F)) (gs : (cc0_stg1_0 : Ref sig .tc).ty.Contents (Elt F))
    (ws : (cc0_stg2_0 : Ref sig .tc).ty.Contents (Elt F)) (c : Dev nD) {a0 a1 a2 a3 : BitVec 32}:
    iprop((Sg SN RE K c 28 ∗ cred (tallyAt (barCell c) () 31) ∗ atPos ER (barCell c) 0 ∅ 0
        ∗ bigSep (Finset.range 31) (pre1 c) ∗ bigSep (Finset.range 31) (pre2 c)) ∗ inPts xs gs ws c) ⊢ WP c (k0_part6 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 (SemArray.scalar (sig.barrier 0 rfl) : Sems sig S_) a1 a2 a3)
      (fun r => iprop(⌜r.2.2.2.2 = ⟨k0_pay1 (ldX xs (bord c 0)), k0_pay2 (ldG gs (bord c 0)), k0_pay3 (ldX xs (bord c 0)) (ldG gs (bord c 0)) (ldW ws 0), k0_pay4 (ldX xs (bord c 0)) (ldG gs (bord c 0)) (ldW ws 1)⟩⌝ ∗ ((Bs SN RE K c 0 ∗ bigSep (Finset.range 31) (snd2 c) ∗ atPos ER (barCell c) 1 ∅ 0) ∗ inPts xs gs ws c))) := by
  rw [k0_part6_eq_skeleton]
  unfold k0_part6_skel
  simp only [semSignalWord, semWaitWord, Prog.lift, Prog.bind_op, Prog.bind_ret, Prog.pure_eq_ret]
  iintro ⟨⟨H, Hr⟩, Hi⟩
  iapply (step_signal SN RE K c 28 (by decide) (k0_dev29_lt c) (k0_dev29_eq c) _ _) $$ H
  iintro H
  iapply (step_signal SN RE K c 29 (by decide) (k0_dev30_lt c) (k0_dev30_eq c) _ _) $$ H
  iintro H
  iapply (step_signal SN RE K c 30 (by decide) (k0_dev31_lt c) (k0_dev31_eq c) _ _) $$ H
  iintro H
  iapply (step_barrier SN RE K c _ _) $$ [H Hr]
  · isplitl [H]; · iexact H
    iexact Hr
  iintro H
  iapply (step_ldx xs gs ws c (bord c 0) ((k0_off1_eq c 0).trans (bord_eq c 0))) $$ Hi
  iintro Hi
  iapply (step_ldg xs gs ws c (bord c 0) ((k0_off2_eq c 0).trans (bord_eq c 0))) $$ Hi
  iintro Hi
  iapply (step_ldw xs gs ws c 0 rfl) $$ Hi
  iintro Hi
  iapply (step_ldw xs gs ws c 1 rfl) $$ Hi
  iintro Hi
  iapply ret_intro
  isplitr; · ipureintro; rfl
  isplitl [H]; · iexact H
  iexact Hi

/-! ## Every one of the first copies is made -/

theorem cond1 (c : Dev nD) : k0_cond1 c = 1#1 := by revert c; decide +kernel
theorem cond2 (c : Dev nD) : k0_cond2 c = 1#1 := by revert c; decide +kernel
theorem cond3 (c : Dev nD) : k0_cond3 c = 1#1 := by revert c; decide +kernel
theorem cond4 (c : Dev nD) : k0_cond4 c = 1#1 := by revert c; decide +kernel
theorem cond5 (c : Dev nD) : k0_cond5 c = 1#1 := by revert c; decide +kernel
theorem cond6 (c : Dev nD) : k0_cond6 c = 1#1 := by revert c; decide +kernel
theorem cond7 (c : Dev nD) : k0_cond7 c = 1#1 := by revert c; decide +kernel
theorem cond8 (c : Dev nD) : k0_cond8 c = 1#1 := by revert c; decide +kernel
theorem cond9 (c : Dev nD) : k0_cond9 c = 1#1 := by revert c; decide +kernel
theorem cond10 (c : Dev nD) : k0_cond10 c = 1#1 := by revert c; decide +kernel
theorem cond11 (c : Dev nD) : k0_cond11 c = 1#1 := by revert c; decide +kernel
theorem cond12 (c : Dev nD) : k0_cond12 c = 1#1 := by revert c; decide +kernel
theorem cond13 (c : Dev nD) : k0_cond13 c = 1#1 := by revert c; decide +kernel
theorem cond14 (c : Dev nD) : k0_cond14 c = 1#1 := by revert c; decide +kernel
theorem cond15 (c : Dev nD) : k0_cond15 c = 1#1 := by revert c; decide +kernel
theorem cond16 (c : Dev nD) : k0_cond16 c = 1#1 := by revert c; decide +kernel
theorem cond17 (c : Dev nD) : k0_cond17 c = 1#1 := by revert c; decide +kernel
theorem cond18 (c : Dev nD) : k0_cond18 c = 1#1 := by revert c; decide +kernel
theorem cond19 (c : Dev nD) : k0_cond19 c = 1#1 := by revert c; decide +kernel
theorem cond20 (c : Dev nD) : k0_cond20 c = 1#1 := by revert c; decide +kernel
theorem cond21 (c : Dev nD) : k0_cond21 c = 1#1 := by revert c; decide +kernel
theorem cond22 (c : Dev nD) : k0_cond22 c = 1#1 := by revert c; decide +kernel
theorem cond23 (c : Dev nD) : k0_cond23 c = 1#1 := by revert c; decide +kernel
theorem cond24 (c : Dev nD) : k0_cond24 c = 1#1 := by revert c; decide +kernel
theorem cond25 (c : Dev nD) : k0_cond25 c = 1#1 := by revert c; decide +kernel
theorem cond26 (c : Dev nD) : k0_cond26 c = 1#1 := by revert c; decide +kernel
theorem cond27 (c : Dev nD) : k0_cond27 c = 1#1 := by revert c; decide +kernel
theorem cond28 (c : Dev nD) : k0_cond28 c = 1#1 := by revert c; decide +kernel
theorem cond29 (c : Dev nD) : k0_cond29 c = 1#1 := by revert c; decide +kernel
theorem cond30 (c : Dev nD) : k0_cond30 c = 1#1 := by revert c; decide +kernel
theorem cond31 (c : Dev nD) : k0_cond31 c = 1#1 := by revert c; decide +kernel
theorem cond32 (c : Dev nD) : ¬ k0_cond32 c = 1#1 := by revert c; decide +kernel

theorem part7 (xs : (cc0_stg0_0 : Ref sig .tc).ty.Contents (Elt F)) (gs : (cc0_stg1_0 : Ref sig .tc).ty.Contents (Elt F))
    (ws : (cc0_stg2_0 : Ref sig .tc).ty.Contents (Elt F))
    (f : (cc0_scratch2 : Ref sig .tc).ty.Contents (Elt F)) (c : Dev nD) (hSN : ∀ t x, blkVal xs gs ws t x = SN c (dnB t x)) {a0 a1 a2 a3 : BitVec 32}:
    iprop((Bs SN RE K c 0 ∗ Sn SN f c 0 0) ∗ inPts xs gs ws c) ⊢ WP c (k0_part7 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 (k0_pay1 (ldX xs (bord c 0))) (k0_pay2 (ldG gs (bord c 0))) (k0_pay3 (ldX xs (bord c 0)) (ldG gs (bord c 0)) (ldW ws 0)) (k0_pay4 (ldX xs (bord c 0)) (ldG gs (bord c 0)) (ldW ws 1)))
      (fun _ => iprop((Bs SN RE K c 2 ∗ Sn SN f c 1 2) ∗ inPts xs gs ws c)) := by
  rw [k0_part7_eq_skeleton]
  unfold k0_part7_skel
  simp only [semSignalWord, semWaitWord, Prog.lift, Prog.bind_op, Prog.bind_ret, Prog.pure_eq_ret, ↓reduceDIte, cond1 c, cond2 c]
  iintro ⟨H, Hi⟩
  iapply (step_ldw xs gs ws c 2 rfl) $$ Hi
  iintro Hi
  iapply (step_ldw xs gs ws c 3 rfl) $$ Hi
  iintro Hi
  icases H with ⟨HB, HS⟩
  iapply (step_ldblk SN f c 0 (by decide) ((k0_off3_eq c 0).trans (bord_eq c 0))) $$ HS
  iintro %v HS
  iapply (step_stblk SN f c 0 (by decide) ((k0_off3_eq c 0).trans (bord_eq c 0)) (hSN (bord c 0))) $$ HS
  iintro HS
  ihave H : iprop(Bs SN RE K c 0 ∗ Sn SN f c 1 0) $$ [HB HS]
  · isplitl [HB]; · iexact HB
    iexact HS
  iapply (step_send1 SN RE K f c 1 0 (by decide) (by decide) ((k0_off4_eq c).trans (vec1 (ord_val c 0 _ (by omega)))) (k0_off5_eq c) (k0_off6_eq c)
    ((k0_off7_eq c).trans (vec2 (ord_rows c 0 _ (by omega)))) ((k0_dev32_eq c).trans (ord_val c 0 _ (by omega)))) $$ H
  iintro H
  iapply (step_send1 SN RE K f c 1 1 (by decide) (by decide) ((k0_off8_eq c).trans (vec1 (ord_val c 1 _ (by omega)))) (k0_off9_eq c) (k0_off10_eq c)
    ((k0_off11_eq c).trans (vec2 (ord_rows c 1 _ (by omega)))) ((k0_dev33_eq c).trans (ord_val c 1 _ (by omega)))) $$ H
  iintro H
  iapply ret_intro
  isplitl [H]; · iexact H
  iexact Hi

theorem part8 (f : (cc0_scratch2 : Ref sig .tc).ty.Contents (Elt F)) (c : Dev nD) {a0 a1 a2 a3 : BitVec 32}:
    iprop(Bs SN RE K c 2 ∗ Sn SN f c 1 2) ⊢ WP c (k0_part8 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3)
      (fun _ => iprop(Bs SN RE K c 6 ∗ Sn SN f c 1 6)) := by
  rw [k0_part8_eq_skeleton]
  unfold k0_part8_skel
  simp only [semSignalWord, semWaitWord, Prog.lift, Prog.bind_op, Prog.bind_ret, Prog.pure_eq_ret, ↓reduceDIte, cond3 c, cond4 c, cond5 c, cond6 c]
  iintro H
  iapply (step_send1 SN RE K f c 1 2 (by decide) (by decide) ((k0_off12_eq c).trans (vec1 (ord_val c 2 _ (by omega)))) (k0_off13_eq c) (k0_off14_eq c)
    ((k0_off15_eq c).trans (vec2 (ord_rows c 2 _ (by omega)))) ((k0_dev34_eq c).trans (ord_val c 2 _ (by omega)))) $$ H
  iintro H
  iapply (step_send1 SN RE K f c 1 3 (by decide) (by decide) ((k0_off16_eq c).trans (vec1 (ord_val c 3 _ (by omega)))) (k0_off17_eq c) (k0_off18_eq c)
    ((k0_off19_eq c).trans (vec2 (ord_rows c 3 _ (by omega)))) ((k0_dev35_eq c).trans (ord_val c 3 _ (by omega)))) $$ H
  iintro H
  iapply (step_send1 SN RE K f c 1 4 (by decide) (by decide) ((k0_off20_eq c).trans (vec1 (ord_val c 4 _ (by omega)))) (k0_off21_eq c) (k0_off22_eq c)
    ((k0_off23_eq c).trans (vec2 (ord_rows c 4 _ (by omega)))) ((k0_dev36_eq c).trans (ord_val c 4 _ (by omega)))) $$ H
  iintro H
  iapply (step_send1 SN RE K f c 1 5 (by decide) (by decide) ((k0_off24_eq c).trans (vec1 (ord_val c 5 _ (by omega)))) (k0_off25_eq c) (k0_off26_eq c)
    ((k0_off27_eq c).trans (vec2 (ord_rows c 5 _ (by omega)))) ((k0_dev37_eq c).trans (ord_val c 5 _ (by omega)))) $$ H
  iintro H
  iapply ret_intro
  iexact H

theorem part9 (xs : (cc0_stg0_0 : Ref sig .tc).ty.Contents (Elt F)) (gs : (cc0_stg1_0 : Ref sig .tc).ty.Contents (Elt F))
    (ws : (cc0_stg2_0 : Ref sig .tc).ty.Contents (Elt F))
    (f : (cc0_scratch2 : Ref sig .tc).ty.Contents (Elt F)) (c : Dev nD) {a0 a1 a2 a3 a4 a5 : BitVec 32}:
    iprop((Bs SN RE K c 6 ∗ Sn SN f c 1 6) ∗ inPts xs gs ws c) ⊢ WP c (k0_part9 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5)
      (fun r => iprop(⌜r.2.2 = ⟨k0_pay6 (ldX xs (bord c 1)), k0_pay7 (ldG gs (bord c 1)), k0_pay8 (ldX xs (bord c 1)) (ldG gs (bord c 1)) (ldW ws 0) (ldW ws 1), k0_pay9 (ldG gs (bord c 1))⟩⌝ ∗ iprop((Bs SN RE K c 8 ∗ Sn SN f c 1 8) ∗ inPts xs gs ws c))) := by
  rw [k0_part9_eq_skeleton]
  unfold k0_part9_skel
  simp only [semSignalWord, semWaitWord, Prog.lift, Prog.bind_op, Prog.bind_ret, Prog.pure_eq_ret, ↓reduceDIte, cond7 c, cond8 c]
  iintro ⟨H, Hi⟩
  iapply (step_send1 SN RE K f c 1 6 (by decide) (by decide) ((k0_off28_eq c).trans (vec1 (ord_val c 6 _ (by omega)))) (k0_off29_eq c) (k0_off30_eq c)
    ((k0_off31_eq c).trans (vec2 (ord_rows c 6 _ (by omega)))) ((k0_dev38_eq c).trans (ord_val c 6 _ (by omega)))) $$ H
  iintro H
  iapply (step_send1 SN RE K f c 1 7 (by decide) (by decide) ((k0_off32_eq c).trans (vec1 (ord_val c 7 _ (by omega)))) (k0_off33_eq c) (k0_off34_eq c)
    ((k0_off35_eq c).trans (vec2 (ord_rows c 7 _ (by omega)))) ((k0_dev39_eq c).trans (ord_val c 7 _ (by omega)))) $$ H
  iintro H
  iapply (step_ldx xs gs ws c (bord c 1) ((k0_off1_eq c 1).trans (bord_eq c 1))) $$ Hi
  iintro Hi
  iapply (step_ldg xs gs ws c (bord c 1) ((k0_off2_eq c 1).trans (bord_eq c 1))) $$ Hi
  iintro Hi
  iapply (step_ldw xs gs ws c 0 rfl) $$ Hi
  iintro Hi
  iapply (step_ldw xs gs ws c 1 rfl) $$ Hi
  iintro Hi
  iapply ret_intro
  isplitr; · ipureintro; rfl
  isplitl [H]; · iexact H
  iexact Hi

end Cert.Proof
-- ==== Proof.Parts2.lean ====
module
public import proofs.«01_k».proof.Proof.Parts1

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F))
variable (K : GSem nD τ sig → ℕ)

/-! ## The other three blocks of the product -/

theorem part10 (xs : (cc0_stg0_0 : Ref sig .tc).ty.Contents (Elt F)) (gs : (cc0_stg1_0 : Ref sig .tc).ty.Contents (Elt F))
    (ws : (cc0_stg2_0 : Ref sig .tc).ty.Contents (Elt F))
    (f : (cc0_scratch2 : Ref sig .tc).ty.Contents (Elt F)) (c : Dev nD) (hSN : ∀ t x, blkVal xs gs ws t x = SN c (dnB t x)) {a0 a1 a2 a3 : BitVec 32}:
    iprop((Bs SN RE K c 8 ∗ Sn SN f c 1 8) ∗ inPts xs gs ws c) ⊢ WP c (k0_part10 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 (k0_pay6 (ldX xs (bord c 1))) (k0_pay7 (ldG gs (bord c 1))) (k0_pay8 (ldX xs (bord c 1)) (ldG gs (bord c 1)) (ldW ws 0) (ldW ws 1)) (k0_pay9 (ldG gs (bord c 1))))
      (fun _ => iprop((Bs SN RE K c 10 ∗ Sn SN f c 2 10) ∗ inPts xs gs ws c)) := by
  rw [k0_part10_eq_skeleton]
  unfold k0_part10_skel
  simp only [semSignalWord, semWaitWord, Prog.lift, Prog.bind_op, Prog.bind_ret, Prog.pure_eq_ret, ↓reduceDIte, cond9 c, cond10 c]
  iintro ⟨H, Hi⟩
  iapply (step_ldw xs gs ws c 2 rfl) $$ Hi
  iintro Hi
  iapply (step_ldw xs gs ws c 3 rfl) $$ Hi
  iintro Hi
  icases H with ⟨HB, HS⟩
  iapply (step_ldblk SN f c 1 (by decide) ((k0_off3_eq c 1).trans (bord_eq c 1))) $$ HS
  iintro %v HS
  iapply (step_stblk SN f c 1 (by decide) ((k0_off3_eq c 1).trans (bord_eq c 1)) (hSN (bord c 1))) $$ HS
  iintro HS
  ihave H : iprop(Bs SN RE K c 8 ∗ Sn SN f c 2 8) $$ [HB HS]
  · isplitl [HB]; · iexact HB
    iexact HS
  iapply (step_send1 SN RE K f c 2 8 (by decide) (by decide) ((k0_off36_eq c).trans (vec1 (ord_val c 8 _ (by omega)))) (k0_off37_eq c) (k0_off38_eq c)
    ((k0_off39_eq c).trans (vec2 (ord_rows c 8 _ (by omega)))) ((k0_dev40_eq c).trans (ord_val c 8 _ (by omega)))) $$ H
  iintro H
  iapply (step_send1 SN RE K f c 2 9 (by decide) (by decide) ((k0_off40_eq c).trans (vec1 (ord_val c 9 _ (by omega)))) (k0_off41_eq c) (k0_off42_eq c)
    ((k0_off43_eq c).trans (vec2 (ord_rows c 9 _ (by omega)))) ((k0_dev41_eq c).trans (ord_val c 9 _ (by omega)))) $$ H
  iintro H
  iapply ret_intro
  isplitl [H]; · iexact H
  iexact Hi

theorem part11 (f : (cc0_scratch2 : Ref sig .tc).ty.Contents (Elt F)) (c : Dev nD) {a0 a1 a2 a3 a4 : BitVec 32}:
    iprop(Bs SN RE K c 10 ∗ Sn SN f c 2 10) ⊢ WP c (k0_part11 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4)
      (fun _ => iprop(Bs SN RE K c 14 ∗ Sn SN f c 2 14)) := by
  rw [k0_part11_eq_skeleton]
  unfold k0_part11_skel
  simp only [semSignalWord, semWaitWord, Prog.lift, Prog.bind_op, Prog.bind_ret, Prog.pure_eq_ret, ↓reduceDIte, cond11 c, cond12 c, cond13 c, cond14 c]
  iintro H
  iapply (step_send1 SN RE K f c 2 10 (by decide) (by decide) ((k0_off44_eq c).trans (vec1 (ord_val c 10 _ (by omega)))) (k0_off45_eq c) (k0_off46_eq c)
    ((k0_off47_eq c).trans (vec2 (ord_rows c 10 _ (by omega)))) ((k0_dev42_eq c).trans (ord_val c 10 _ (by omega)))) $$ H
  iintro H
  iapply (step_send1 SN RE K f c 2 11 (by decide) (by decide) ((k0_off48_eq c).trans (vec1 (ord_val c 11 _ (by omega)))) (k0_off49_eq c) (k0_off50_eq c)
    ((k0_off51_eq c).trans (vec2 (ord_rows c 11 _ (by omega)))) ((k0_dev43_eq c).trans (ord_val c 11 _ (by omega)))) $$ H
  iintro H
  iapply (step_send1 SN RE K f c 2 12 (by decide) (by decide) ((k0_off52_eq c).trans (vec1 (ord_val c 12 _ (by omega)))) (k0_off53_eq c) (k0_off54_eq c)
    ((k0_off55_eq c).trans (vec2 (ord_rows c 12 _ (by omega)))) ((k0_dev44_eq c).trans (ord_val c 12 _ (by omega)))) $$ H
  iintro H
  iapply (step_send1 SN RE K f c 2 13 (by decide) (by decide) ((k0_off56_eq c).trans (vec1 (ord_val c 13 _ (by omega)))) (k0_off57_eq c) (k0_off58_eq c)
    ((k0_off59_eq c).trans (vec2 (ord_rows c 13 _ (by omega)))) ((k0_dev45_eq c).trans (ord_val c 13 _ (by omega)))) $$ H
  iintro H
  iapply ret_intro
  iexact H

theorem part12 (xs : (cc0_stg0_0 : Ref sig .tc).ty.Contents (Elt F)) (gs : (cc0_stg1_0 : Ref sig .tc).ty.Contents (Elt F))
    (ws : (cc0_stg2_0 : Ref sig .tc).ty.Contents (Elt F))
    (f : (cc0_scratch2 : Ref sig .tc).ty.Contents (Elt F)) (c : Dev nD) {a0 a1 a2 a3 a4 a5 : BitVec 32}:
    iprop((Bs SN RE K c 14 ∗ Sn SN f c 2 14) ∗ inPts xs gs ws c) ⊢ WP c (k0_part12 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5)
      (fun r => iprop(⌜r.2.2 = ⟨k0_pay11 (ldX xs (bord c 2)), k0_pay12 (ldG gs (bord c 2)), k0_pay13 (ldX xs (bord c 2)) (ldG gs (bord c 2)) (ldW ws 0) (ldW ws 1), k0_pay14 (ldX xs (bord c 2)) (ldG gs (bord c 2))⟩⌝ ∗ iprop((Bs SN RE K c 16 ∗ Sn SN f c 2 16) ∗ inPts xs gs ws c))) := by
  rw [k0_part12_eq_skeleton]
  unfold k0_part12_skel
  simp only [semSignalWord, semWaitWord, Prog.lift, Prog.bind_op, Prog.bind_ret, Prog.pure_eq_ret, ↓reduceDIte, cond15 c, cond16 c]
  iintro ⟨H, Hi⟩
  iapply (step_send1 SN RE K f c 2 14 (by decide) (by decide) ((k0_off60_eq c).trans (vec1 (ord_val c 14 _ (by omega)))) (k0_off61_eq c) (k0_off62_eq c)
    ((k0_off63_eq c).trans (vec2 (ord_rows c 14 _ (by omega)))) ((k0_dev46_eq c).trans (ord_val c 14 _ (by omega)))) $$ H
  iintro H
  iapply (step_send1 SN RE K f c 2 15 (by decide) (by decide) ((k0_off64_eq c).trans (vec1 (ord_val c 15 _ (by omega)))) (k0_off65_eq c) (k0_off66_eq c)
    ((k0_off67_eq c).trans (vec2 (ord_rows c 15 _ (by omega)))) ((k0_dev47_eq c).trans (ord_val c 15 _ (by omega)))) $$ H
  iintro H
  iapply (step_ldx xs gs ws c (bord c 2) ((k0_off1_eq c 2).trans (bord_eq c 2))) $$ Hi
  iintro Hi
  iapply (step_ldg xs gs ws c (bord c 2) ((k0_off2_eq c 2).trans (bord_eq c 2))) $$ Hi
  iintro Hi
  iapply (step_ldw xs gs ws c 0 rfl) $$ Hi
  iintro Hi
  iapply (step_ldw xs gs ws c 1 rfl) $$ Hi
  iintro Hi
  iapply ret_intro
  isplitr; · ipureintro; rfl
  isplitl [H]; · iexact H
  iexact Hi

theorem part13 (xs : (cc0_stg0_0 : Ref sig .tc).ty.Contents (Elt F)) (gs : (cc0_stg1_0 : Ref sig .tc).ty.Contents (Elt F))
    (ws : (cc0_stg2_0 : Ref sig .tc).ty.Contents (Elt F))
    (f : (cc0_scratch2 : Ref sig .tc).ty.Contents (Elt F)) (c : Dev nD) (hSN : ∀ t x, blkVal xs gs ws t x = SN c (dnB t x)) {a0 a1 a2 a3 : BitVec 32}:
    iprop((Bs SN RE K c 16 ∗ Sn SN f c 2 16) ∗ inPts xs gs ws c) ⊢ WP c (k0_part13 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 (k0_pay11 (ldX xs (bord c 2))) (k0_pay12 (ldG gs (bord c 2))) (k0_pay13 (ldX xs (bord c 2)) (ldG gs (bord c 2)) (ldW ws 0) (ldW ws 1)) (k0_pay14 (ldX xs (bord c 2)) (ldG gs (bord c 2))))
      (fun _ => iprop((Bs SN RE K c 18 ∗ Sn SN f c 3 18) ∗ inPts xs gs ws c)) := by
  rw [k0_part13_eq_skeleton]
  unfold k0_part13_skel
  simp only [semSignalWord, semWaitWord, Prog.lift, Prog.bind_op, Prog.bind_ret, Prog.pure_eq_ret, ↓reduceDIte, cond17 c, cond18 c]
  iintro ⟨H, Hi⟩
  iapply (step_ldw xs gs ws c 2 rfl) $$ Hi
  iintro Hi
  iapply (step_ldw xs gs ws c 3 rfl) $$ Hi
  iintro Hi
  icases H with ⟨HB, HS⟩
  iapply (step_ldblk SN f c 2 (by decide) ((k0_off3_eq c 2).trans (bord_eq c 2))) $$ HS
  iintro %v HS
  iapply (step_stblk SN f c 2 (by decide) ((k0_off3_eq c 2).trans (bord_eq c 2)) (hSN (bord c 2))) $$ HS
  iintro HS
  ihave H : iprop(Bs SN RE K c 16 ∗ Sn SN f c 3 16) $$ [HB HS]
  · isplitl [HB]; · iexact HB
    iexact HS
  iapply (step_send1 SN RE K f c 3 16 (by decide) (by decide) ((k0_off68_eq c).trans (vec1 (ord_val c 16 _ (by omega)))) (k0_off69_eq c) (k0_off70_eq c)
    ((k0_off71_eq c).trans (vec2 (ord_rows c 16 _ (by omega)))) ((k0_dev48_eq c).trans (ord_val c 16 _ (by omega)))) $$ H
  iintro H
  iapply (step_send1 SN RE K f c 3 17 (by decide) (by decide) ((k0_off72_eq c).trans (vec1 (ord_val c 17 _ (by omega)))) (k0_off73_eq c) (k0_off74_eq c)
    ((k0_off75_eq c).trans (vec2 (ord_rows c 17 _ (by omega)))) ((k0_dev49_eq c).trans (ord_val c 17 _ (by omega)))) $$ H
  iintro H
  iapply ret_intro
  isplitl [H]; · iexact H
  iexact Hi

theorem part14 (f : (cc0_scratch2 : Ref sig .tc).ty.Contents (Elt F)) (c : Dev nD) {a0 a1 a2 a3 a4 : BitVec 32}:
    iprop(Bs SN RE K c 18 ∗ Sn SN f c 3 18) ⊢ WP c (k0_part14 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4)
      (fun _ => iprop(Bs SN RE K c 22 ∗ Sn SN f c 3 22)) := by
  rw [k0_part14_eq_skeleton]
  unfold k0_part14_skel
  simp only [semSignalWord, semWaitWord, Prog.lift, Prog.bind_op, Prog.bind_ret, Prog.pure_eq_ret, ↓reduceDIte, cond19 c, cond20 c, cond21 c, cond22 c]
  iintro H
  iapply (step_send1 SN RE K f c 3 18 (by decide) (by decide) ((k0_off76_eq c).trans (vec1 (ord_val c 18 _ (by omega)))) (k0_off77_eq c) (k0_off78_eq c)
    ((k0_off79_eq c).trans (vec2 (ord_rows c 18 _ (by omega)))) ((k0_dev50_eq c).trans (ord_val c 18 _ (by omega)))) $$ H
  iintro H
  iapply (step_send1 SN RE K f c 3 19 (by decide) (by decide) ((k0_off80_eq c).trans (vec1 (ord_val c 19 _ (by omega)))) (k0_off81_eq c) (k0_off82_eq c)
    ((k0_off83_eq c).trans (vec2 (ord_rows c 19 _ (by omega)))) ((k0_dev51_eq c).trans (ord_val c 19 _ (by omega)))) $$ H
  iintro H
  iapply (step_send1 SN RE K f c 3 20 (by decide) (by decide) ((k0_off84_eq c).trans (vec1 (ord_val c 20 _ (by omega)))) (k0_off85_eq c) (k0_off86_eq c)
    ((k0_off87_eq c).trans (vec2 (ord_rows c 20 _ (by omega)))) ((k0_dev52_eq c).trans (ord_val c 20 _ (by omega)))) $$ H
  iintro H
  iapply (step_send1 SN RE K f c 3 21 (by decide) (by decide) ((k0_off88_eq c).trans (vec1 (ord_val c 21 _ (by omega)))) (k0_off89_eq c) (k0_off90_eq c)
    ((k0_off91_eq c).trans (vec2 (ord_rows c 21 _ (by omega)))) ((k0_dev53_eq c).trans (ord_val c 21 _ (by omega)))) $$ H
  iintro H
  iapply ret_intro
  iexact H

theorem part15 (xs : (cc0_stg0_0 : Ref sig .tc).ty.Contents (Elt F)) (gs : (cc0_stg1_0 : Ref sig .tc).ty.Contents (Elt F))
    (ws : (cc0_stg2_0 : Ref sig .tc).ty.Contents (Elt F))
    (f : (cc0_scratch2 : Ref sig .tc).ty.Contents (Elt F)) (c : Dev nD) {a0 a1 a2 a3 a4 : BitVec 32} {w : BitVec 1}:
    iprop((Bs SN RE K c 22 ∗ Sn SN f c 3 22) ∗ inPts xs gs ws c) ⊢ WP c (k0_part15 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 w)
      (fun r => iprop(⌜r.2.2 = ⟨k0_pay16 (ldX xs (bord c 3)), k0_pay17 (ldG gs (bord c 3)), k0_pay18 (ldX xs (bord c 3)) (ldG gs (bord c 3)) (ldW ws 0) (ldW ws 1), k0_pay19 (ldX xs (bord c 3)) (ldG gs (bord c 3))⟩⌝ ∗ iprop((Bs SN RE K c 24 ∗ Sn SN f c 3 24) ∗ inPts xs gs ws c))) := by
  rw [k0_part15_eq_skeleton]
  unfold k0_part15_skel
  simp only [semSignalWord, semWaitWord, Prog.lift, Prog.bind_op, Prog.bind_ret, Prog.pure_eq_ret, ↓reduceDIte, cond23 c, cond24 c]
  iintro ⟨H, Hi⟩
  iapply (step_send1 SN RE K f c 3 22 (by decide) (by decide) ((k0_off92_eq c).trans (vec1 (ord_val c 22 _ (by omega)))) (k0_off93_eq c) (k0_off94_eq c)
    ((k0_off95_eq c).trans (vec2 (ord_rows c 22 _ (by omega)))) ((k0_dev54_eq c).trans (ord_val c 22 _ (by omega)))) $$ H
  iintro H
  iapply (step_send1 SN RE K f c 3 23 (by decide) (by decide) ((k0_off96_eq c).trans (vec1 (ord_val c 23 _ (by omega)))) (k0_off97_eq c) (k0_off98_eq c)
    ((k0_off99_eq c).trans (vec2 (ord_rows c 23 _ (by omega)))) ((k0_dev55_eq c).trans (ord_val c 23 _ (by omega)))) $$ H
  iintro H
  iapply (step_ldx xs gs ws c (bord c 3) ((k0_off1_eq c 3).trans (bord_eq c 3))) $$ Hi
  iintro Hi
  iapply (step_ldg xs gs ws c (bord c 3) ((k0_off2_eq c 3).trans (bord_eq c 3))) $$ Hi
  iintro Hi
  iapply (step_ldw xs gs ws c 0 rfl) $$ Hi
  iintro Hi
  iapply (step_ldw xs gs ws c 1 rfl) $$ Hi
  iintro Hi
  iapply ret_intro
  isplitr; · ipureintro; rfl
  isplitl [H]; · iexact H
  iexact Hi

theorem part16 (xs : (cc0_stg0_0 : Ref sig .tc).ty.Contents (Elt F)) (gs : (cc0_stg1_0 : Ref sig .tc).ty.Contents (Elt F))
    (ws : (cc0_stg2_0 : Ref sig .tc).ty.Contents (Elt F))
    (f : (cc0_scratch2 : Ref sig .tc).ty.Contents (Elt F)) (c : Dev nD) (hSN : ∀ t x, blkVal xs gs ws t x = SN c (dnB t x)) {a0 a1 a2 a3 : BitVec 32}:
    iprop((Bs SN RE K c 24 ∗ Sn SN f c 3 24) ∗ inPts xs gs ws c) ⊢ WP c (k0_part16 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 (k0_pay16 (ldX xs (bord c 3))) (k0_pay17 (ldG gs (bord c 3))) (k0_pay18 (ldX xs (bord c 3)) (ldG gs (bord c 3)) (ldW ws 0) (ldW ws 1)) (k0_pay19 (ldX xs (bord c 3)) (ldG gs (bord c 3))))
      (fun _ => iprop((Bs SN RE K c 26 ∗ Sn SN f c 4 26) ∗ inPts xs gs ws c)) := by
  rw [k0_part16_eq_skeleton]
  unfold k0_part16_skel
  simp only [semSignalWord, semWaitWord, Prog.lift, Prog.bind_op, Prog.bind_ret, Prog.pure_eq_ret, ↓reduceDIte, cond25 c, cond26 c]
  iintro ⟨H, Hi⟩
  iapply (step_ldw xs gs ws c 2 rfl) $$ Hi
  iintro Hi
  iapply (step_ldw xs gs ws c 3 rfl) $$ Hi
  iintro Hi
  icases H with ⟨HB, HS⟩
  iapply (step_ldblk SN f c 3 (by decide) ((k0_off3_eq c 3).trans (bord_eq c 3))) $$ HS
  iintro %v HS
  iapply (step_stblk SN f c 3 (by decide) ((k0_off3_eq c 3).trans (bord_eq c 3)) (hSN (bord c 3))) $$ HS
  iintro HS
  ihave H : iprop(Bs SN RE K c 24 ∗ Sn SN f c 4 24) $$ [HB HS]
  · isplitl [HB]; · iexact HB
    iexact HS
  iapply (step_send1 SN RE K f c 4 24 (by decide) (by decide) ((k0_off100_eq c).trans (vec1 (ord_val c 24 _ (by omega)))) (k0_off101_eq c) (k0_off102_eq c)
    ((k0_off103_eq c).trans (vec2 (ord_rows c 24 _ (by omega)))) ((k0_dev56_eq c).trans (ord_val c 24 _ (by omega)))) $$ H
  iintro H
  iapply (step_send1 SN RE K f c 4 25 (by decide) (by decide) ((k0_off104_eq c).trans (vec1 (ord_val c 25 _ (by omega)))) (k0_off105_eq c) (k0_off106_eq c)
    ((k0_off107_eq c).trans (vec2 (ord_rows c 25 _ (by omega)))) ((k0_dev57_eq c).trans (ord_val c 25 _ (by omega)))) $$ H
  iintro H
  iapply ret_intro
  isplitl [H]; · iexact H
  iexact Hi

theorem part17 (f : (cc0_scratch2 : Ref sig .tc).ty.Contents (Elt F)) (c : Dev nD) {a0 a1 a2 a3 a4 : BitVec 32}:
    iprop(Bs SN RE K c 26 ∗ Sn SN f c 4 26) ⊢ WP c (k0_part17 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4)
      (fun _ => iprop(Bs SN RE K c 30 ∗ Sn SN f c 4 30)) := by
  rw [k0_part17_eq_skeleton]
  unfold k0_part17_skel
  simp only [semSignalWord, semWaitWord, Prog.lift, Prog.bind_op, Prog.bind_ret, Prog.pure_eq_ret, ↓reduceDIte, cond27 c, cond28 c, cond29 c, cond30 c]
  iintro H
  iapply (step_send1 SN RE K f c 4 26 (by decide) (by decide) ((k0_off108_eq c).trans (vec1 (ord_val c 26 _ (by omega)))) (k0_off109_eq c) (k0_off110_eq c)
    ((k0_off111_eq c).trans (vec2 (ord_rows c 26 _ (by omega)))) ((k0_dev58_eq c).trans (ord_val c 26 _ (by omega)))) $$ H
  iintro H
  iapply (step_send1 SN RE K f c 4 27 (by decide) (by decide) ((k0_off112_eq c).trans (vec1 (ord_val c 27 _ (by omega)))) (k0_off113_eq c) (k0_off114_eq c)
    ((k0_off115_eq c).trans (vec2 (ord_rows c 27 _ (by omega)))) ((k0_dev59_eq c).trans (ord_val c 27 _ (by omega)))) $$ H
  iintro H
  iapply (step_send1 SN RE K f c 4 28 (by decide) (by decide) ((k0_off116_eq c).trans (vec1 (ord_val c 28 _ (by omega)))) (k0_off117_eq c) (k0_off118_eq c)
    ((k0_off119_eq c).trans (vec2 (ord_rows c 28 _ (by omega)))) ((k0_dev60_eq c).trans (ord_val c 28 _ (by omega)))) $$ H
  iintro H
  iapply (step_send1 SN RE K f c 4 29 (by decide) (by decide) ((k0_off120_eq c).trans (vec1 (ord_val c 29 _ (by omega)))) (k0_off121_eq c) (k0_off122_eq c)
    ((k0_off123_eq c).trans (vec2 (ord_rows c 29 _ (by omega)))) ((k0_dev61_eq c).trans (ord_val c 29 _ (by omega)))) $$ H
  iintro H
  iapply ret_intro
  iexact H

end Cert.Proof
-- ==== Proof.Parts3.lean ====
module
public import proofs.«01_k».proof.Proof.Parts2

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F))
variable (K : GSem nD τ sig → ℕ)

/-! ## The partial sums, as the program forms them -/

section Sums

variable (own : S64x1024.Idx → Elt F .bf16) (l : ℕ → S1x64x1024.Idx → Elt F .bf16)

/-- The running sum after the first group of eight, the second, the third, and the reduced rows. -/
def red1 : FVec F S64x1024 .f32 :=
  k0_pay24 (k0_pay21 own) (k0_pay22 (l 30)) (k0_pay23 (l 29)) (l 28) (l 27) (l 26) (l 25) (l 24) (l 23)
def red2 : FVec F S64x1024 .f32 :=
  k0_pay25 (red1 own l) (l 22) (l 21) (l 20) (l 19) (l 18) (l 17) (l 16) (l 15)
def red3 : FVec F S64x1024 .f32 :=
  k0_pay33 (red2 own l) (k0_pay26 (l 14)) (k0_pay27 (l 13)) (k0_pay28 (l 12)) (k0_pay29 (l 11)) (k0_pay30 (l 10)) (k0_pay31 (l 9)) (k0_pay32 (l 8)) (l 7)
def redVal : S64x1024.Idx → Elt F .bf16 :=
  k0_pay40 (red3 own l) (k0_pay34 (l 6)) (k0_pay35 (l 5)) (k0_pay36 (l 4)) (k0_pay37 (l 3)) (k0_pay38 (l 2)) (k0_pay39 (l 1)) (l 0)

end Sums

/-! ## Between the phases -/

/-- What the waits for the first copies' arrival need. -/
def R1t (c : Dev nD) : sProp 𝕄 :=
  bigSep (Finset.range 31) fun i => iprop(cred (tallyAt (r1Cell c (peer c i)) () N) ∗ atPos ER (r1Cell c (peer c i)) 0 ∅ 0)
/-- What the first copies leave for their own waits. -/
def S1c (c : Dev nD) : sProp 𝕄 := bigSep (Finset.range 31) fun i => cred (tallyAt (s1Cell c (ord c i)) () N)

theorem sends_done (c : Dev nD) : iprop(Bs SN RE K c 31 ∗ R1t c) ⊢ iprop(Cs SN RE K c 31 ∗ S1c c) := by
  unfold Bs Cs R1t S1c
  rw [r1O_end, zero_add, bigSep_Ico_self]
  iintro ⟨⟨#HC, -, Hs, HO⟩, Hr⟩
  isplitr [Hs]
  · isplitr; · iexact HC
    isplitl [Hr]; · iexact Hr
    isplitr; · iempintro
    iexact HO
  iexact Hs

theorem own_of (f : (cc0_scratch2 : Ref sig .tc).ty.Contents (Elt F)) (c : Dev nD) : Sn SN f c 4 31 ⊢ sPt c c (SN c) := by rw [Sn_own]

/-! ## The chunks arrive and are summed -/

theorem part18 (f : (cc0_scratch2 : Ref sig .tc).ty.Contents (Elt F)) (c : Dev nD) {a0 a1 a2 a3 a4 a5 a6 a7 a8 a9 : BitVec 32}:
    iprop((Bs SN RE K c 30 ∗ Sn SN f c 4 30) ∗ R1t c) ⊢ WP c (k0_part18 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6 a7 a8 a9)
      (fun r => iprop(⌜r = k0_pay21 (ownLd SN c)⌝ ∗ (Cs SN RE K c 28 ∗ sPt c c (SN c) ∗ S1c c))) := by
  rw [k0_part18_eq_skeleton]
  unfold k0_part18_skel
  simp only [semSignalWord, semWaitWord, Prog.lift, Prog.bind_op, Prog.bind_ret, Prog.pure_eq_ret, ↓reduceDIte, cond31 c, cond32 c]
  iintro ⟨H, Hr⟩
  iapply (step_send1 SN RE K f c 4 30 (by decide) (by decide) ((k0_off124_eq c).trans (vec1 (ord_val c 30 _ (by omega)))) (k0_off125_eq c) (k0_off126_eq c)
    ((k0_off127_eq c).trans (vec2 (ord_rows c 30 _ (by omega)))) ((k0_dev62_eq c).trans (ord_val c 30 _ (by omega)))) $$ H
  iintro H
  icases H with ⟨HB, HS⟩
  ihave HS := (own_of SN f c) $$ HS
  iapply (step_ldown SN c (k0_off132_eq c)) $$ HS
  iintro HS
  ihave H := (sends_done SN RE K c) $$ [HB Hr]
  · isplitl [HB]; · iexact HB
    iexact Hr
  icases H with ⟨H, Hc⟩
  iapply (step_r1 SN RE K c 30 (by decide) (k0_off133_eq c 30)) $$ H
  iintro H
  iapply (step_r1 SN RE K c 29 (by decide) (k0_off133_eq c 29)) $$ H
  iintro H
  iapply (step_r1 SN RE K c 28 (by decide) (k0_off133_eq c 28)) $$ H
  iintro H
  iapply ret_intro
  isplitr; · ipureintro; rfl
  isplitl [H]; · iexact H
  isplitl [HS]; · iexact HS
  iexact Hc

theorem part19 (c : Dev nD) {a0 a1 a2 a3 a4 a5 : BitVec 32}:
    Cs SN RE K c 28 ⊢ WP c (k0_part19 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5)
      (fun r => iprop(⌜r = ⟨k0_pay22 (rsLd SN c 30), k0_pay23 (rsLd SN c 29)⟩⌝ ∗ Cs SN RE K c 23)) := by
  rw [k0_part19_eq_skeleton]
  unfold k0_part19_skel
  simp only [semSignalWord, semWaitWord, Prog.lift, Prog.bind_op, Prog.bind_ret, Prog.pure_eq_ret]
  iintro H
  iapply (step_r1 SN RE K c 27 (by decide) (k0_off133_eq c 27)) $$ H
  iintro H
  iapply (step_r1 SN RE K c 26 (by decide) (k0_off133_eq c 26)) $$ H
  iintro H
  iapply (step_r1 SN RE K c 25 (by decide) (k0_off133_eq c 25)) $$ H
  iintro H
  iapply (step_r1 SN RE K c 24 (by decide) (k0_off133_eq c 24)) $$ H
  iintro H
  iapply (step_r1 SN RE K c 23 (by decide) (k0_off133_eq c 23)) $$ H
  iintro H
  iapply (step_ldrs SN RE K c 23 30 (by decide) (by decide) (k0_off135_eq c 30)) $$ H
  iintro H
  iapply (step_ldrs SN RE K c 23 29 (by decide) (by decide) (k0_off135_eq c 29)) $$ H
  iintro H
  iapply ret_intro
  isplitr; · ipureintro; rfl
  iexact H

theorem part20 (c : Dev nD) {a0 a1 a2 a3 a4 a5 a6 a7 : BitVec 32}:
    Cs SN RE K c 23 ⊢ WP c (k0_part20 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6 a7 (k0_pay21 (ownLd SN c)) (k0_pay22 (rsLd SN c 30)) (k0_pay23 (rsLd SN c 29)))
      (fun r => iprop(⌜r = red1 (ownLd SN c) (rsLd SN c)⌝ ∗ Cs SN RE K c 22)) := by
  rw [k0_part20_eq_skeleton]
  unfold k0_part20_skel
  simp only [semSignalWord, semWaitWord, Prog.lift, Prog.bind_op, Prog.bind_ret, Prog.pure_eq_ret]
  iintro H
  iapply (step_ldrs SN RE K c 23 28 (by decide) (by decide) (k0_off135_eq c 28)) $$ H
  iintro H
  iapply (step_ldrs SN RE K c 23 27 (by decide) (by decide) (k0_off135_eq c 27)) $$ H
  iintro H
  iapply (step_ldrs SN RE K c 23 26 (by decide) (by decide) (k0_off135_eq c 26)) $$ H
  iintro H
  iapply (step_ldrs SN RE K c 23 25 (by decide) (by decide) (k0_off135_eq c 25)) $$ H
  iintro H
  iapply (step_ldrs SN RE K c 23 24 (by decide) (by decide) (k0_off135_eq c 24)) $$ H
  iintro H
  iapply (step_ldrs SN RE K c 23 23 (by decide) (by decide) (k0_off135_eq c 23)) $$ H
  iintro H
  iapply (step_r1 SN RE K c 22 (by decide) (k0_off133_eq c 22)) $$ H
  iintro H
  iapply ret_intro
  isplitr; · ipureintro; rfl
  iexact H

theorem part21 (c : Dev nD) {a0 a1 a2 a3 a4 a5 : BitVec 32}:
    Cs SN RE K c 22 ⊢ WP c (k0_part21 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5)
      (fun _ => Cs SN RE K c 16) := by
  rw [k0_part21_eq_skeleton]
  unfold k0_part21_skel
  simp only [semSignalWord, semWaitWord, Prog.lift, Prog.bind_op, Prog.bind_ret, Prog.pure_eq_ret]
  iintro H
  iapply (step_r1 SN RE K c 21 (by decide) (k0_off133_eq c 21)) $$ H
  iintro H
  iapply (step_r1 SN RE K c 20 (by decide) (k0_off133_eq c 20)) $$ H
  iintro H
  iapply (step_r1 SN RE K c 19 (by decide) (k0_off133_eq c 19)) $$ H
  iintro H
  iapply (step_r1 SN RE K c 18 (by decide) (k0_off133_eq c 18)) $$ H
  iintro H
  iapply (step_r1 SN RE K c 17 (by decide) (k0_off133_eq c 17)) $$ H
  iintro H
  iapply (step_r1 SN RE K c 16 (by decide) (k0_off133_eq c 16)) $$ H
  iintro H
  iapply ret_intro
  iexact H

theorem part22 (c : Dev nD) {a0 a1 a2 a3 a4 a5 a6 a7 a8 : BitVec 32}:
    Cs SN RE K c 16 ⊢ WP c (k0_part22 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6 a7 a8 (red1 (ownLd SN c) (rsLd SN c)))
      (fun r => iprop(⌜r = red2 (ownLd SN c) (rsLd SN c)⌝ ∗ Cs SN RE K c 15)) := by
  rw [k0_part22_eq_skeleton]
  unfold k0_part22_skel
  simp only [semSignalWord, semWaitWord, Prog.lift, Prog.bind_op, Prog.bind_ret, Prog.pure_eq_ret]
  iintro H
  iapply (step_r1 SN RE K c 15 (by decide) (k0_off133_eq c 15)) $$ H
  iintro H
  iapply (step_ldrs SN RE K c 15 22 (by decide) (by decide) (k0_off135_eq c 22)) $$ H
  iintro H
  iapply (step_ldrs SN RE K c 15 21 (by decide) (by decide) (k0_off135_eq c 21)) $$ H
  iintro H
  iapply (step_ldrs SN RE K c 15 20 (by decide) (by decide) (k0_off135_eq c 20)) $$ H
  iintro H
  iapply (step_ldrs SN RE K c 15 19 (by decide) (by decide) (k0_off135_eq c 19)) $$ H
  iintro H
  iapply (step_ldrs SN RE K c 15 18 (by decide) (by decide) (k0_off135_eq c 18)) $$ H
  iintro H
  iapply (step_ldrs SN RE K c 15 17 (by decide) (by decide) (k0_off135_eq c 17)) $$ H
  iintro H
  iapply (step_ldrs SN RE K c 15 16 (by decide) (by decide) (k0_off135_eq c 16)) $$ H
  iintro H
  iapply (step_ldrs SN RE K c 15 15 (by decide) (by decide) (k0_off135_eq c 15)) $$ H
  iintro H
  iapply ret_intro
  isplitr; · ipureintro; rfl
  iexact H

theorem part23 (c : Dev nD) {a0 a1 a2 a3 a4 : BitVec 32}:
    Cs SN RE K c 15 ⊢ WP c (k0_part23 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4)
      (fun _ => Cs SN RE K c 10) := by
  rw [k0_part23_eq_skeleton]
  unfold k0_part23_skel
  simp only [semSignalWord, semWaitWord, Prog.lift, Prog.bind_op, Prog.bind_ret, Prog.pure_eq_ret]
  iintro H
  iapply (step_r1 SN RE K c 14 (by decide) (k0_off133_eq c 14)) $$ H
  iintro H
  iapply (step_r1 SN RE K c 13 (by decide) (k0_off133_eq c 13)) $$ H
  iintro H
  iapply (step_r1 SN RE K c 12 (by decide) (k0_off133_eq c 12)) $$ H
  iintro H
  iapply (step_r1 SN RE K c 11 (by decide) (k0_off133_eq c 11)) $$ H
  iintro H
  iapply (step_r1 SN RE K c 10 (by decide) (k0_off133_eq c 10)) $$ H
  iintro H
  iapply ret_intro
  iexact H

theorem part24 (c : Dev nD) {a0 a1 a2 a3 a4 a5 a6 a7 : BitVec 32}:
    Cs SN RE K c 10 ⊢ WP c (k0_part24 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6 a7)
      (fun r => iprop(⌜r = ⟨k0_pay26 (rsLd SN c 14), k0_pay27 (rsLd SN c 13), k0_pay28 (rsLd SN c 12), k0_pay29 (rsLd SN c 11), k0_pay30 (rsLd SN c 10), k0_pay31 (rsLd SN c 9), k0_pay32 (rsLd SN c 8)⟩⌝ ∗ Cs SN RE K c 7)) := by
  rw [k0_part24_eq_skeleton]
  unfold k0_part24_skel
  simp only [semSignalWord, semWaitWord, Prog.lift, Prog.bind_op, Prog.bind_ret, Prog.pure_eq_ret]
  iintro H
  iapply (step_r1 SN RE K c 9 (by decide) (k0_off133_eq c 9)) $$ H
  iintro H
  iapply (step_r1 SN RE K c 8 (by decide) (k0_off133_eq c 8)) $$ H
  iintro H
  iapply (step_r1 SN RE K c 7 (by decide) (k0_off133_eq c 7)) $$ H
  iintro H
  iapply (step_ldrs SN RE K c 7 14 (by decide) (by decide) (k0_off135_eq c 14)) $$ H
  iintro H
  iapply (step_ldrs SN RE K c 7 13 (by decide) (by decide) (k0_off135_eq c 13)) $$ H
  iintro H
  iapply (step_ldrs SN RE K c 7 12 (by decide) (by decide) (k0_off135_eq c 12)) $$ H
  iintro H
  iapply (step_ldrs SN RE K c 7 11 (by decide) (by decide) (k0_off135_eq c 11)) $$ H
  iintro H
  iapply (step_ldrs SN RE K c 7 10 (by decide) (by decide) (k0_off135_eq c 10)) $$ H
  iintro H
  iapply (step_ldrs SN RE K c 7 9 (by decide) (by decide) (k0_off135_eq c 9)) $$ H
  iintro H
  iapply (step_ldrs SN RE K c 7 8 (by decide) (by decide) (k0_off135_eq c 8)) $$ H
  iintro H
  iapply ret_intro
  isplitr; · ipureintro; rfl
  iexact H

theorem part25 (c : Dev nD) {a0 a1 a2 a3 a4 : BitVec 32}:
    Cs SN RE K c 7 ⊢ WP c (k0_part25 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 (red2 (ownLd SN c) (rsLd SN c)) (k0_pay26 (rsLd SN c 14)) (k0_pay27 (rsLd SN c 13)) (k0_pay28 (rsLd SN c 12)) (k0_pay29 (rsLd SN c 11)) (k0_pay30 (rsLd SN c 10)) (k0_pay31 (rsLd SN c 9)) (k0_pay32 (rsLd SN c 8)))
      (fun r => iprop(⌜r.1 = red3 (ownLd SN c) (rsLd SN c)⌝ ∗ Cs SN RE K c 3)) := by
  rw [k0_part25_eq_skeleton]
  unfold k0_part25_skel
  simp only [semSignalWord, semWaitWord, Prog.lift, Prog.bind_op, Prog.bind_ret, Prog.pure_eq_ret]
  iintro H
  iapply (step_ldrs SN RE K c 7 7 (by decide) (by decide) (k0_off135_eq c 7)) $$ H
  iintro H
  iapply (step_r1 SN RE K c 6 (by decide) (k0_off133_eq c 6)) $$ H
  iintro H
  iapply (step_r1 SN RE K c 5 (by decide) (k0_off133_eq c 5)) $$ H
  iintro H
  iapply (step_r1 SN RE K c 4 (by decide) (k0_off133_eq c 4)) $$ H
  iintro H
  iapply (step_r1 SN RE K c 3 (by decide) (k0_off133_eq c 3)) $$ H
  iintro H
  iapply ret_intro
  isplitr; · ipureintro; rfl
  iexact H

theorem part26 (c : Dev nD) {a0 a1 a2 a3 a4 a5 a6 a7 a8 : BitVec 32}:
    Cs SN RE K c 3 ⊢ WP c (k0_part26 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6 a7 a8)
      (fun r => iprop(⌜r = ⟨k0_pay34 (rsLd SN c 6), k0_pay35 (rsLd SN c 5), k0_pay36 (rsLd SN c 4), k0_pay37 (rsLd SN c 3), k0_pay38 (rsLd SN c 2), k0_pay39 (rsLd SN c 1)⟩⌝ ∗ Cs SN RE K c 0)) := by
  rw [k0_part26_eq_skeleton]
  unfold k0_part26_skel
  simp only [semSignalWord, semWaitWord, Prog.lift, Prog.bind_op, Prog.bind_ret, Prog.pure_eq_ret]
  iintro H
  iapply (step_r1 SN RE K c 2 (by decide) (k0_off133_eq c 2)) $$ H
  iintro H
  iapply (step_r1 SN RE K c 1 (by decide) (k0_off133_eq c 1)) $$ H
  iintro H
  iapply (step_r1 SN RE K c 0 (by decide) (k0_off133_eq c 0)) $$ H
  iintro H
  iapply (step_ldrs SN RE K c 0 6 (by decide) (by decide) (k0_off135_eq c 6)) $$ H
  iintro H
  iapply (step_ldrs SN RE K c 0 5 (by decide) (by decide) (k0_off135_eq c 5)) $$ H
  iintro H
  iapply (step_ldrs SN RE K c 0 4 (by decide) (by decide) (k0_off135_eq c 4)) $$ H
  iintro H
  iapply (step_ldrs SN RE K c 0 3 (by decide) (by decide) (k0_off135_eq c 3)) $$ H
  iintro H
  iapply (step_ldrs SN RE K c 0 2 (by decide) (by decide) (k0_off135_eq c 2)) $$ H
  iintro H
  iapply (step_ldrs SN RE K c 0 1 (by decide) (by decide) (k0_off135_eq c 1)) $$ H
  iintro H
  iapply ret_intro
  isplitr; · ipureintro; rfl
  iexact H

end Cert.Proof
-- ==== Proof.Parts4.lean ====
module
public import proofs.«01_k».proof.Proof.Parts3
public import Idealize.ShloMosaic.Lib.Pipeline.Value

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F))
variable (K : GSem nD τ sig → ℕ)

/-! ## Between the phases -/

/-- The received chunks, and what the second copies need at the start. -/
def R1d (c : Dev nD) : sProp 𝕄 :=
  bigSep (Finset.range 31) fun i => iprop(atPos ER (r1Cell c (peer c i)) 1 ∅ 0 ∗ rsPt c (peer c i) (rsC SN c))

theorem arrivals_done (c : Dev nD) :
    iprop(Cs SN RE K c 0 ∗ redAll c (RE c) ∗ bigSep (Finset.range 31) (snd2 c)) ⊢ iprop(Es SN RE K c 0 ∗ redPt c c (RE c) ∗ R1d SN c) := by
  unfold Cs Es R1d
  rw [red_split RE c, bsep (Finset.Ico 0 31) (snd2 c) (fun i => redPt c (peer c i) (RE c)), bigSep_Ico_zero, bigSep_Ico_zero, bigSep_Ico_zero, bigSep_range_zero, bigSep_range_zero]
  iintro ⟨⟨#HC, -, Hd, HO⟩, ⟨Hr, Hrs⟩, Hs⟩
  isplitr [Hr Hd]
  · isplitr; · iexact HC
    isplitl [Hs Hrs]
    · isplitl [Hs]; · iexact Hs
      iexact Hrs
    isplitr; · iempintro
    iexact HO
  isplitl [Hr]; · iexact Hr
  iexact Hd

/-- What the waits for the second copies' arrival need. -/
def R2t (c : Dev nD) : sProp 𝕄 :=
  bigSep (Finset.range 31) fun i => iprop(cred (tallyAt (r2Cell c (peer c i)) () N) ∗ atPos ER (r2Cell c (peer c i)) 0 ∅ 0)
/-- What the second copies leave for their own waits. -/
def S2c (c : Dev nD) : sProp 𝕄 := bigSep (Finset.range 31) fun i => cred (tallyAt (s2Cell c (peer c i)) () N)

theorem sends2_done (c : Dev nD) : iprop(Es SN RE K c 31 ∗ R2t c) ⊢ iprop(Fs SN RE K c 31 ∗ S2c c) := by
  unfold Es Fs R2t S2c
  rw [r2O_end, bigSep_Ico_self]
  iintro ⟨⟨#HC, -, Hs, HO⟩, Hr⟩
  isplitr [Hs]
  · isplitr; · iexact HC
    isplitl [Hr]; · iexact Hr
    isplitr; · iempintro
    iexact HO
  iexact Hs

/-! ## The reduced rows are stored and sent -/

/-- The two payloads stored are the same rows. -/
theorem red40 (own : S64x1024.Idx → Elt F .bf16) (l : ℕ → S1x64x1024.Idx → Elt F .bf16) :
    k0_pay40 (red3 own l) (k0_pay34 (l 6)) (k0_pay35 (l 5)) (k0_pay36 (l 4)) (k0_pay37 (l 3)) (k0_pay38 (l 2)) (k0_pay39 (l 1)) (l 0) = redVal own l := rfl
theorem red41 (own : S64x1024.Idx → Elt F .bf16) (l : ℕ → S1x64x1024.Idx → Elt F .bf16) :
    k0_pay41 (red3 own l) (k0_pay34 (l 6)) (k0_pay35 (l 5)) (k0_pay36 (l 4)) (k0_pay37 (l 3)) (k0_pay38 (l 2)) (k0_pay39 (l 1)) (l 0) = redVal own l := Idealize.ShloMosaic.shapeCast_self _ _

theorem part27 (fr : (cc0_scratch1 : Ref sig .tc).ty.Contents (Elt F)) (fo : (cc0_stg3_0 : Ref sig .tc).ty.Contents (Elt F)) (c : Dev nD)
    (hRE : ∀ x, redVal (ownLd SN c) (rsLd SN c) x = RE c x) {a0 a1 a2 a3 : BitVec 32}:
    iprop(Cs SN RE K c 0 ∗ (redAll c fr ∗ oPt c c fo) ∗ bigSep (Finset.range 31) (snd2 c)) ⊢ WP c (k0_part27 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 (red3 (ownLd SN c) (rsLd SN c)) (k0_pay34 (rsLd SN c 6)) (k0_pay35 (rsLd SN c 5)) (k0_pay36 (rsLd SN c 4)) (k0_pay37 (rsLd SN c 3)) (k0_pay38 (rsLd SN c 2)) (k0_pay39 (rsLd SN c 1)))
      (fun _ => iprop(Es SN RE K c 2 ∗ redPt c c (RE c) ∗ oPt c c (outC RE) ∗ R1d SN c)) := by
  rw [k0_part27_eq_skeleton]
  unfold k0_part27_skel
  simp only [semSignalWord, semWaitWord, Prog.lift, Prog.bind_op, Prog.bind_ret, Prog.pure_eq_ret]
  iintro ⟨H, ⟨Hr, Ho⟩, Hs⟩
  iapply (step_ldrs SN RE K c 0 0 (by decide) (by decide) (k0_off135_eq c 0)) $$ H
  iintro H
  iapply (step_ldred c fr) $$ Hr
  iintro %v Hr
  iapply (step_stred RE c fr (fun x => (congrFun (red41 (ownLd SN c) (rsLd SN c)) x).trans (hRE x))) $$ Hr
  iintro Hr
  iapply (step_ldout c fo (k0_off132_eq c)) $$ Ho
  iintro %v' Ho
  iapply (step_stout RE c fo (k0_off132_eq c) (fun x => (congrFun (red40 (ownLd SN c) (rsLd SN c)) x).trans (hRE x))) $$ Ho
  iintro Ho
  ihave H := (arrivals_done SN RE K c) $$ [H Hr Hs]
  · isplitl [H]; · iexact H
    isplitl [Hr]; · iexact Hr
    iexact Hs
  icases H with ⟨H, Hr, Hd⟩
  iapply (step_send2 SN RE K c 0 (by decide) (k0_off133_eq c 0) (k0_off136_eq c) (k0_off137_eq c) (k0_dev64_eq c)) $$ H
  iintro H
  iapply (step_send2 SN RE K c 1 (by decide) (k0_off133_eq c 1) (k0_off136_eq c) (k0_off137_eq c) (k0_dev65_eq c)) $$ H
  iintro H
  iapply ret_intro
  isplitl [H]; · iexact H
  isplitl [Hr]; · iexact Hr
  isplitl [Ho]; · iexact Ho
  iexact Hd

theorem part28 (c : Dev nD) {a0 a1 a2 a3 a4 : BitVec 32}:
    Es SN RE K c 2 ⊢ WP c (k0_part28 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4)
      (fun _ => Es SN RE K c 7) := by
  rw [k0_part28_eq_skeleton]
  unfold k0_part28_skel
  simp only [semSignalWord, semWaitWord, Prog.lift, Prog.bind_op, Prog.bind_ret, Prog.pure_eq_ret]
  iintro H
  iapply (step_send2 SN RE K c 2 (by decide) (k0_off133_eq c 2) (k0_off136_eq c) (k0_off137_eq c) (k0_dev66_eq c)) $$ H
  iintro H
  iapply (step_send2 SN RE K c 3 (by decide) (k0_off133_eq c 3) (k0_off136_eq c) (k0_off137_eq c) (k0_dev67_eq c)) $$ H
  iintro H
  iapply (step_send2 SN RE K c 4 (by decide) (k0_off133_eq c 4) (k0_off136_eq c) (k0_off137_eq c) (k0_dev68_eq c)) $$ H
  iintro H
  iapply (step_send2 SN RE K c 5 (by decide) (k0_off133_eq c 5) (k0_off136_eq c) (k0_off137_eq c) (k0_dev69_eq c)) $$ H
  iintro H
  iapply (step_send2 SN RE K c 6 (by decide) (k0_off133_eq c 6) (k0_off136_eq c) (k0_off137_eq c) (k0_dev70_eq c)) $$ H
  iintro H
  iapply ret_intro
  iexact H

theorem part29 (c : Dev nD) {a0 a1 a2 a3 a4 a5 a6 : BitVec 32}:
    Es SN RE K c 7 ⊢ WP c (k0_part29 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6)
      (fun _ => Es SN RE K c 11) := by
  rw [k0_part29_eq_skeleton]
  unfold k0_part29_skel
  simp only [semSignalWord, semWaitWord, Prog.lift, Prog.bind_op, Prog.bind_ret, Prog.pure_eq_ret]
  iintro H
  iapply (step_send2 SN RE K c 7 (by decide) (k0_off133_eq c 7) (k0_off136_eq c) (k0_off137_eq c) (k0_dev71_eq c)) $$ H
  iintro H
  iapply (step_send2 SN RE K c 8 (by decide) (k0_off133_eq c 8) (k0_off136_eq c) (k0_off137_eq c) (k0_dev72_eq c)) $$ H
  iintro H
  iapply (step_send2 SN RE K c 9 (by decide) (k0_off133_eq c 9) (k0_off136_eq c) (k0_off137_eq c) (k0_dev73_eq c)) $$ H
  iintro H
  iapply (step_send2 SN RE K c 10 (by decide) (k0_off133_eq c 10) (k0_off136_eq c) (k0_off137_eq c) (k0_dev74_eq c)) $$ H
  iintro H
  iapply ret_intro
  iexact H

theorem part30 (c : Dev nD) {a0 a1 a2 a3 a4 a5 : BitVec 32}:
    Es SN RE K c 11 ⊢ WP c (k0_part30 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5)
      (fun _ => Es SN RE K c 16) := by
  rw [k0_part30_eq_skeleton]
  unfold k0_part30_skel
  simp only [semSignalWord, semWaitWord, Prog.lift, Prog.bind_op, Prog.bind_ret, Prog.pure_eq_ret]
  iintro H
  iapply (step_send2 SN RE K c 11 (by decide) (k0_off133_eq c 11) (k0_off136_eq c) (k0_off137_eq c) (k0_dev75_eq c)) $$ H
  iintro H
  iapply (step_send2 SN RE K c 12 (by decide) (k0_off133_eq c 12) (k0_off136_eq c) (k0_off137_eq c) (k0_dev76_eq c)) $$ H
  iintro H
  iapply (step_send2 SN RE K c 13 (by decide) (k0_off133_eq c 13) (k0_off136_eq c) (k0_off137_eq c) (k0_dev77_eq c)) $$ H
  iintro H
  iapply (step_send2 SN RE K c 14 (by decide) (k0_off133_eq c 14) (k0_off136_eq c) (k0_off137_eq c) (k0_dev78_eq c)) $$ H
  iintro H
  iapply (step_send2 SN RE K c 15 (by decide) (k0_off133_eq c 15) (k0_off136_eq c) (k0_off137_eq c) (k0_dev79_eq c)) $$ H
  iintro H
  iapply ret_intro
  iexact H

theorem part31 (c : Dev nD) {a0 a1 a2 a3 a4 : BitVec 32}:
    Es SN RE K c 16 ⊢ WP c (k0_part31 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4)
      (fun _ => Es SN RE K c 21) := by
  rw [k0_part31_eq_skeleton]
  unfold k0_part31_skel
  simp only [semSignalWord, semWaitWord, Prog.lift, Prog.bind_op, Prog.bind_ret, Prog.pure_eq_ret]
  iintro H
  iapply (step_send2 SN RE K c 16 (by decide) (k0_off133_eq c 16) (k0_off136_eq c) (k0_off137_eq c) (k0_dev80_eq c)) $$ H
  iintro H
  iapply (step_send2 SN RE K c 17 (by decide) (k0_off133_eq c 17) (k0_off136_eq c) (k0_off137_eq c) (k0_dev81_eq c)) $$ H
  iintro H
  iapply (step_send2 SN RE K c 18 (by decide) (k0_off133_eq c 18) (k0_off136_eq c) (k0_off137_eq c) (k0_dev82_eq c)) $$ H
  iintro H
  iapply (step_send2 SN RE K c 19 (by decide) (k0_off133_eq c 19) (k0_off136_eq c) (k0_off137_eq c) (k0_dev83_eq c)) $$ H
  iintro H
  iapply (step_send2 SN RE K c 20 (by decide) (k0_off133_eq c 20) (k0_off136_eq c) (k0_off137_eq c) (k0_dev84_eq c)) $$ H
  iintro H
  iapply ret_intro
  iexact H

theorem part32 (c : Dev nD) {a0 a1 a2 a3 a4 a5 a6 : BitVec 32}:
    Es SN RE K c 21 ⊢ WP c (k0_part32 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6)
      (fun _ => Es SN RE K c 25) := by
  rw [k0_part32_eq_skeleton]
  unfold k0_part32_skel
  simp only [semSignalWord, semWaitWord, Prog.lift, Prog.bind_op, Prog.bind_ret, Prog.pure_eq_ret]
  iintro H
  iapply (step_send2 SN RE K c 21 (by decide) (k0_off133_eq c 21) (k0_off136_eq c) (k0_off137_eq c) (k0_dev85_eq c)) $$ H
  iintro H
  iapply (step_send2 SN RE K c 22 (by decide) (k0_off133_eq c 22) (k0_off136_eq c) (k0_off137_eq c) (k0_dev86_eq c)) $$ H
  iintro H
  iapply (step_send2 SN RE K c 23 (by decide) (k0_off133_eq c 23) (k0_off136_eq c) (k0_off137_eq c) (k0_dev87_eq c)) $$ H
  iintro H
  iapply (step_send2 SN RE K c 24 (by decide) (k0_off133_eq c 24) (k0_off136_eq c) (k0_off137_eq c) (k0_dev88_eq c)) $$ H
  iintro H
  iapply ret_intro
  iexact H

theorem part33 (c : Dev nD) {a0 a1 a2 a3 a4 a5 : BitVec 32}:
    Es SN RE K c 25 ⊢ WP c (k0_part33 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5)
      (fun _ => Es SN RE K c 30) := by
  rw [k0_part33_eq_skeleton]
  unfold k0_part33_skel
  simp only [semSignalWord, semWaitWord, Prog.lift, Prog.bind_op, Prog.bind_ret, Prog.pure_eq_ret]
  iintro H
  iapply (step_send2 SN RE K c 25 (by decide) (k0_off133_eq c 25) (k0_off136_eq c) (k0_off137_eq c) (k0_dev89_eq c)) $$ H
  iintro H
  iapply (step_send2 SN RE K c 26 (by decide) (k0_off133_eq c 26) (k0_off136_eq c) (k0_off137_eq c) (k0_dev90_eq c)) $$ H
  iintro H
  iapply (step_send2 SN RE K c 27 (by decide) (k0_off133_eq c 27) (k0_off136_eq c) (k0_off137_eq c) (k0_dev91_eq c)) $$ H
  iintro H
  iapply (step_send2 SN RE K c 28 (by decide) (k0_off133_eq c 28) (k0_off136_eq c) (k0_off137_eq c) (k0_dev92_eq c)) $$ H
  iintro H
  iapply (step_send2 SN RE K c 29 (by decide) (k0_off133_eq c 29) (k0_off136_eq c) (k0_off137_eq c) (k0_dev93_eq c)) $$ H
  iintro H
  iapply ret_intro
  iexact H

/-! ## The other devices' rows arrive -/

theorem part34 (c : Dev nD) {a0 a1 a2 a3 a4 a5 : BitVec 32}:
    iprop(Es SN RE K c 30 ∗ R2t c) ⊢ WP c (k0_part34 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5)
      (fun _ => iprop(Fs SN RE K c 27 ∗ S2c c)) := by
  rw [k0_part34_eq_skeleton]
  unfold k0_part34_skel
  simp only [semSignalWord, semWaitWord, Prog.lift, Prog.bind_op, Prog.bind_ret, Prog.pure_eq_ret]
  iintro ⟨H, Hr⟩
  iapply (step_send2 SN RE K c 30 (by decide) (k0_off133_eq c 30) (k0_off136_eq c) (k0_off137_eq c) (k0_dev94_eq c)) $$ H
  iintro H
  ihave H := (sends2_done SN RE K c) $$ [H Hr]
  · isplitl [H]; · iexact H
    iexact Hr
  icases H with ⟨H, Hc⟩
  iapply (step_r2 SN RE K c 30 (by decide) (k0_off133_eq c 30)) $$ H
  iintro H
  iapply (step_r2 SN RE K c 29 (by decide) (k0_off133_eq c 29)) $$ H
  iintro H
  iapply (step_r2 SN RE K c 28 (by decide) (k0_off133_eq c 28)) $$ H
  iintro H
  iapply (step_r2 SN RE K c 27 (by decide) (k0_off133_eq c 27)) $$ H
  iintro H
  iapply ret_intro
  isplitl [H]; · iexact H
  iexact Hc

theorem part35 (c : Dev nD) {a0 a1 a2 a3 a4 : BitVec 32}:
    Fs SN RE K c 27 ⊢ WP c (k0_part35 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4)
      (fun _ => Fs SN RE K c 21) := by
  rw [k0_part35_eq_skeleton]
  unfold k0_part35_skel
  simp only [semSignalWord, semWaitWord, Prog.lift, Prog.bind_op, Prog.bind_ret, Prog.pure_eq_ret]
  iintro H
  iapply (step_r2 SN RE K c 26 (by decide) (k0_off133_eq c 26)) $$ H
  iintro H
  iapply (step_r2 SN RE K c 25 (by decide) (k0_off133_eq c 25)) $$ H
  iintro H
  iapply (step_r2 SN RE K c 24 (by decide) (k0_off133_eq c 24)) $$ H
  iintro H
  iapply (step_r2 SN RE K c 23 (by decide) (k0_off133_eq c 23)) $$ H
  iintro H
  iapply (step_r2 SN RE K c 22 (by decide) (k0_off133_eq c 22)) $$ H
  iintro H
  iapply (step_r2 SN RE K c 21 (by decide) (k0_off133_eq c 21)) $$ H
  iintro H
  iapply ret_intro
  iexact H

theorem part36 (c : Dev nD) {a0 a1 a2 a3 a4 a5 a6 : BitVec 32}:
    Fs SN RE K c 21 ⊢ WP c (k0_part36 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6)
      (fun _ => Fs SN RE K c 16) := by
  rw [k0_part36_eq_skeleton]
  unfold k0_part36_skel
  simp only [semSignalWord, semWaitWord, Prog.lift, Prog.bind_op, Prog.bind_ret, Prog.pure_eq_ret]
  iintro H
  iapply (step_r2 SN RE K c 20 (by decide) (k0_off133_eq c 20)) $$ H
  iintro H
  iapply (step_r2 SN RE K c 19 (by decide) (k0_off133_eq c 19)) $$ H
  iintro H
  iapply (step_r2 SN RE K c 18 (by decide) (k0_off133_eq c 18)) $$ H
  iintro H
  iapply (step_r2 SN RE K c 17 (by decide) (k0_off133_eq c 17)) $$ H
  iintro H
  iapply (step_r2 SN RE K c 16 (by decide) (k0_off133_eq c 16)) $$ H
  iintro H
  iapply ret_intro
  iexact H

theorem part37 (c : Dev nD) {a0 a1 a2 a3 a4 : BitVec 32}:
    Fs SN RE K c 16 ⊢ WP c (k0_part37 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4)
      (fun _ => Fs SN RE K c 10) := by
  rw [k0_part37_eq_skeleton]
  unfold k0_part37_skel
  simp only [semSignalWord, semWaitWord, Prog.lift, Prog.bind_op, Prog.bind_ret, Prog.pure_eq_ret]
  iintro H
  iapply (step_r2 SN RE K c 15 (by decide) (k0_off133_eq c 15)) $$ H
  iintro H
  iapply (step_r2 SN RE K c 14 (by decide) (k0_off133_eq c 14)) $$ H
  iintro H
  iapply (step_r2 SN RE K c 13 (by decide) (k0_off133_eq c 13)) $$ H
  iintro H
  iapply (step_r2 SN RE K c 12 (by decide) (k0_off133_eq c 12)) $$ H
  iintro H
  iapply (step_r2 SN RE K c 11 (by decide) (k0_off133_eq c 11)) $$ H
  iintro H
  iapply (step_r2 SN RE K c 10 (by decide) (k0_off133_eq c 10)) $$ H
  iintro H
  iapply ret_intro
  iexact H

theorem part38 (c : Dev nD) {a0 a1 a2 a3 a4 a5 : BitVec 32}:
    Fs SN RE K c 10 ⊢ WP c (k0_part38 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5)
      (fun _ => Fs SN RE K c 5) := by
  rw [k0_part38_eq_skeleton]
  unfold k0_part38_skel
  simp only [semSignalWord, semWaitWord, Prog.lift, Prog.bind_op, Prog.bind_ret, Prog.pure_eq_ret]
  iintro H
  iapply (step_r2 SN RE K c 9 (by decide) (k0_off133_eq c 9)) $$ H
  iintro H
  iapply (step_r2 SN RE K c 8 (by decide) (k0_off133_eq c 8)) $$ H
  iintro H
  iapply (step_r2 SN RE K c 7 (by decide) (k0_off133_eq c 7)) $$ H
  iintro H
  iapply (step_r2 SN RE K c 6 (by decide) (k0_off133_eq c 6)) $$ H
  iintro H
  iapply (step_r2 SN RE K c 5 (by decide) (k0_off133_eq c 5)) $$ H
  iintro H
  iapply ret_intro
  iexact H

end Cert.Proof
-- ==== Proof.Parts5.lean ====
module
public import proofs.«01_k».proof.Proof.Parts4

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F))
variable (K : GSem nD τ sig → ℕ)

/-! ## Waiting for the first copies to have been read -/

theorem step_s1' (c : Dev nD) (n : ℕ) (hn : n < 32) {P : Prop} [Decidable P] (hP : P ↔ (⟨n, hn⟩ : Dev nD) ≠ c)
    {h3 : ∀ a, (![n] : Fin 1 → ℕ) a + S1.size a ≤ S32.size a} {o4 : Fin 2 → ℕ} {h4 : ∀ a, o4 a + S64x1024.size a ≤ S2048x1024.size a}
    {sp' : Space} {s' : Shape} {e' : EltTy} {src : P → Memref sig .tc sp' s' e'} {hsrc : ∀ h, (src h).view.WordExact}
    {hdst : (sndM.slice (Rect.unit (s := S2048x1024) o4 S64x1024.size h4) (fun _ => rfl)).view.WordExact}
    {α : Type} {kk : Prog (TpuEff nD τ sig (Elt F) Λ₀ .tc) α} {Q : α → sProp 𝕄} :
    Gs SN RE K c n ⊢ iprop((Gs SN RE K c (n + 1) -∗ WP c kk Q)
      -∗ WP c (if h : P then .op (.waitDma2 ((cc0_scratch3.slice (Rect.unit (s := S32) ![n] S1.size h3)).squeeze S_ squeezes_S1_S_).sem (src h)
        (sndM.slice (Rect.unit (s := S2048x1024) o4 S64x1024.size h4) (fun _ => rfl)) (hsrc h) hdst) (fun _ => kk) else kk) Q) :=
  step_s1 SN RE K c ⟨n, hn⟩ hP (kk := fun _ : PUnit.{1} => kk)

theorem cond33 (c : Dev nD) : k0_cond33 c = 1#1 ↔ (⟨0, by decide⟩ : Dev nD) ≠ c := by revert c; decide +kernel
theorem cond34 (c : Dev nD) : k0_cond34 c = 1#1 ↔ (⟨1, by decide⟩ : Dev nD) ≠ c := by revert c; decide +kernel
theorem cond35 (c : Dev nD) : k0_cond35 c = 1#1 ↔ (⟨2, by decide⟩ : Dev nD) ≠ c := by revert c; decide +kernel
theorem cond36 (c : Dev nD) : k0_cond36 c = 1#1 ↔ (⟨3, by decide⟩ : Dev nD) ≠ c := by revert c; decide +kernel
theorem cond37 (c : Dev nD) : k0_cond37 c = 1#1 ↔ (⟨4, by decide⟩ : Dev nD) ≠ c := by revert c; decide +kernel
theorem cond38 (c : Dev nD) : k0_cond38 c = 1#1 ↔ (⟨5, by decide⟩ : Dev nD) ≠ c := by revert c; decide +kernel
theorem cond39 (c : Dev nD) : k0_cond39 c = 1#1 ↔ (⟨6, by decide⟩ : Dev nD) ≠ c := by revert c; decide +kernel
theorem cond40 (c : Dev nD) : k0_cond40 c = 1#1 ↔ (⟨7, by decide⟩ : Dev nD) ≠ c := by revert c; decide +kernel
theorem cond41 (c : Dev nD) : k0_cond41 c = 1#1 ↔ (⟨8, by decide⟩ : Dev nD) ≠ c := by revert c; decide +kernel
theorem cond42 (c : Dev nD) : k0_cond42 c = 1#1 ↔ (⟨9, by decide⟩ : Dev nD) ≠ c := by revert c; decide +kernel
theorem cond43 (c : Dev nD) : k0_cond43 c = 1#1 ↔ (⟨10, by decide⟩ : Dev nD) ≠ c := by revert c; decide +kernel
theorem cond44 (c : Dev nD) : k0_cond44 c = 1#1 ↔ (⟨11, by decide⟩ : Dev nD) ≠ c := by revert c; decide +kernel
theorem cond45 (c : Dev nD) : k0_cond45 c = 1#1 ↔ (⟨12, by decide⟩ : Dev nD) ≠ c := by revert c; decide +kernel
theorem cond46 (c : Dev nD) : k0_cond46 c = 1#1 ↔ (⟨13, by decide⟩ : Dev nD) ≠ c := by revert c; decide +kernel
theorem cond47 (c : Dev nD) : k0_cond47 c = 1#1 ↔ (⟨14, by decide⟩ : Dev nD) ≠ c := by revert c; decide +kernel
theorem cond48 (c : Dev nD) : k0_cond48 c = 1#1 ↔ (⟨15, by decide⟩ : Dev nD) ≠ c := by revert c; decide +kernel
theorem cond49 (c : Dev nD) : k0_cond49 c = 1#1 ↔ (⟨16, by decide⟩ : Dev nD) ≠ c := by revert c; decide +kernel
theorem cond50 (c : Dev nD) : k0_cond50 c = 1#1 ↔ (⟨17, by decide⟩ : Dev nD) ≠ c := by revert c; decide +kernel
theorem cond51 (c : Dev nD) : k0_cond51 c = 1#1 ↔ (⟨18, by decide⟩ : Dev nD) ≠ c := by revert c; decide +kernel
theorem cond52 (c : Dev nD) : k0_cond52 c = 1#1 ↔ (⟨19, by decide⟩ : Dev nD) ≠ c := by revert c; decide +kernel
theorem cond53 (c : Dev nD) : k0_cond53 c = 1#1 ↔ (⟨20, by decide⟩ : Dev nD) ≠ c := by revert c; decide +kernel
theorem cond54 (c : Dev nD) : k0_cond54 c = 1#1 ↔ (⟨21, by decide⟩ : Dev nD) ≠ c := by revert c; decide +kernel
theorem cond55 (c : Dev nD) : k0_cond55 c = 1#1 ↔ (⟨22, by decide⟩ : Dev nD) ≠ c := by revert c; decide +kernel
theorem cond56 (c : Dev nD) : k0_cond56 c = 1#1 ↔ (⟨23, by decide⟩ : Dev nD) ≠ c := by revert c; decide +kernel
theorem cond57 (c : Dev nD) : k0_cond57 c = 1#1 ↔ (⟨24, by decide⟩ : Dev nD) ≠ c := by revert c; decide +kernel
theorem cond58 (c : Dev nD) : k0_cond58 c = 1#1 ↔ (⟨25, by decide⟩ : Dev nD) ≠ c := by revert c; decide +kernel
theorem cond59 (c : Dev nD) : k0_cond59 c = 1#1 ↔ (⟨26, by decide⟩ : Dev nD) ≠ c := by revert c; decide +kernel
theorem cond60 (c : Dev nD) : k0_cond60 c = 1#1 ↔ (⟨27, by decide⟩ : Dev nD) ≠ c := by revert c; decide +kernel
theorem cond61 (c : Dev nD) : k0_cond61 c = 1#1 ↔ (⟨28, by decide⟩ : Dev nD) ≠ c := by revert c; decide +kernel
theorem cond62 (c : Dev nD) : k0_cond62 c = 1#1 ↔ (⟨29, by decide⟩ : Dev nD) ≠ c := by revert c; decide +kernel
theorem cond63 (c : Dev nD) : k0_cond63 c = 1#1 ↔ (⟨30, by decide⟩ : Dev nD) ≠ c := by revert c; decide +kernel
theorem cond64 (c : Dev nD) : k0_cond64 c = 1#1 ↔ (⟨31, by decide⟩ : Dev nD) ≠ c := by revert c; decide +kernel

/-- The first copies' own waits: what they need and what they leave. -/
def S1t (c : Dev nD) : sProp 𝕄 := bigSep (Finset.univ.erase c) fun q => atPos ER (s1Cell c q) 0 ∅ 0
def R2d (c : Dev nD) : sProp 𝕄 :=
  bigSep (Finset.range 31) fun i => iprop(atPos ER (r2Cell c (peer c i)) 1 ∅ 0 ∗ oPt c (peer c i) (outC RE))

theorem arrivals2_done (c : Dev nD) : iprop(Fs SN RE K c 0 ∗ S1c c ∗ S1t c) ⊢ iprop(Gs SN RE K c 0 ∗ R2d RE c) := by
  unfold Fs Gs S1c S1t R2d
  rw [← bigSep_ord c (fun q => cred (tallyAt (s1Cell c q) () N)), bigSep_Ico_zero,
    show ((Finset.univ.erase c).filter fun q : Dev nD => 0 ≤ q.val) = Finset.univ.erase c from Finset.filter_true_of_mem fun _ _ => Nat.zero_le _,
    show ((Finset.univ.erase c).filter fun q : Dev nD => q.val < 0) = ∅ from Finset.filter_false_of_mem fun _ _ => Nat.not_lt_zero _,
    bsep (Finset.univ.erase c) (fun q => cred (tallyAt (s1Cell c q) () N)) (fun q => atPos ER (s1Cell c q) 0 ∅ 0), bigSep_empty]
  iintro ⟨⟨#HC, -, Hd, HO⟩, Hc, Ha⟩
  isplitr [Hd]
  · isplitr; · iexact HC
    isplitl [Hc Ha]
    · isplitl [Hc]; · iexact Hc
      iexact Ha
    isplitr; · iempintro
    iexact HO
  iexact Hd

def S2t (c : Dev nD) : sProp 𝕄 := bigSep (Finset.range 31) fun i => atPos ER (s2Cell c (peer c i)) 0 ∅ 0
def S1d (c : Dev nD) : sProp 𝕄 :=
  bigSep (Finset.univ.erase c) fun q => iprop(atPos ER (s1Cell c q) 1 ∅ 0 ∗ sPt c q (SN c))

theorem reads_done (c : Dev nD) : iprop(Gs SN RE K c 32 ∗ S2c c ∗ S2t c) ⊢ iprop(Hs SN RE K c 0 ∗ S1d SN c) := by
  unfold Gs Hs S2c S2t S1d
  rw [bigSep_Ico_zero, bigSep_range_zero,
    show ((Finset.univ.erase c).filter fun q : Dev nD => q.val < 32) = Finset.univ.erase c from Finset.filter_true_of_mem fun q _ => q.isLt,
    bsep (Finset.range 31) (fun i => cred (tallyAt (s2Cell c (peer c i)) () N)) (fun i => atPos ER (s2Cell c (peer c i)) 0 ∅ 0)]
  iintro ⟨⟨#HC, -, Hd, HO⟩, Hc, Ha⟩
  isplitr [Hd]
  · isplitr; · iexact HC
    isplitl [Hc Ha]
    · isplitl [Hc]; · iexact Hc
      iexact Ha
    isplitr; · iempintro
    iexact HO
  iexact Hd

theorem part39 (c : Dev nD) {a0 a1 a2 a3 a4 a5 a6 : BitVec 32}:
    iprop(Fs SN RE K c 5 ∗ S1c c ∗ S1t c) ⊢ WP c (k0_part39 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2 a3 a4 a5 a6)
      (fun _ => iprop(Gs SN RE K c 1 ∗ R2d RE c)) := by
  rw [k0_part39_eq_skeleton]
  unfold k0_part39_skel
  simp -zeta -zetaHave only [Prog.lift, Prog.bind_op, Prog.bind_ret, Prog.pure_eq_ret]
  iintro ⟨H, Hr⟩
  iapply (step_r2 SN RE K c 4 (by decide) (k0_off133_eq c 4)) $$ H
  iintro H
  iapply (step_r2 SN RE K c 3 (by decide) (k0_off133_eq c 3)) $$ H
  iintro H
  iapply (step_r2 SN RE K c 2 (by decide) (k0_off133_eq c 2)) $$ H
  iintro H
  iapply (step_r2 SN RE K c 1 (by decide) (k0_off133_eq c 1)) $$ H
  iintro H
  iapply (step_r2 SN RE K c 0 (by decide) (k0_off133_eq c 0)) $$ H
  iintro H
  ihave H := (arrivals2_done SN RE K c) $$ [H Hr]
  · isplitl [H]; · iexact H
    iexact Hr
  icases H with ⟨H, Hd⟩
  iapply (step_s1' SN RE K c 0 (by decide) (cond33 c)) $$ H
  iintro H
  iapply ret_intro
  isplitl [H]; · iexact H
  iexact Hd

theorem part40 (c : Dev nD) {a0 a1 a2 : BitVec 32}:
    Gs SN RE K c 1 ⊢ WP c (k0_part40 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2)
      (fun _ => Gs SN RE K c 11) := by
  rw [k0_part40_eq_skeleton]
  unfold k0_part40_skel
  simp -zeta -zetaHave only [Prog.lift, Prog.bind_op, Prog.bind_ret, Prog.pure_eq_ret]
  iintro H
  iapply (step_s1' SN RE K c 1 (by decide) (cond34 c)) $$ H
  iintro H
  iapply (step_s1' SN RE K c 2 (by decide) (cond35 c)) $$ H
  iintro H
  iapply (step_s1' SN RE K c 3 (by decide) (cond36 c)) $$ H
  iintro H
  iapply (step_s1' SN RE K c 4 (by decide) (cond37 c)) $$ H
  iintro H
  iapply (step_s1' SN RE K c 5 (by decide) (cond38 c)) $$ H
  iintro H
  iapply (step_s1' SN RE K c 6 (by decide) (cond39 c)) $$ H
  iintro H
  iapply (step_s1' SN RE K c 7 (by decide) (cond40 c)) $$ H
  iintro H
  iapply (step_s1' SN RE K c 8 (by decide) (cond41 c)) $$ H
  iintro H
  iapply (step_s1' SN RE K c 9 (by decide) (cond42 c)) $$ H
  iintro H
  iapply (step_s1' SN RE K c 10 (by decide) (cond43 c)) $$ H
  iintro H
  iapply ret_intro
  iexact H

theorem part41 (c : Dev nD) {a0 a1 a2 : BitVec 32}:
    Gs SN RE K c 11 ⊢ WP c (k0_part41 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2)
      (fun _ => Gs SN RE K c 21) := by
  rw [k0_part41_eq_skeleton]
  unfold k0_part41_skel
  simp -zeta -zetaHave only [Prog.lift, Prog.bind_op, Prog.bind_ret, Prog.pure_eq_ret]
  iintro H
  iapply (step_s1' SN RE K c 11 (by decide) (cond44 c)) $$ H
  iintro H
  iapply (step_s1' SN RE K c 12 (by decide) (cond45 c)) $$ H
  iintro H
  iapply (step_s1' SN RE K c 13 (by decide) (cond46 c)) $$ H
  iintro H
  iapply (step_s1' SN RE K c 14 (by decide) (cond47 c)) $$ H
  iintro H
  iapply (step_s1' SN RE K c 15 (by decide) (cond48 c)) $$ H
  iintro H
  iapply (step_s1' SN RE K c 16 (by decide) (cond49 c)) $$ H
  iintro H
  iapply (step_s1' SN RE K c 17 (by decide) (cond50 c)) $$ H
  iintro H
  iapply (step_s1' SN RE K c 18 (by decide) (cond51 c)) $$ H
  iintro H
  iapply (step_s1' SN RE K c 19 (by decide) (cond52 c)) $$ H
  iintro H
  iapply (step_s1' SN RE K c 20 (by decide) (cond53 c)) $$ H
  iintro H
  iapply ret_intro
  iexact H

theorem part42 (c : Dev nD) {a0 a1 a2 : BitVec 32}:
    Gs SN RE K c 21 ⊢ WP c (k0_part42 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1 a2)
      (fun _ => Gs SN RE K c 31) := by
  rw [k0_part42_eq_skeleton]
  unfold k0_part42_skel
  simp -zeta -zetaHave only [Prog.lift, Prog.bind_op, Prog.bind_ret, Prog.pure_eq_ret]
  iintro H
  iapply (step_s1' SN RE K c 21 (by decide) (cond54 c)) $$ H
  iintro H
  iapply (step_s1' SN RE K c 22 (by decide) (cond55 c)) $$ H
  iintro H
  iapply (step_s1' SN RE K c 23 (by decide) (cond56 c)) $$ H
  iintro H
  iapply (step_s1' SN RE K c 24 (by decide) (cond57 c)) $$ H
  iintro H
  iapply (step_s1' SN RE K c 25 (by decide) (cond58 c)) $$ H
  iintro H
  iapply (step_s1' SN RE K c 26 (by decide) (cond59 c)) $$ H
  iintro H
  iapply (step_s1' SN RE K c 27 (by decide) (cond60 c)) $$ H
  iintro H
  iapply (step_s1' SN RE K c 28 (by decide) (cond61 c)) $$ H
  iintro H
  iapply (step_s1' SN RE K c 29 (by decide) (cond62 c)) $$ H
  iintro H
  iapply (step_s1' SN RE K c 30 (by decide) (cond63 c)) $$ H
  iintro H
  iapply ret_intro
  iexact H

theorem part43 (c : Dev nD) {a0 a1 : BitVec 32}:
    iprop(Gs SN RE K c 31 ∗ S2c c ∗ S2t c) ⊢ WP c (k0_part43 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c a0 a1)
      (fun _ => iprop(Hs SN RE K c 9 ∗ S1d SN c)) := by
  rw [k0_part43_eq_skeleton]
  unfold k0_part43_skel
  simp -zeta -zetaHave only [Prog.lift, Prog.bind_op, Prog.bind_ret, Prog.pure_eq_ret]
  iintro ⟨H, Hr⟩
  iapply (step_s1' SN RE K c 31 (by decide) (cond64 c)) $$ H
  iintro H
  ihave H := (reads_done SN RE K c) $$ [H Hr]
  · isplitl [H]; · iexact H
    iexact Hr
  icases H with ⟨H, Hd⟩
  iapply (step_s2 SN RE K c 0 (by decide) (k0_off133_eq c 0)) $$ H
  iintro H
  iapply (step_s2 SN RE K c 1 (by decide) (k0_off133_eq c 1)) $$ H
  iintro H
  iapply (step_s2 SN RE K c 2 (by decide) (k0_off133_eq c 2)) $$ H
  iintro H
  iapply (step_s2 SN RE K c 3 (by decide) (k0_off133_eq c 3)) $$ H
  iintro H
  iapply (step_s2 SN RE K c 4 (by decide) (k0_off133_eq c 4)) $$ H
  iintro H
  iapply (step_s2 SN RE K c 5 (by decide) (k0_off133_eq c 5)) $$ H
  iintro H
  iapply (step_s2 SN RE K c 6 (by decide) (k0_off133_eq c 6)) $$ H
  iintro H
  iapply (step_s2 SN RE K c 7 (by decide) (k0_off133_eq c 7)) $$ H
  iintro H
  iapply (step_s2 SN RE K c 8 (by decide) (k0_off133_eq c 8)) $$ H
  iintro H
  iapply ret_intro
  isplitl [H]; · iexact H
  iexact Hd

/-! ## Waiting for the second copies to have been read -/

theorem part44 (c : Dev nD):
    Hs SN RE K c 9 ⊢ WP c (k0_part44 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c)
      (fun _ => Hs SN RE K c 19) := by
  rw [k0_part44_eq_skeleton]
  unfold k0_part44_skel
  simp only [semSignalWord, semWaitWord, Prog.lift, Prog.bind_op, Prog.bind_ret, Prog.pure_eq_ret]
  iintro H
  iapply (step_s2 SN RE K c 9 (by decide) (k0_off133_eq c 9)) $$ H
  iintro H
  iapply (step_s2 SN RE K c 10 (by decide) (k0_off133_eq c 10)) $$ H
  iintro H
  iapply (step_s2 SN RE K c 11 (by decide) (k0_off133_eq c 11)) $$ H
  iintro H
  iapply (step_s2 SN RE K c 12 (by decide) (k0_off133_eq c 12)) $$ H
  iintro H
  iapply (step_s2 SN RE K c 13 (by decide) (k0_off133_eq c 13)) $$ H
  iintro H
  iapply (step_s2 SN RE K c 14 (by decide) (k0_off133_eq c 14)) $$ H
  iintro H
  iapply (step_s2 SN RE K c 15 (by decide) (k0_off133_eq c 15)) $$ H
  iintro H
  iapply (step_s2 SN RE K c 16 (by decide) (k0_off133_eq c 16)) $$ H
  iintro H
  iapply (step_s2 SN RE K c 17 (by decide) (k0_off133_eq c 17)) $$ H
  iintro H
  iapply (step_s2 SN RE K c 18 (by decide) (k0_off133_eq c 18)) $$ H
  iintro H
  iapply ret_intro
  iexact H

theorem part45 (c : Dev nD):
    Hs SN RE K c 19 ⊢ WP c (k0_part45 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6
      c)
      (fun _ => Hs SN RE K c 29) := by
  rw [k0_part45_eq_skeleton]
  unfold k0_part45_skel
  simp only [semSignalWord, semWaitWord, Prog.lift, Prog.bind_op, Prog.bind_ret, Prog.pure_eq_ret]
  iintro H
  iapply (step_s2 SN RE K c 19 (by decide) (k0_off133_eq c 19)) $$ H
  iintro H
  iapply (step_s2 SN RE K c 20 (by decide) (k0_off133_eq c 20)) $$ H
  iintro H
  iapply (step_s2 SN RE K c 21 (by decide) (k0_off133_eq c 21)) $$ H
  iintro H
  iapply (step_s2 SN RE K c 22 (by decide) (k0_off133_eq c 22)) $$ H
  iintro H
  iapply (step_s2 SN RE K c 23 (by decide) (k0_off133_eq c 23)) $$ H
  iintro H
  iapply (step_s2 SN RE K c 24 (by decide) (k0_off133_eq c 24)) $$ H
  iintro H
  iapply (step_s2 SN RE K c 25 (by decide) (k0_off133_eq c 25)) $$ H
  iintro H
  iapply (step_s2 SN RE K c 26 (by decide) (k0_off133_eq c 26)) $$ H
  iintro H
  iapply (step_s2 SN RE K c 27 (by decide) (k0_off133_eq c 27)) $$ H
  iintro H
  iapply (step_s2 SN RE K c 28 (by decide) (k0_off133_eq c 28)) $$ H
  iintro H
  iapply ret_intro
  iexact H

end Cert.Proof
-- ==== Proof.Body.lean ====
module

public import proofs.«01_k».proof.Proof.Parts5

/-! # The whole body at a device: its parts one after another, then the semaphores read back -/

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F)) (K : GSem nD τ sig → ℕ)

theorem part1 (c : Dev nD) : (BI.emp : sProp 𝕄) ⊢ WP c (k0_part1 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6)
    (fun r => iprop(⌜c = r.1 ∧ (SemArray.scalar (sig.barrier 0 rfl) : Sems sig S_) = r.2.2.1⌝)) := by
  rw [k0_part1_eq_skeleton]
  unfold k0_part1_skel WP
  simp only [Prog.lift, Prog.bind_op, Prog.bind_ret, Prog.pure_eq_ret]
  iintro -
  rw [wp_deviceId]
  rw [wp_ret]
  imodintro
  ipureintro
  exact ⟨rfl, rfl⟩
theorem part2 (c : Dev nD) {a b : BitVec 32} : (BI.emp : sProp 𝕄) ⊢ WP c (k0_part2 (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6 a b)
    (fun _ => iprop(⌜True⌝)) := by
  rw [k0_part2_eq_skeleton]
  unfold k0_part2_skel WP
  simp only [Prog.lift, Prog.bind_op, Prog.bind_ret, Prog.pure_eq_ret]
  iintro -
  rw [wp_ret]
  imodintro
  ipureintro
  trivial

theorem mk2 (A B : sProp 𝕄) : iprop(A ∗ B) ⊢ iprop(A ∗ B) := .rfl
theorem mk3' (A B C : sProp 𝕄) : iprop(A ∗ B ∗ C) ⊢ iprop(A ∗ B ∗ C) := .rfl
theorem mk3 (A B C : sProp 𝕄) : iprop(A ∗ B ∗ C) ⊢ iprop((A ∗ B) ∗ C) := by
  iintro ⟨HA, HB, HC⟩
  isplitr [HC]
  · isplitl [HA]; · iexact HA
    iexact HB
  iexact HC
attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45

set_option maxHeartbeats 8000000 in
/-- The parts, one after another. -/
theorem chain (xs : (cc0_stg0_0 : Ref sig .tc).ty.Contents (Elt F)) (gs : (cc0_stg1_0 : Ref sig .tc).ty.Contents (Elt F))
    (ws : (cc0_stg2_0 : Ref sig .tc).ty.Contents (Elt F)) (f : (cc0_scratch2 : Ref sig .tc).ty.Contents (Elt F))
    (fr : (cc0_scratch1 : Ref sig .tc).ty.Contents (Elt F)) (fo : (cc0_stg3_0 : Ref sig .tc).ty.Contents (Elt F)) (c : Dev nD)
    (hSN : ∀ t x, blkVal xs gs ws t x = SN c (dnB t x)) (hRE : ∀ x, redVal (ownLd SN c) (rsLd SN c) x = RE c x) :
    iprop((Sg SN RE K c 0 ∗ cred (tallyAt (barCell c) () 31) ∗ atPos ER (barCell c) 0 ∅ 0
        ∗ bigSep (Finset.range 31) (pre1 c) ∗ bigSep (Finset.range 31) (pre2 c)) ∗ inPts xs gs ws c ∗ Sn SN f c 0 0
        ∗ R1t c ∗ R2t c ∗ S1t c ∗ S2t c ∗ redAll c fr ∗ oPt c c fo)
      ⊢ WP c (cc0__moe_allreduce_body (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6)
      (fun _ => iprop(Hs SN RE K c 31 ∗ S1d SN c ∗ R2d RE c ∗ R1d SN c ∗ redPt c c (RE c) ∗ oPt c c (outC RE) ∗ sPt c c (SN c)
        ∗ atPos ER (barCell c) 1 ∅ 0 ∗ inPts xs gs ws c)) := by
  rw [cc0__moe_allreduce_body_eq_skeleton]
  unfold cc0__moe_allreduce_body_skel
  iintro ⟨HG, Hi, HS, HR1, HR2, HS1, HS2, Hred, Ho⟩
  ihave H : (BI.emp : sProp 𝕄) $$ []
  · iempintro
  iapply (wp_seq c (part1 c)) $$ H
  iintro %r %h
  obtain ⟨d0, v2, v3, v5, v7, v9, v11, v13, v15, v17, v19, v21, v23, v25, v27, v29, v30⟩ := r
  dsimp only at h
  obtain ⟨h1, h2⟩ := h
  subst h1 h2
  ihave H : (BI.emp : sProp 𝕄) $$ []
  · iempintro
  iapply (wp_seq c (part2 c)) $$ H
  iintro %r -
  obtain ⟨w0, w1, w2, w3, w4, w5, w6, w7, w8, w9, w10, w11, w12, w13, w14, w15⟩ := r
  icases HG with ⟨H, HG⟩
  iapply (wp_seq c (part3 SN RE K c)) $$ H
  iintro %r H
  obtain ⟨x1, x2, x3⟩ := r
  iapply (wp_seq c (part4 SN RE K c)) $$ H
  iintro %r H
  iapply (wp_seq c (part5 SN RE K c)) $$ H
  iintro %r H
  iapply (wp_seq c (part6 SN RE K xs gs ws c)) $$ [H HG Hi]
  · isplitr [Hi]
    · isplitl [H]; · iexact H
      iexact HG
    iexact Hi
  iintro %r ⟨%h, ⟨HB, Hsnd, Hbar⟩, Hi⟩
  obtain ⟨y1, y2, y3, y4, y5, y6, y7, y8⟩ := r
  dsimp only at h
  cases h
  ihave H := (mk3 _ _ _) $$ [HB HS Hi]
  · isplitl [HB]; · iexact HB
    isplitl [HS]; · iexact HS
    iexact Hi
  iapply (wp_seq c (part7 SN RE K xs gs ws f c hSN)) $$ H
  iintro %r ⟨⟨HB, HS⟩, Hi⟩
  ihave H := (mk2 _ _) $$ [HB HS]
  · isplitl [HB]; · iexact HB
    iexact HS
  iapply (wp_seq c (part8 SN RE K f c)) $$ H
  iintro %r ⟨HB, HS⟩
  obtain ⟨z1, z2⟩ := r
  ihave H := (mk3 _ _ _) $$ [HB HS Hi]
  · isplitl [HB]; · iexact HB
    isplitl [HS]; · iexact HS
    iexact Hi
  iapply (wp_seq c (part9 SN RE K xs gs ws f c)) $$ H
  iintro %r ⟨%h, ⟨HB, HS⟩, Hi⟩
  obtain ⟨y1, y2, y3, y4, y5, y6⟩ := r
  dsimp only at h
  cases h
  ihave H := (mk3 _ _ _) $$ [HB HS Hi]
  · isplitl [HB]; · iexact HB
    isplitl [HS]; · iexact HS
    iexact Hi
  iapply (wp_seq c (part10 SN RE K xs gs ws f c hSN)) $$ H
  iintro %r ⟨⟨HB, HS⟩, Hi⟩
  obtain ⟨z1, z2⟩ := r
  ihave H := (mk2 _ _) $$ [HB HS]
  · isplitl [HB]; · iexact HB
    iexact HS
  iapply (wp_seq c (part11 SN RE K f c)) $$ H
  iintro %r ⟨HB, HS⟩
  obtain ⟨z1, z2⟩ := r
  ihave H := (mk3 _ _ _) $$ [HB HS Hi]
  · isplitl [HB]; · iexact HB
    isplitl [HS]; · iexact HS
    iexact Hi
  iapply (wp_seq c (part12 SN RE K xs gs ws f c)) $$ H
  iintro %r ⟨%h, ⟨HB, HS⟩, Hi⟩
  obtain ⟨y1, y2, y3, y4, y5, y6⟩ := r
  dsimp only at h
  cases h
  ihave H := (mk3 _ _ _) $$ [HB HS Hi]
  · isplitl [HB]; · iexact HB
    isplitl [HS]; · iexact HS
    iexact Hi
  iapply (wp_seq c (part13 SN RE K xs gs ws f c hSN)) $$ H
  iintro %r ⟨⟨HB, HS⟩, Hi⟩
  obtain ⟨z1, z2⟩ := r
  ihave H := (mk2 _ _) $$ [HB HS]
  · isplitl [HB]; · iexact HB
    iexact HS
  iapply (wp_seq c (part14 SN RE K f c)) $$ H
  iintro %r ⟨HB, HS⟩
  obtain ⟨z1, z2⟩ := r
  ihave H := (mk3 _ _ _) $$ [HB HS Hi]
  · isplitl [HB]; · iexact HB
    isplitl [HS]; · iexact HS
    iexact Hi
  iapply (wp_seq c (part15 SN RE K xs gs ws f c)) $$ H
  iintro %r ⟨%h, ⟨HB, HS⟩, Hi⟩
  obtain ⟨y1, y2, y3, y4, y5, y6⟩ := r
  dsimp only at h
  cases h
  ihave H := (mk3 _ _ _) $$ [HB HS Hi]
  · isplitl [HB]; · iexact HB
    isplitl [HS]; · iexact HS
    iexact Hi
  iapply (wp_seq c (part16 SN RE K xs gs ws f c hSN)) $$ H
  iintro %r ⟨⟨HB, HS⟩, Hi⟩
  obtain ⟨z1, z2⟩ := r
  ihave H := (mk2 _ _) $$ [HB HS]
  · isplitl [HB]; · iexact HB
    iexact HS
  iapply (wp_seq c (part17 SN RE K f c)) $$ H
  iintro %r ⟨HB, HS⟩
  obtain ⟨z1, z2, z3⟩ := r
  ihave H := (mk3 _ _ _) $$ [HB HS HR1]
  · isplitl [HB]; · iexact HB
    isplitl [HS]; · iexact HS
    iexact HR1
  iapply (wp_seq c (part18 SN RE K f c)) $$ H
  iintro %r ⟨%h, H, Hs, HS1c⟩
  subst h
  iapply (wp_seq c (part19 SN RE K c)) $$ H
  iintro %r ⟨%h, H⟩
  obtain ⟨z1, z2⟩ := r
  cases h
  iapply (wp_seq c (part20 SN RE K c)) $$ H
  iintro %r ⟨%h, H⟩
  subst h
  iapply (wp_seq c (part21 SN RE K c)) $$ H
  iintro %r H
  iapply (wp_seq c (part22 SN RE K c)) $$ H
  iintro %r ⟨%h, H⟩
  subst h
  iapply (wp_seq c (part23 SN RE K c)) $$ H
  iintro %r H
  iapply (wp_seq c (part24 SN RE K c)) $$ H
  iintro %r ⟨%h, H⟩
  obtain ⟨z1, z2, z3, z4, z5, z6, z7⟩ := r
  cases h
  iapply (wp_seq c (part25 SN RE K c)) $$ H
  iintro %r ⟨%h, H⟩
  obtain ⟨z1, z2, z3⟩ := r
  dsimp only at h
  subst h
  iapply (wp_seq c (part26 SN RE K c)) $$ H
  iintro %r ⟨%h, H⟩
  obtain ⟨z1, z2, z4, z5, z6, z7⟩ := r
  cases h
  iapply (wp_seq c (part27 SN RE K fr fo c hRE)) $$ [H Hred Ho Hsnd]
  · isplitl [H]; · iexact H
    isplitr [Hsnd]
    · isplitl [Hred]; · iexact Hred
      iexact Ho
    iexact Hsnd
  iintro %r ⟨H, Hred, Ho, HR1d⟩
  iapply (wp_seq c (part28 SN RE K c)) $$ H
  iintro %r H
  iapply (wp_seq c (part29 SN RE K c)) $$ H
  iintro %r H
  iapply (wp_seq c (part30 SN RE K c)) $$ H
  iintro %r H
  iapply (wp_seq c (part31 SN RE K c)) $$ H
  iintro %r H
  iapply (wp_seq c (part32 SN RE K c)) $$ H
  iintro %r H
  iapply (wp_seq c (part33 SN RE K c)) $$ H
  iintro %r H
  ihave H := (mk2 _ _) $$ [H HR2]
  · isplitl [H]; · iexact H
    iexact HR2
  iapply (wp_seq c (part34 SN RE K c)) $$ H
  iintro %r ⟨H, HS2c⟩
  iapply (wp_seq c (part35 SN RE K c)) $$ H
  iintro %r H
  iapply (wp_seq c (part36 SN RE K c)) $$ H
  iintro %r H
  iapply (wp_seq c (part37 SN RE K c)) $$ H
  iintro %r H
  iapply (wp_seq c (part38 SN RE K c)) $$ H
  iintro %r H
  obtain ⟨z1, z2⟩ := r
  ihave H := (mk3' _ _ _) $$ [H HS1c HS1]
  · isplitl [H]; · iexact H
    isplitl [HS1c]; · iexact HS1c
    iexact HS1
  iapply (wp_seq c (part39 SN RE K c)) $$ H
  iintro %r ⟨H, HR2d⟩
  obtain ⟨z1, z2⟩ := r
  iapply (wp_seq c (part40 SN RE K c)) $$ H
  iintro %r H
  obtain ⟨z1, z2⟩ := r
  iapply (wp_seq c (part41 SN RE K c)) $$ H
  iintro %r H
  obtain ⟨z1, z2⟩ := r
  iapply (wp_seq c (part42 SN RE K c)) $$ H
  iintro %r H
  obtain ⟨z1, z2⟩ := r
  ihave H := (mk3' _ _ _) $$ [H HS2c HS2]
  · isplitl [H]; · iexact H
    isplitl [HS2c]; · iexact HS2c
    iexact HS2
  iapply (wp_seq c (part43 SN RE K c)) $$ H
  iintro %r ⟨H, HS1d⟩
  iapply (wp_seq c (part44 SN RE K c)) $$ H
  iintro %r H
  iapply (wp_seq c (part45 SN RE K c)) $$ H
  iintro %r H
  simp -zeta -zetaHave only [Prog.lift, Prog.bind_op, Prog.bind_ret, Prog.pure_eq_ret]
  iapply (step_s2 SN RE K c 29 (by decide) (k0_off133_eq c 29)) $$ H
  iintro H
  iapply (step_s2 SN RE K c 30 (by decide) (k0_off133_eq c 30)) $$ H
  iintro H
  iapply ret_intro
  isplitl [H]; · iexact H
  isplitl [HS1d]; · iexact HS1d
  isplitl [HR2d]; · iexact HR2d
  isplitl [HR1d]; · iexact HR1d
  isplitl [Hred]; · iexact Hred
  isplitl [Ho]; · iexact Ho
  isplitl [Hs]; · iexact Hs
  isplitl [Hbar]; · iexact Hbar
  iexact Hi

end Cert.Proof
-- ==== Proof.Whole.lean ====
module

public import proofs.«01_k».proof.Proof.Body

/-! # The body at a device, from what it holds at entry to what it gives back -/

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F))
    (K : GSem nD τ sig → ℕ)

theorem bsep3 {ι : Type} (s : Finset ι) (A B C : ι → sProp 𝕄) : bigSep s (fun i => iprop(A i ∗ B i ∗ C i)) = iprop(bigSep s A ∗ bigSep s B ∗ bigSep s C) := by
  rw [bsep s A (fun i => iprop(B i ∗ C i)), bsep s B C]
theorem bsep4 {ι : Type} (s : Finset ι) (A B C D : ι → sProp 𝕄) : bigSep s (fun i => iprop(A i ∗ B i ∗ C i ∗ D i)) = iprop(bigSep s A ∗ bigSep s B ∗ bigSep s C ∗ bigSep s D) := by
  rw [bsep s A (fun i => iprop(B i ∗ C i ∗ D i)), bsep3 s B C D]
theorem bsep5 {ι : Type} (s : Finset ι) (A B C D A' : ι → sProp 𝕄) : bigSep s (fun i => iprop(A' i ∗ A i ∗ B i ∗ C i ∗ D i)) = iprop(bigSep s A' ∗ bigSep s A ∗ bigSep s B ∗ bigSep s C ∗ bigSep s D) := by
  rw [bsep s A' (fun i => iprop(A i ∗ B i ∗ C i ∗ D i)), bsep4 s A B C D]
theorem bsep7 {ι : Type} (s : Finset ι) (A B C D A' B' C' : ι → sProp 𝕄) : bigSep s (fun i => iprop(C' i ∗ B' i ∗ A' i ∗ A i ∗ B i ∗ C i ∗ D i))
    = iprop(bigSep s C' ∗ bigSep s B' ∗ bigSep s A' ∗ bigSep s A ∗ bigSep s B ∗ bigSep s C ∗ bigSep s D) := by
  rw [bsep s C' (fun i => iprop(B' i ∗ A' i ∗ A i ∗ B i ∗ C i ∗ D i)), bsep s B' (fun i => iprop(A' i ∗ A i ∗ B i ∗ C i ∗ D i)), bsep5 s A B C D A']

/-! ## What a device starts from -/

/-- The tokens of the duties `c` pays that go through `q`. -/
def tok5 (c q : Dev nD) : sProp 𝕄 :=
  iprop(dutyTok ER (barCell q) 0 c ∗ dutyTok ER (s1Cell c q) 0 q ∗ dutyTok ER (r1Cell q c) 0 c ∗ dutyTok ER (s2Cell c q) 0 q ∗ dutyTok ER (r2Cell q c) 0 c)
/-- Its places at its four cells of `q`. -/
def at4 (c q : Dev nD) (R : ℕ) : sProp 𝕄 :=
  iprop(atPos ER (s1Cell c q) R ∅ 0 ∗ atPos ER (r1Cell c q) R ∅ 0 ∗ atPos ER (s2Cell c q) R ∅ 0 ∗ atPos ER (r2Cell c q) R ∅ 0)
/-- That those are open. -/
def re4 (c q : Dev nD) : sProp 𝕄 :=
  iprop(reached ER (s1Cell c q) 0 ∗ reached ER (r1Cell c q) 0 ∗ reached ER (s2Cell c q) 0 ∗ reached ER (r2Cell c q) 0)
/-- The credit of the two copies that come from `q`. -/
def cr2 (c q : Dev nD) : sProp 𝕄 := iprop(cred (tallyAt (r1Cell c q) () N) ∗ cred (tallyAt (r2Cell c q) () N))
/-- The four counters at zero. -/
def sem4 (c q : Dev nD) : sProp 𝕄 :=
  iprop(semVal (s1Cell c q) 0 ∗ semVal (r1Cell c q) 0 ∗ semVal (s2Cell c q) 0 ∗ semVal (r2Cell c q) 0)

def Cr (c : Dev nD) : sProp 𝕄 := iprop(cred (tallyAt (barCell c) () 31) ∗ bigSep (Finset.univ.erase c) (cr2 c))
def Opened (c : Dev nD) : sProp 𝕄 :=
  iprop(atPos ER (barCell c) 0 ∅ 0 ∗ bigSep Finset.univ (fun q => iprop(tok5 c q ∗ at4 c q 0 ∗ re4 c q)))

/-- All that `c` holds of another device's index, -/
def each (c : Dev nD) (f0 : (cc0_scratch0 : Ref sig .tc).ty.Contents (Elt F)) (fo : (cc0_stg3_0 : Ref sig .tc).ty.Contents (Elt F)) (q : Dev nD) : sProp 𝕄 :=
  iprop((tok5 c q ∗ at4 c q 0 ∗ re4 c q) ∗ cr2 c q ∗ rsPt c q f0 ∗ oPt c q fo)
/-- and what each piece of the body wants of it. -/
def each' (c q : Dev nD) : sProp 𝕄 :=
  iprop((dutyTok ER (barCell q) 0 c ∗ barPay (F := F) q c)
    ∗ (dutyTok ER (s1Cell c q) 0 q ∗ reached ER (s1Cell c q) 0 ∗ dutyTok ER (r1Cell q c) 0 c)
    ∗ (dutyTok ER (s2Cell c q) 0 q ∗ reached ER (s2Cell c q) 0 ∗ dutyTok ER (r2Cell q c) 0 c)
    ∗ (cred (tallyAt (r1Cell c q) () N) ∗ atPos ER (r1Cell c q) 0 ∅ 0)
    ∗ (cred (tallyAt (r2Cell c q) () N) ∗ atPos ER (r2Cell c q) 0 ∅ 0)
    ∗ atPos ER (s1Cell c q) 0 ∅ 0 ∗ atPos ER (s2Cell c q) 0 ∅ 0)

theorem each_sort (c : Dev nD) (f0 : (cc0_scratch0 : Ref sig .tc).ty.Contents (Elt F)) (fo : (cc0_stg3_0 : Ref sig .tc).ty.Contents (Elt F)) (q : Dev nD) :
    each c f0 fo q ⊢ each' c q := by
  unfold each each' tok5 at4 re4 cr2 barPay
  iintro ⟨⟨⟨T0, T1, T2, T3, T4⟩, ⟨A1, A2, A3, A4⟩, R1, R2, R3, R4⟩, ⟨C1, C2⟩, Hr, Ho⟩
  isplitl [T0 Hr Ho R2 R4]
  · isplitl [T0]; · iexact T0
    isplitl [Hr]; · iexists f0; iexact Hr
    isplitl [Ho]; · iexists fo; iexact Ho
    isplitl [R2] <;> iassumption
  isplitl [T1 R1 T2]
  · isplitl [T1]; · iexact T1
    isplitl [R1] <;> iassumption
  isplitl [T3 R3 T4]
  · isplitl [T3]; · iexact T3
    isplitl [R3] <;> iassumption
  isplitl [C1 A2]
  · isplitl [C1] <;> iassumption
  isplitl [C2 A4]
  · isplitl [C2] <;> iassumption
  isplitl [A1] <;> iassumption

theorem each_split (c : Dev nD) :
    bigSep (Finset.univ.erase c) (each' (F := F) c) = iprop((bigSep (Finset.range 31) fun i => iprop(dutyTok ER (barCell (peer c i)) 0 c ∗ barPay (F := F) (peer c i) c))
      ∗ bigSep (Finset.range 31) (pre1 c) ∗ bigSep (Finset.range 31) (pre2 c) ∗ R1t c ∗ R2t c ∗ S1t c ∗ S2t c) := by
  unfold each' R1t R2t S1t S2t
  rw [bsep7, bigSep_peer c (fun q => iprop(dutyTok ER (barCell q) 0 c ∗ barPay (F := F) q c)),
    bigSep_ord c (fun q => iprop(dutyTok ER (s1Cell c q) 0 q ∗ reached ER (s1Cell c q) 0 ∗ dutyTok ER (r1Cell q c) 0 c)),
    bigSep_peer c (fun q => iprop(dutyTok ER (s2Cell c q) 0 q ∗ reached ER (s2Cell c q) 0 ∗ dutyTok ER (r2Cell q c) 0 c)),
    bigSep_peer c (fun q => iprop(cred (tallyAt (r1Cell c q) () N) ∗ atPos ER (r1Cell c q) 0 ∅ 0)),
    bigSep_peer c (fun q => iprop(cred (tallyAt (r2Cell c q) () N) ∗ atPos ER (r2Cell c q) 0 ∅ 0)),
    bigSep_peer c (fun q => atPos ER (s2Cell c q) 0 ∅ 0)]
  rfl

theorem each_join (c : Dev nD) (f0 : (cc0_scratch0 : Ref sig .tc).ty.Contents (Elt F)) (fo : (cc0_stg3_0 : Ref sig .tc).ty.Contents (Elt F)) (s : Finset (Dev nD)) :
    bigSep s (each c f0 fo) = iprop(bigSep s (fun q => iprop(tok5 c q ∗ at4 c q 0 ∗ re4 c q)) ∗ bigSep s (cr2 c)
      ∗ bigSep s (fun q => rsPt c q f0) ∗ bigSep s (fun q => oPt c q fo)) := by
  unfold each
  rw [bsep4]

theorem snd_start (f : (cc0_scratch2 : Ref sig .tc).ty.Contents (Elt F)) (c : Dev nD) :
    ((((c : Thread nD τ).loc cc0_scratch2) ↦{fullShare} f : sProp 𝕄)) = Sn SN f c 0 0 := by
  unfold Sn
  rw [s_whole c f, bigSep_ord_all c, show 8 * 0 = 0 from rfl, bigSep_Ico_self, bigSep_Ico_zero]
  exact (BI.equiv_iff.mp sep_emp).symm

theorem split_at (c : Dev nD) (Φ : Dev nD → sProp 𝕄) : bigSep Finset.univ Φ ⊢ iprop(Φ c ∗ bigSep (Finset.univ.erase c) Φ) :=
  Entails.of_eq (bigSep_univ_split c)

/-- What the pieces of the body start from. -/
theorem prep (c : Dev nD) (f0 : (cc0_scratch0 : Ref sig .tc).ty.Contents (Elt F)) (f2 : (cc0_scratch2 : Ref sig .tc).ty.Contents (Elt F))
    (fo : (cc0_stg3_0 : Ref sig .tc).ty.Contents (Elt F)) :
    iprop(Ctx SN RE K ∗ Opened c ∗ Cr c ∗ owesE c (O₀ c) ∗ (((c : Thread nD τ).loc cc0_scratch0) ↦{fullShare} f0)
        ∗ (((c : Thread nD τ).loc cc0_scratch2) ↦{fullShare} f2) ∗ (((c : Thread nD τ).loc cc0_stg3_0) ↦{fullShare} fo))
      ⊢ iprop((Sg SN RE K c 0 ∗ cred (tallyAt (barCell c) () 31) ∗ atPos ER (barCell c) 0 ∅ 0
          ∗ bigSep (Finset.range 31) (pre1 c) ∗ bigSep (Finset.range 31) (pre2 c)) ∗ Sn SN f2 c 0 0
        ∗ (R1t c ∗ R2t c ∗ S1t c ∗ S2t c) ∗ oPt c c fo ∗ rsPt c c f0 ∗ at4 c c 0) := by
  unfold Opened Cr
  rw [snd_start SN f2 c, rs_whole c f0, o_whole c fo]
  iintro ⟨HC, ⟨Hb, HU⟩, ⟨Hcb, Hcr⟩, HO, H0, H2, H3⟩
  ihave HU := (split_at c _) $$ HU
  icases HU with ⟨⟨-, Hown, -⟩, HU⟩
  ihave H0 := (split_at c _) $$ H0
  icases H0 with ⟨Hrs, H0⟩
  ihave H3 := (split_at c _) $$ H3
  icases H3 with ⟨Ho, H3⟩
  ihave HE := (Entails.of_eq (each_join c f0 fo (Finset.univ.erase c)).symm) $$ [HU Hcr H0 H3]
  · isplitl [HU]; · iexact HU
    isplitl [Hcr]; · iexact Hcr
    isplitl [H0] <;> iassumption
  ihave HE := (show bigSep (Finset.univ.erase c) (each c f0 fo) ⊢ bigSep (Finset.univ.erase c) (each' c) from bigSep_mono fun q _ => each_sort c f0 fo q) $$ HE
  ihave HE := (Entails.of_eq (each_split c)) $$ HE
  icases HE with ⟨Hsg, Hp1, Hp2, HR⟩
  isplitl [HC Hb Hcb HO Hsg Hp1 Hp2]
  · isplitl [HC Hsg HO]
    · unfold Sg
      rw [bigSep_Ico_zero]
      isplitl [HC]; · iexact HC
      isplitl [Hsg]; · iexact Hsg
      iexact HO
    isplitl [Hcb]; · iexact Hcb
    isplitl [Hb]; · iexact Hb
    isplitl [Hp1] <;> iassumption
  isplitl [H2]; · iexact H2
  isplitl [HR]; · iexact HR
  isplitl [Ho]; · iexact Ho
  isplitl [Hrs] <;> iassumption

/-! ## What it ends with -/

theorem close_at {g : GSem nD τ sig} {R : ℕ} (hR : ∀ r, R ≤ r → (Rd (F := F) SN RE).duties g r = ∅) :
    iprop(Inv SN RE K g ∗ atPos ER g R ∅ 0) ⊢ (iprop(|={Set.univ}=> semVal g 0) : sProp 𝕄) :=
  Rounds.cell_close ER (Rd SN RE) (Set.mem_univ (K g)) id hR

theorem close4 (c q : Dev nD) (R : ℕ) (h1 : ∀ r, R ≤ r → (Rd (F := F) SN RE).duties (s1Cell c q) r = ∅)
    (h2 : ∀ r, R ≤ r → (Rd (F := F) SN RE).duties (r1Cell c q) r = ∅) (h3 : ∀ r, R ≤ r → (Rd (F := F) SN RE).duties (s2Cell c q) r = ∅)
    (h4 : ∀ r, R ≤ r → (Rd (F := F) SN RE).duties (r2Cell c q) r = ∅) :
    iprop(Ctx SN RE K ∗ at4 c q R) ⊢ (iprop(|={Set.univ}=> sem4 c q) : sProp 𝕄) := by
  unfold at4 sem4
  iintro ⟨#HC, A1, A2, A3, A4⟩
  ihave HI := (Ctx_dma SN RE K c q) $$ HC
  icases HI with ⟨#I1, #I2, #I3, #I4⟩
  imod (close_at SN RE K h1) $$ [A1] with B1
  · isplitr; · iexact I1
    iexact A1
  imod (close_at SN RE K h2) $$ [A2] with B2
  · isplitr; · iexact I2
    iexact A2
  imod (close_at SN RE K h3) $$ [A3] with B3
  · isplitr; · iexact I3
    iexact A3
  imod (close_at SN RE K h4) $$ [A4] with B4
  · isplitr; · iexact I4
    iexact A4
  imodintro
  isplitl [B1]; · iexact B1
  isplitl [B2]; · iexact B2
  isplitl [B3] <;> iassumption

theorem close_own (c : Dev nD) : iprop(Ctx SN RE K ∗ at4 c c 0) ⊢ (iprop(|={Set.univ}=> sem4 c c) : sProp 𝕄) :=
  close4 SN RE K c c 0
    (duties_own SN RE _ (by rw [kd_s1]; decide) (by rw [at_s1]))
    (duties_own SN RE _ (by rw [kd_r1]; decide) (by rw [at_r1]))
    (duties_own SN RE _ (by rw [kd_s2]; decide) (by rw [at_s2]))
    (duties_own SN RE _ (by rw [kd_r2]; decide) (by rw [at_r2]))

/-- What the body leaves at another device's index. -/
def left (c q : Dev nD) : sProp 𝕄 :=
  iprop((atPos ER (s2Cell c q) 1 ∅ 0 ∗ redPt c q (RE c)) ∗ (atPos ER (s1Cell c q) 1 ∅ 0 ∗ sPt c q (SN c))
    ∗ (atPos ER (r2Cell c q) 1 ∅ 0 ∗ oPt c q (outC RE)) ∗ (atPos ER (r1Cell c q) 1 ∅ 0 ∗ rsPt c q (rsC SN c)))
def left' (c q : Dev nD) : sProp 𝕄 :=
  iprop(at4 c q 1 ∗ redPt c q (RE c) ∗ sPt c q (SN c) ∗ oPt c q (outC RE) ∗ (∃ f, rsPt (F := F) c q f))

theorem left_sort (c q : Dev nD) : left SN RE c q ⊢ left' SN RE c q := by
  unfold left left' at4
  iintro ⟨⟨A3, H1⟩, ⟨A1, H2⟩, ⟨A4, H3⟩, A2, H4⟩
  isplitl [A1 A2 A3 A4]
  · isplitl [A1]; · iexact A1
    isplitl [A2]; · iexact A2
    isplitl [A3] <;> iassumption
  isplitl [H1]; · iexact H1
  isplitl [H2]; · iexact H2
  isplitl [H3]; · iexact H3
  iexists _; iexact H4

theorem left_join (c : Dev nD) : bigSep (Finset.univ.erase c) (left SN RE c)
    = iprop((bigSep (Finset.range 31) fun i => iprop(atPos ER (s2Cell c (peer c i)) 1 ∅ 0 ∗ redPt c (peer c i) (RE c))) ∗ S1d SN c ∗ R2d RE c ∗ R1d SN c) := by
  unfold left S1d R2d R1d
  rw [bsep4, bigSep_peer c (fun q => iprop(atPos ER (s2Cell c q) 1 ∅ 0 ∗ redPt c q (RE c))),
    bigSep_peer c (fun q => iprop(atPos ER (r2Cell c q) 1 ∅ 0 ∗ oPt c q (outC RE))),
    bigSep_peer c (fun q => iprop(atPos ER (r1Cell c q) 1 ∅ 0 ∗ rsPt c q (rsC SN c)))]

theorem left_split (c : Dev nD) : bigSep (Finset.univ.erase c) (left' SN RE c)
    = iprop(bigSep (Finset.univ.erase c) (fun q => at4 c q 1) ∗ bigSep (Finset.univ.erase c) (fun q => redPt c q (RE c))
      ∗ bigSep (Finset.univ.erase c) (fun q => sPt c q (SN c)) ∗ bigSep (Finset.univ.erase c) (fun q => oPt c q (outC RE))
      ∗ bigSep (Finset.univ.erase c) (fun q => iprop(∃ f, rsPt (F := F) c q f))) := by
  unfold left'
  rw [bsep5]

theorem join_at (c : Dev nD) (Φ : Dev nD → sProp 𝕄) : iprop(Φ c ∗ bigSep (Finset.univ.erase c) Φ) ⊢ bigSep Finset.univ Φ :=
  Entails.of_eq (bigSep_univ_split c).symm

theorem close_rest (c : Dev nD) : iprop(Ctx SN RE K ∗ bigSep (Finset.univ.erase c) (fun q => at4 c q 1))
    ⊢ (iprop(|={Set.univ}=> bigSep (Finset.univ.erase c) (sem4 (F := F) c)) : sProp 𝕄) :=
  (bigSep_with_persistent (R := Ctx SN RE K) (Φ := fun q => at4 c q 1) (Ψ := fun q => iprop(|={Set.univ}=> sem4 (F := F) c q)) fun q _ =>
    close4 SN RE K c q 1 (duties_later SN RE _) (duties_later SN RE _) (duties_later SN RE _) (duties_later SN RE _)).trans
  (bigSep_fupd _ _)

theorem finish (c : Dev nD) (f0 : (cc0_scratch0 : Ref sig .tc).ty.Contents (Elt F)) :
    iprop((Hs SN RE K c 31 ∗ S1d SN c ∗ R2d RE c ∗ R1d SN c ∗ redPt c c (RE c) ∗ oPt c c (outC RE) ∗ sPt c c (SN c)
        ∗ atPos ER (barCell c) 1 ∅ 0) ∗ rsPt c c f0 ∗ at4 c c 0)
      ⊢ (iprop(|={Set.univ}=> (semVal (barCell c) 0 ∗ bigSep Finset.univ (sem4 c) ∗ owesE c 0
        ∗ (∃ f : Buf (Elt F) ((c : Thread nD τ).loc cc0_scratch0), ((c : Thread nD τ).loc cc0_scratch0) ↦{fullShare} f)
        ∗ (((c : Thread nD τ).loc cc0_scratch1) ↦{fullShare} RE c) ∗ (((c : Thread nD τ).loc cc0_scratch2) ↦{fullShare} SN c)
        ∗ (((c : Thread nD τ).loc cc0_stg3_0) ↦{fullShare} outC RE))) : sProp 𝕄) := by
  unfold Hs
  iintro ⟨⟨⟨#HC, -, H2, HO⟩, H1d, H2d, R1, Hred, Ho, Hs, Hb⟩, Hrs, Hown⟩
  ihave HL := (Entails.of_eq (left_join SN RE c).symm) $$ [H2 H1d H2d R1]
  · isplitl [H2]; · iexact H2
    isplitl [H1d]; · iexact H1d
    isplitl [H2d] <;> iassumption
  ihave HL := (show bigSep (Finset.univ.erase c) (left SN RE c) ⊢ bigSep (Finset.univ.erase c) (left' SN RE c) from bigSep_mono fun q _ => left_sort SN RE c q) $$ HL
  ihave HL := (Entails.of_eq (left_split SN RE c)) $$ HL
  icases HL with ⟨HA, Hreds, Hss, Hos, Hrss⟩
  imod (close_rest SN RE K c) $$ [HA] with HA
  · isplitr; · iexact HC
    iexact HA
  imod (close_own SN RE K c) $$ [Hown] with Hown
  · isplitr; · iexact HC
    iexact Hown
  ihave HB := (Ctx_bar SN RE K c) $$ HC
  icases HB with ⟨#HB, -⟩
  imod (close_at SN RE K (g := barCell c) (R := 1) (duties_later SN RE _)) $$ [Hb] with Hb
  · isplitr; · iexact HB
    iexact Hb
  imodintro
  isplitl [Hb]; · iexact Hb
  isplitl [HA Hown]
  · iapply (join_at c (sem4 (F := F) c))
    isplitl [Hown] <;> iassumption
  isplitl [HO]; · iexact HO
  isplitl [Hrss Hrs]
  · iapply (rs_join c f0)
    iapply (join_at c (fun q => iprop(∃ f, rsPt (F := F) c q f)))
    isplitl [Hrs]; · iexists f0; iexact Hrs
    iexact Hrss
  isplitl [Hred Hreds]
  · iapply (Entails.of_eq (red_whole c (RE c)).symm)
    iapply (join_at c (fun q => redPt c q (RE c)))
    isplitl [Hred] <;> iassumption
  isplitl [Hs Hss]
  · iapply (Entails.of_eq (s_whole c (SN c)).symm)
    iapply (join_at c (fun q => sPt c q (SN c)))
    isplitl [Hs] <;> iassumption
  iapply (Entails.of_eq (o_whole c (outC RE)).symm)
  iapply (join_at c (fun q => oPt c q (outC RE)))
  isplitl [Ho] <;> iassumption

/-! ## The body -/

/-- What enters the region beside the buffers. -/
def Xk (c : Dev nD) : sProp 𝕄 := iprop(∃ K, Ctx SN RE K ∗ Opened c ∗ Cr c)
/-- The three scratch buffers, whatever they hold. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem wp_fwand (c : Dev nD) {α : Type} {p : Prog (TpuEff nD τ sig (Elt F) Λ₀ .tc) α} {Φ Q : α → sProp 𝕄} :
    WP c p Φ ⊢ iprop((∀ r, Φ r -∗ |={Set.univ}=> Q r) -∗ WP c p Q) := by
  unfold WP
  refine (wp_wand _ _ _ (Q := Φ) (Q' := fun a => iprop(|={Set.univ}=> Q a))).trans ?_
  iintro H Hk
  ihave H' := H $$ Hk
  iapply (wp_fupd _ _ _ _)
  iexact H'

attribute [local irreducible] cc0__moe_allreduce_body in
theorem body_run (xs : (cc0_stg0_0 : Ref sig .tc).ty.Contents (Elt F)) (gs : (cc0_stg1_0 : Ref sig .tc).ty.Contents (Elt F))
    (ws : (cc0_stg2_0 : Ref sig .tc).ty.Contents (Elt F)) (fo : (cc0_stg3_0 : Ref sig .tc).ty.Contents (Elt F)) (c : Dev nD)
    (hSN : ∀ t x, blkVal xs gs ws t x = SN c (dnB t x)) (hRE : ∀ x, redVal (ownLd SN c) (rsLd SN c) x = RE c x) :
    iprop(Xk SN RE c ∗ owesE c (O₀ c) ∗ inPts xs gs ws c ∗ Scr c ∗ (((c : Thread nD τ).loc cc0_stg3_0) ↦{fullShare} fo))
      ⊢ WP c (cc0__moe_allreduce_body (F := F) xM (Memref.isWhole_whole _) gM (Memref.isWhole_whole _) wM (Memref.isWhole_whole _) oM (Memref.isWhole_whole _) rsM (Memref.isWhole_whole _)
      redM (Memref.isWhole_whole _) sndM (Memref.isWhole_whole _) cc0_scratch3 cc0_scratch4 cc0_scratch5 cc0_scratch6)
      (fun _ => iprop(semVal (barCell c) 0 ∗ bigSep Finset.univ (sem4 c) ∗ owesE c 0 ∗ inPts xs gs ws c ∗ Scr c
        ∗ (((c : Thread nD τ).loc cc0_stg3_0) ↦{fullShare} outC RE))) := by
  unfold Xk Scr
  iintro ⟨⟨%K, HC, Hop, Hcr⟩, HO, Hi, ⟨⟨%f0, H0⟩, ⟨%f1, H1⟩, ⟨%f2, H2⟩⟩, H3⟩
  ihave HP := (prep SN RE K c f0 f2 fo) $$ [HC Hop Hcr HO H0 H2 H3]
  · isplitl [HC]; · iexact HC
    isplitl [Hop]; · iexact Hop
    isplitl [Hcr]; · iexact Hcr
    isplitl [HO]; · iexact HO
    isplitl [H0]; · iexact H0
    isplitl [H2]; · iexact H2
    iexact H3
  icases HP with ⟨HG, HS, ⟨HR1, HR2, HS1, HS2⟩, Ho, Hrs, Hown⟩
  ihave HW := (chain SN RE K xs gs ws f2 f1 fo c hSN hRE) $$ [HG Hi HS HR1 HR2 HS1 HS2 H1 Ho]
  · isplitl [HG]; · iexact HG
    isplitl [Hi]; · iexact Hi
    isplitl [HS]; · iexact HS
    isplitl [HR1]; · iexact HR1
    isplitl [HR2]; · iexact HR2
    isplitl [HS1]; · iexact HS1
    isplitl [HS2]; · iexact HS2
    isplitl [H1]
    · unfold redAll; iexact H1
    iexact Ho
  iapply (wp_fwand c) $$ HW
  iintro %r ⟨A, B, C, D, E, G, H, J, Hi⟩
  imod (finish SN RE K c f0) $$ [A B C D E G H J Hrs Hown] with ⟨Hb, Hsem, HO, H0, H1, H2, H3⟩
  · isplitl [A B C D E G H J]
    · isplitl [A]; · iexact A
      isplitl [B]; · iexact B
      isplitl [C]; · iexact C
      isplitl [D]; · iexact D
      isplitl [E]; · iexact E
      isplitl [G]; · iexact G
      isplitl [H]; · iexact H
      iexact J
    isplitl [Hrs]; · iexact Hrs
    iexact Hown
  imodintro
  isplitl [Hb]; · iexact Hb
  isplitl [Hsem]; · iexact Hsem
  isplitl [HO]; · iexact HO
  isplitl [Hi]; · iexact Hi
  isplitl [H0 H1 H2]
  · isplitl [H0]; · iexact H0
    isplitl [H1]; · iexists _; iexact H1
    iexists _; iexact H2
  iexact H3

end Cert.Proof
-- ==== Proof.Region.lean ====
module

public import proofs.«01_k».proof.Proof.Whole
public import proofs.«01_k».proof.Proof.Gen.KernelIdeal.Points
public import proofs.«01_k».proof.Proof.Gen.KernelIdeal.Regions
public import Idealize.ShloMosaic.Lib.Pipeline.Value

/-! # The region of the kernel: its proof data and its body's obligation -/

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (m : (ℓ : Loc nD τ sig) → Buf (Elt F) ℓ)

/-! ## What the body computes from the launch memory -/

/-- The activations, the gates and the weights as the region finds them, -/
def xIn (c : Dev nD) : (cc0_stg0_0 : Ref sig .tc).ty.Contents (Elt F) := V5 m c main_arg0
def gIn (c : Dev nD) : (cc0_stg1_0 : Ref sig .tc).ty.Contents (Elt F) := V5 m c main_v58
def wIn (c : Dev nD) : (cc0_stg2_0 : Ref sig .tc).ty.Contents (Elt F) := V5 m c main_arg3
set_option backward.proofsInPublic true in
/-- what device `c` sends, -/
def SNm (c : Dev nD) : (cc0_scratch2 : Ref sig .tc).ty.Contents (Elt F) :=
  fun (i : S2048x1024.Idx) => blkVal (xIn m c) (gIn m c) (wIn m c) ⟨(i 0).val / 512, by have h1 : (i 0).val < 2048 := (i 0).isLt; omega⟩
    (ix2 (n0 := 512) (n1 := 1024) ⟨(i 0).val % 512, Nat.mod_lt _ (by decide)⟩ (i 1))
/-- the rows it sums, -/
def REm (c : Dev nD) : (cc0_scratch1 : Ref sig .tc).ty.Contents (Elt F) := redVal (ownLd (SNm m) c) (rsLd (SNm m) c)
/-- and the result, the same on every device. -/
def OUTm : (cc0_stg3_0 : Ref sig .tc).ty.Contents (Elt F) := outC (REm m)

theorem SNm_at (c : Dev nD) (t : Fin 4) (x : S512x1024.Idx) : blkVal (xIn m c) (gIn m c) (wIn m c) t x = SNm m c (dnB t x) := by
  have h1 : (x 0).val < 512 := (x 0).isLt
  have ht : t.val < 4 := t.isLt
  have e1 : (512 * t.val + (x 0).val) / 512 = t.val := by omega
  have e2 : (512 * t.val + (x 0).val) % 512 = (x 0).val := by omega
  have et : ∀ h, (⟨(512 * t.val + (x 0).val) / 512, h⟩ : Fin 4) = t := fun h => Fin.ext e1
  have ex : ∀ h, (ix2 (n0 := 512) (n1 := 1024) ⟨(512 * t.val + (x 0).val) % 512, h⟩ (x 1)) = x := fun h => by
    funext a; refine Fin.cases ?_ (fun a => ?_) a
    · exact Fin.ext e2
    · obtain rfl : a = 0 := Subsingleton.elim _ _
      rfl
  show _ = blkVal (xIn m c) (gIn m c) (wIn m c) ⟨(512 * t.val + (x 0).val) / 512, _⟩ (ix2 (n0 := 512) (n1 := 1024) ⟨(512 * t.val + (x 0).val) % 512, _⟩ (x 1))
  rw [et, ex]

/-! ## The region's proof data -/

/-- A window's array as the region finds it. -/
abbrev Ain (c : Dev nD) (w : Fin 4) : Buf (Elt F) ((cfg0.win w).arr.view.loc (c : Thread nD τ)) := V5 m c (Proc.devRef .tc (Pipeline.arrRef spec0 w))

/-- The scoped counters: for every other device, the four of the copies. -/
abbrev osem (x : Dev nD × Fin 4) : SemLoc sig := match x.2 with
  | 0 => .dma (semAt cc0_scratch3 x.1) | 1 => .dma (semAt cc0_scratch4 x.1) | 2 => .dma (semAt cc0_scratch5 x.1) | 3 => .dma (semAt cc0_scratch6 x.1)

def dat0 (c : Dev nD) : Dat τ (Elt F) Unit ℕ (UU nD τ) ℕ cfg0 c where
  A w := Ain m c w
  after w _ := match w with
    | ⟨0, _⟩ => xIn m c
    | ⟨1, _⟩ => gIn m c
    | ⟨2, _⟩ => wIn m c
    | ⟨3, _⟩ => OUTm m
  Φ t := if t.val = 0 then iprop(Xk (SNm m) (REm m) c ∗ Scr c ∗ ∃ r, prngReg c r)
    else iprop(semVal (barCell c) 0 ∗ bigSep Finset.univ (sem4 c) ∗ Scr c ∗ ∃ r, prngReg c r)
  q _ := fullShare
  owed t := if t.val = 0 then O₀ c else 0

def pdats : (p : Fin 1) → (c : Dev nD) → Dat τ (Elt F) Unit ℕ (UU nD τ) ℕ (Pipeline.pin (pcfgs (F := F)) adm p) c
  | 0 => dat0 m

theorem Phi_first (c : Dev nD) : (dat0 m c).Φ t0_0.castSucc = iprop(Xk (SNm m) (REm m) c ∗ Scr c ∗ ∃ r, prngReg c r) := by
  show (if (t0_0.castSucc : Fin (cfg0.N + 1)).val = 0 then iprop(Xk (SNm m) (REm m) c ∗ Scr c ∗ ∃ r, prngReg c r) else iprop(semVal (barCell c) 0 ∗ bigSep Finset.univ (sem4 c) ∗ Scr c ∗ ∃ r, prngReg c r) : sProp 𝕄) = _
  exact if_pos rfl
theorem Phi_last (c : Dev nD) : (dat0 m c).Φ t0_0.succ = iprop(semVal (barCell c) 0 ∗ bigSep Finset.univ (sem4 c) ∗ Scr c ∗ ∃ r, prngReg c r) := by
  show (if (t0_0.succ : Fin (cfg0.N + 1)).val = 0 then iprop(Xk (SNm m) (REm m) c ∗ Scr c ∗ ∃ r, prngReg c r) else iprop(semVal (barCell c) 0 ∗ bigSep Finset.univ (sem4 c) ∗ Scr c ∗ ∃ r, prngReg c r) : sProp 𝕄) = _
  exact if_neg (Nat.succ_ne_zero _)
theorem owed_first (c : Dev nD) : (dat0 m c).owed t0_0.castSucc = O₀ c := by
  show (if (t0_0.castSucc : Fin (cfg0.N + 1)).val = 0 then O₀ c else 0) = _
  exact if_pos rfl

theorem owed_last (c : Dev nD) : (dat0 m c).owed t0_0.succ = 0 := by
  show (if (t0_0.succ : Fin (cfg0.N + 1)).val = 0 then O₀ c else 0) = _
  exact if_neg (Nat.succ_ne_zero _)

theorem owes_in (c : Dev nD) (t : Fin (cfg0.N + 1)) (O : CellTallies nD τ sig Unit) (h0 : (dat0 m c).owed t = O) :
    (owesE c O : sProp 𝕄) ⊢ ((dat0 m c).owesAt () t : sProp 𝕄) := by
  unfold owesE Dat.owesAt Pipeline.owesWithin Dat.bound; rw [h0]
  iintro ⟨%W, HO⟩; iexists W; isplitr; · ipureintro; exact fun _ _ => Or.inl trivial
  iexact HO
theorem owes_out (c : Dev nD) (t : Fin (cfg0.N + 1)) (O : CellTallies nD τ sig Unit) (h0 : (dat0 m c).owed t = O) :
    ((dat0 m c).owesAt () t : sProp 𝕄) ⊢ (owesE c O : sProp 𝕄) := by
  unfold owesE Dat.owesAt Pipeline.owesWithin; rw [h0]
  iintro ⟨%W, -, HO⟩; iexists W; iexact HO

/-- A window's one block is its whole array. -/
theorem blk_emb (w : Fin 4) (y) (a) : ((((cfg0.win w).rect t0_0).emb y a : Fin _) : ℕ) = y a :=
  Pipeline.Window.rect_emb_val_of_index_zero (cfg0.win w) t0_0 a (by fin_cases w <;> rfl) y

theorem read_blk0 (f : (main_arg0 : Ref sig .tc).ty.Contents (Elt F)) : ((cfg0.win 0).blk t0_0).view.read (Elt F) f = f := by
  funext y; show f (((cfg0.win 0).rect t0_0).emb y) = f y
  exact congrArg f (funext fun a => Fin.ext (blk_emb 0 y a))
theorem read_blk1 (f : (main_v58 : Ref sig .tc).ty.Contents (Elt F)) : ((cfg0.win 1).blk t0_0).view.read (Elt F) f = f := by
  funext y; show f (((cfg0.win 1).rect t0_0).emb y) = f y
  exact congrArg f (funext fun a => Fin.ext (blk_emb 1 y a))
theorem read_blk2 (f : (main_arg3 : Ref sig .tc).ty.Contents (Elt F)) : ((cfg0.win 2).blk t0_0).view.read (Elt F) f = f := by
  funext y; show f (((cfg0.win 2).rect t0_0).emb y) = f y
  exact congrArg f (funext fun a => Fin.ext (blk_emb 2 y a))
theorem read_blk3 (f : (main_v59 : Ref sig .tc).ty.Contents (Elt F)) : ((cfg0.win 3).blk t0_0).view.read (Elt F) f = f := by
  funext y; show f (((cfg0.win 3).rect t0_0).emb y) = f y
  exact congrArg f (funext fun a => Fin.ext (blk_emb 3 y a))

theorem before0 (c : Dev nD) (d) : (dat0 m c).before 0 t0_0 d = xIn m c := by
  unfold Dat.before; rw [if_pos (fetch0_0 t0_0)]; exact read_blk0 (xIn m c)
theorem before1 (c : Dev nD) (d) : (dat0 m c).before 1 t0_0 d = gIn m c := by
  unfold Dat.before; rw [if_pos (fetch0_1 t0_0)]; exact read_blk1 (gIn m c)
theorem before2 (c : Dev nD) (d) : (dat0 m c).before 2 t0_0 d = wIn m c := by
  unfold Dat.before; rw [if_pos (fetch0_2 t0_0)]; exact read_blk2 (wIn m c)

attribute [local irreducible] cc0__moe_allreduce_body

theorem body_obligation (c : Dev nD) : BodyObligation (dat0 m c) (defs₀ (F := F)) 𝒱₀ () Set.univ := fun t => by
  obtain rfl := fin_N0 t
  rw [bigSep_W0, bigSep_W0, Phi_first, Phi_last]
  show iprop((Xk (SNm m) (REm m) c ∗ Scr c ∗ ∃ r, prngReg c r) ∗ (dat0 m c).owesAt () t0_0.castSucc
      ∗ (∃ d, owns (c : Thread nD τ) xM fullShare ((dat0 m c).before 0 t0_0 d)) ∗ (∃ d, owns (c : Thread nD τ) gM fullShare ((dat0 m c).before 1 t0_0 d))
      ∗ (∃ d, owns (c : Thread nD τ) wM fullShare ((dat0 m c).before 2 t0_0 d)) ∗ (∃ d, owns (c : Thread nD τ) oM fullShare ((dat0 m c).before 3 t0_0 d)))
    ⊢ WP c (cc0__moe_allreduce_body (F := F) xM (Memref.isWhole_whole _) gM (Memref.isWhole_whole _) wM (Memref.isWhole_whole _) oM (Memref.isWhole_whole _) rsM (Memref.isWhole_whole _)
        redM (Memref.isWhole_whole _) sndM (Memref.isWhole_whole _) cc0_scratch3 cc0_scratch4 cc0_scratch5 cc0_scratch6)
      (fun _ => iprop((semVal (barCell c) 0 ∗ bigSep Finset.univ (sem4 c) ∗ Scr c ∗ ∃ r, prngReg c r) ∗ (dat0 m c).owesAt () t0_0.succ
        ∗ owns (c : Thread nD τ) xM fullShare (xIn m c) ∗ owns (c : Thread nD τ) gM fullShare (gIn m c)
        ∗ owns (c : Thread nD τ) wM fullShare (wIn m c) ∗ owns (c : Thread nD τ) oM fullShare (OUTm m)))
  simp only [before0, before1, before2, owns_whole]
  iintro ⟨⟨HX, HS, Hp⟩, HO, ⟨%d0, H0⟩, ⟨%d1, H1⟩, ⟨%d2, H2⟩, ⟨%d3, H3⟩⟩
  ihave HO' := (owes_out m c _ (O₀ c) (owed_first m c)) $$ HO
  ihave HW := (body_run (SNm m) (REm m) (xIn m c) (gIn m c) (wIn m c) ((dat0 m c).before 3 t0_0 d3) c (SNm_at m c) (fun _ => rfl)) $$ [HX HO' H0 H1 H2 HS H3]
  · isplitl [HX]; · iexact HX
    isplitl [HO']; · iexact HO'
    isplitl [H0 H1 H2]
    · unfold inPts
      isplitl [H0]; · iexact H0
      isplitl [H1]; · iexact H1
      iexact H2
    isplitl [HS]; · iexact HS
    iexact H3
  iapply (wp_fwand c) $$ HW
  iintro %r ⟨Hb, Hs, HO, Hi, HS, H3⟩
  imodintro
  unfold inPts OUTm
  icases Hi with ⟨H0, H1, H2⟩
  isplitl [Hb Hs HS Hp]
  · isplitl [Hb]; · iexact Hb
    isplitl [Hs]; · iexact Hs
    isplitl [HS]; · iexact HS
    iexact Hp
  isplitl [HO]; · iapply (owes_in m c t0_0.succ 0 (owed_last m c)); iexact HO
  isplitl [H0]; · iexact H0
  isplitl [H1]; · iexact H1
  isplitl [H2]; · iexact H2
  iexact H3

end Cert.Proof
-- ==== Proof.Cells.lean ====
module

public import proofs.«01_k».proof.Proof.Region

/-! # The cells and the tokens of the launch -/

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

variable (SN : Dev nD → (cc0_scratch2 : Ref sig .tc).ty.Contents (Elt F)) (RE : Dev nD → (cc0_scratch1 : Ref sig .tc).ty.Contents (Elt F))
variable (K : GSem nD τ sig → ℕ)

/-! ## The cells and the tokens of the launch -/

theorem kd_osem (p : Dev nD) (k : Fin 4) : kd (osem (p, k)) = k.val + 1 := match k with
  | 0 => kd_s1 p | 1 => kd_r1 p | 2 => kd_s2 p | 3 => kd_r2 p
theorem at_osem (p : Dev nD) (k : Fin 4) : at' (osem (p, k)) = p := match k with
  | 0 => at_s1 p | 1 => at_r1 p | 2 => at_s2 p | 3 => at_r2 p
theorem osem_inj : Function.Injective osem := fun x y h => by
  obtain ⟨p, k⟩ := x; obtain ⟨q, l⟩ := y
  have h1 := congrArg kd h; rw [kd_osem, kd_osem] at h1
  have h2 := congrArg at' h; rw [at_osem, at_osem] at h2
  exact Prod.ext h2 (Fin.ext (Nat.succ.inj h1))

abbrev dCell (c : Dev nD) (x : Dev nD × Fin 4) : GSem nD τ sig := ((c : Thread nD τ), osem x)

def barEmb : Dev nD ↪ GSem nD τ sig := ⟨barCell, fun _ _ h => congrArg (fun g : GSem nD τ sig => g.1.1) h⟩
def dmaEmb : (Dev nD × (Dev nD × Fin 4)) ↪ GSem nD τ sig := ⟨fun x => dCell x.1 x.2, fun x y h =>
  Prod.ext (congrArg (fun g : GSem nD τ sig => g.1.1) h) (osem_inj (congrArg (fun g : GSem nD τ sig => g.2) h))⟩
def barCells : Finset (GSem nD τ sig) := Finset.univ.map barEmb
def dmaCells : Finset (GSem nD τ sig) := Finset.univ.map dmaEmb

theorem disjoint_cells : Disjoint barCells dmaCells := Finset.disjoint_left.mpr fun g h h' => by
  obtain ⟨c, -, rfl⟩ := Finset.mem_map.mp h
  obtain ⟨⟨d, p, k⟩, -, e⟩ := Finset.mem_map.mp h'
  have h1 : kd (dCell d (p, k)).2 = kd (barCell c).2 := congrArg (fun g : GSem nD τ sig => kd g.2) e
  have h2 := kd_osem p k
  have h3 : kd (barCell c).2 = 5 := kd_bar
  have h4 : kd (dCell d (p, k)).2 = kd (osem (p, k)) := rfl
  have := k.isLt
  omega

/-- The tokens of what `c` pays through `q`, in the order of `tok5`; -/
def tokOf (x : Dev nD × (Dev nD × Fin 5)) : GSem nD τ sig × ℕ × Dev nD := match x.2.2 with
  | 0 => (barCell x.2.1, 0, x.1) | 1 => (s1Cell x.1 x.2.1, 0, x.2.1) | 2 => (r1Cell x.2.1 x.1, 0, x.1)
  | 3 => (s2Cell x.1 x.2.1, 0, x.2.1) | 4 => (r2Cell x.2.1 x.1, 0, x.1)
/-- and whose, through whom and which a token is. -/
def tokBack (y : GSem nD τ sig × ℕ × Dev nD) : Dev nD × (Dev nD × Fin 5) :=
  if kd y.1.2 = 5 then (y.2.2, y.1.1.1, 0) else if kd y.1.2 = 1 then (y.1.1.1, y.2.2, 1) else if kd y.1.2 = 2 then (y.2.2, y.1.1.1, 2)
  else if kd y.1.2 = 3 then (y.1.1.1, y.2.2, 3) else (y.2.2, y.1.1.1, 4)
theorem tok_back (x) : tokBack (tokOf x) = x := by
  obtain ⟨c, q, k⟩ := x
  match k with
  | 0 => dsimp only [tokOf, tokBack]; rw [kd_bar]; rfl
  | 1 => dsimp only [tokOf, tokBack]; rw [kd_s1]; rfl
  | 2 => dsimp only [tokOf, tokBack]; rw [kd_r1]; rfl
  | 3 => dsimp only [tokOf, tokBack]; rw [kd_s2]; rfl
  | 4 => dsimp only [tokOf, tokBack]; rw [kd_r2]; rfl
def tokEmb : (Dev nD × (Dev nD × Fin 5)) ↪ (GSem nD τ sig × ℕ × Dev nD) := ⟨tokOf, Function.LeftInverse.injective tok_back⟩
def toks : Finset (GSem nD τ sig × ℕ × Dev nD) := Finset.univ.map tokEmb

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} from by decide, bigSep_insert (by decide), bigSep_insert (by decide), bigSep_insert (by decide),
    bigSep_insert (by decide), BI.bigSep_singleton]; rfl
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide),
    BI.bigSep_singleton]; rfl

theorem toks_eq : bigSep toks (fun x => (dutyTok ER x.1 x.2.1 x.2.2 : sProp 𝕄)) = bigSep Finset.univ fun c => bigSep Finset.univ (tok5 (F := F) c) := by
  unfold toks
  rw [bigSep_map, bigSep_univ_prod]
  refine bigSep_congr fun c _ => ?_
  rw [bigSep_univ_prod]
  refine bigSep_congr fun q _ => ?_
  rw [bigSep_five]
  rfl

theorem dma_eq (Φ : GSem nD τ sig → sProp 𝕄) : bigSep dmaCells Φ
    = bigSep Finset.univ fun c => bigSep Finset.univ fun q => iprop(Φ (s1Cell c q) ∗ Φ (r1Cell c q) ∗ Φ (s2Cell c q) ∗ Φ (r2Cell c q)) := by
  unfold dmaCells
  rw [bigSep_map, bigSep_univ_prod]
  refine bigSep_congr fun c _ => ?_
  rw [bigSep_univ_prod]
  refine bigSep_congr fun q _ => ?_
  rw [bigSep_four]
  rfl
theorem bar_eq (Φ : GSem nD τ sig → sProp 𝕄) : bigSep barCells Φ = bigSep Finset.univ fun c => Φ (barCell c) := by
  unfold barCells
  rw [bigSep_map]
  rfl

theorem mem_bar (c : Dev nD) : barCell c ∈ barCells := Finset.mem_map_of_mem barEmb (Finset.mem_univ c)
theorem mem_dma (c q : Dev nD) (k : Fin 4) : dCell c (q, k) ∈ dmaCells := Finset.mem_map_of_mem dmaEmb (Finset.mem_univ (c, (q, k)))

/-! ## What the launch hands every device -/

/-- The invariants and that the barrier cells are open; -/
def Recs : sProp 𝕄 :=
  iprop((bigSep Finset.univ fun d : Dev nD => iprop(Inv SN RE K (barCell d) ∗ reached ER (barCell d) 0))
    ∗ (bigSep Finset.univ fun x : Dev nD × Dev nD =>
        iprop(Inv SN RE K (s1Cell x.1 x.2) ∗ Inv SN RE K (r1Cell x.1 x.2) ∗ Inv SN RE K (s2Cell x.1 x.2) ∗ Inv SN RE K (r2Cell x.1 x.2))))
instance Recs_persistent : BI.Persistent (Recs SN RE K) := by unfold Recs; infer_instance

/-- the same, as the launch gives it. -/
def Recs0 : sProp 𝕄 := iprop(bigSep (barCells ∪ dmaCells) (fun g => Inv SN RE K g) ∗ bigSep barCells (fun g => reached ER g 0))
instance Recs0_persistent : BI.Persistent (Recs0 SN RE K) := by unfold Recs0; infer_instance

theorem Recs0_inv {g : GSem nD τ sig} (h : g ∈ barCells ∪ dmaCells) : Recs0 SN RE K ⊢ Inv SN RE K g := by
  unfold Recs0
  iintro ⟨H, -⟩
  iapply (belim h (fun g => Inv SN RE K g)); iexact H
theorem Recs0_bar (d : Dev nD) : Recs0 SN RE K ⊢ iprop(Inv SN RE K (barCell d) ∗ reached ER (barCell d) 0) := by
  iintro #H
  isplitr
  · iapply (Recs0_inv SN RE K (Finset.mem_union_left _ (mem_bar d))); iexact H
  · unfold Recs0
    icases H with ⟨-, H⟩
    iapply (belim (mem_bar d) (fun g => (reached ER g 0 : sProp 𝕄))); iexact H
theorem Recs0_dma (d p : Dev nD) : Recs0 SN RE K
    ⊢ iprop(Inv SN RE K (s1Cell d p) ∗ Inv SN RE K (r1Cell d p) ∗ Inv SN RE K (s2Cell d p) ∗ Inv SN RE K (r2Cell d p)) := by
  iintro #H
  isplitr; · iapply (Recs0_inv SN RE K (Finset.mem_union_right _ (mem_dma d p 0))); iexact H
  isplitr; · iapply (Recs0_inv SN RE K (Finset.mem_union_right _ (mem_dma d p 1))); iexact H
  isplitr; · iapply (Recs0_inv SN RE K (Finset.mem_union_right _ (mem_dma d p 2))); iexact H
  iapply (Recs0_inv SN RE K (Finset.mem_union_right _ (mem_dma d p 3))); iexact H

theorem Recs_of : Recs0 SN RE K ⊢ Recs SN RE K := by
  unfold Recs
  iintro #H
  isplitr
  · iapply (show (bigSep Finset.univ fun _ : Dev nD => Recs0 SN RE K) ⊢ _ from bigSep_mono fun d _ => Recs0_bar SN RE K d)
    iapply (bigSep_of_persistent Finset.univ (Recs0 SN RE K)); iexact H
  · iapply (show (bigSep Finset.univ fun _ : Dev nD × Dev nD => Recs0 SN RE K) ⊢ _ from bigSep_mono fun x _ => Recs0_dma SN RE K x.1 x.2)
    iapply (bigSep_of_persistent Finset.univ (Recs0 SN RE K)); iexact H

/-- the rights to open its own cells, -/
def open4 (c q : Dev nD) : sProp 𝕄 := iprop(openTok ER (s1Cell c q) ∗ openTok ER (r1Cell c q) ∗ openTok ER (s2Cell c q) ∗ openTok ER (r2Cell c q))
/-- and all that is its own. -/
def Lin (c : Dev nD) : sProp 𝕄 :=
  iprop(atPos ER (barCell c) 0 ∅ 0 ∗ bigSep Finset.univ (open4 c) ∗ bigSep Finset.univ (tok5 (F := F) c))

def Tk (c : Dev nD) : sProp 𝕄 := iprop((∃ K, Recs SN RE K ∗ Lin c) ∗ Cr c)

/-- The launch's own resources make every device's. -/
theorem launch_all : iprop((bigSep Finset.univ fun c => semVal (barCell c) 0) ∗ BI.own (ER (launchOf barCells dmaCells toks)))
    ⊢ (|={Set.univ}=> bigSep Finset.univ fun c => iprop(∃ K, Recs SN RE K ∗ Lin c) : sProp 𝕄) := by
  rw [← bar_eq (fun g => (semVal g 0 : sProp 𝕄))]
  iintro ⟨Hv, Hu⟩
  imod (Rounds.fund_launch ER (Rd SN RE) disjoint_cells (fun g _ h => h) toks) $$ [Hv Hu] with ⟨%κ, -, #Hinv, #Hr, Hat, Hopen, Htok⟩
  · isplitl [Hv] <;> iassumption
  imodintro
  ihave Hat := (Entails.of_eq (bar_eq (fun g => (atPos ER g 0 ∅ 0 : sProp 𝕄)))) $$ Hat
  ihave Hopen := (Entails.of_eq (dma_eq (fun g => (openTok ER g : sProp 𝕄)))) $$ Hopen
  ihave Htok := (Entails.of_eq (toks_eq (F := F))) $$ Htok
  iapply (bigSep_with_persistent (R := Recs0 SN RE κ) (Φ := fun c => Lin c) fun c _ => (show _ ⊢ _ from by
    iintro ⟨#H, HL⟩
    iexists κ
    isplitr; · iapply (Recs_of SN RE κ); iexact H
    iexact HL))
  isplitr
  · unfold Recs0
    isplitr; · iexact Hinv
    iexact Hr
  unfold Lin
  rw [bsep, bsep]
  isplitl [Hat]; · iexact Hat
  isplitl [Hopen]; · iexact Hopen
  iexact Htok

/-! ## Opening a device's cells -/

theorem open_one (g : GSem nD τ sig) : iprop(Inv SN RE K g ∗ openTok ER g ∗ semVal g 0)
    ⊢ (|={Set.univ}=> iprop(atPos ER g 0 ∅ 0 ∗ reached ER g 0) : sProp 𝕄) := Rounds.cell_open ER (Rd SN RE) (g := g) (Set.mem_univ (K g))

theorem open_four (c q : Dev nD) : iprop(Recs SN RE K ∗ open4 c q ∗ sem4 c q) ⊢ (|={Set.univ}=> iprop(at4 c q 0 ∗ re4 c q) : sProp 𝕄) := by
  unfold open4 sem4 at4 re4 Recs
  iintro ⟨⟨-, #H⟩, ⟨O1, O2, O3, O4⟩, S1, S2, S3, S4⟩
  ihave #HI := (belim (Finset.mem_univ ((c, q) : Dev nD × Dev nD))
    (fun x : Dev nD × Dev nD => iprop(Inv SN RE K (s1Cell x.1 x.2) ∗ Inv SN RE K (r1Cell x.1 x.2) ∗ Inv SN RE K (s2Cell x.1 x.2) ∗ Inv SN RE K (r2Cell x.1 x.2)))) $$ H
  icases HI with ⟨#I1, #I2, #I3, #I4⟩
  imod (open_one SN RE K (s1Cell c q)) $$ [O1 S1] with ⟨A1, #R1⟩
  · isplitr; · iexact I1
    isplitl [O1] <;> iassumption
  imod (open_one SN RE K (r1Cell c q)) $$ [O2 S2] with ⟨A2, #R2⟩
  · isplitr; · iexact I2
    isplitl [O2] <;> iassumption
  imod (open_one SN RE K (s2Cell c q)) $$ [O3 S3] with ⟨A3, #R3⟩
  · isplitr; · iexact I3
    isplitl [O3] <;> iassumption
  imod (open_one SN RE K (r2Cell c q)) $$ [O4 S4] with ⟨A4, #R4⟩
  · isplitr; · iexact I4
    isplitl [O4] <;> iassumption
  imodintro
  isplitl [A1 A2 A3 A4]
  · isplitl [A1]; · iexact A1
    isplitl [A2]; · iexact A2
    isplitl [A3] <;> iassumption
  isplitr; · iexact R1
  isplitr; · iexact R2
  isplitr <;> iassumption

theorem own_sems (c : Dev nD) : (Pipeline.ownSems0 osem c : sProp 𝕄) = bigSep Finset.univ (sem4 c) := by
  unfold Pipeline.ownSems0
  rw [bigSep_univ_prod]
  refine bigSep_congr fun q _ => ?_
  rw [bigSep_four]
  rfl

theorem open_all (c : Dev nD) : iprop(Tk SN RE c ∗ Pipeline.ownSems0 osem c ∗ levAts L lv) ⊢ (|={Set.univ}=> Xk SN RE c : sProp 𝕄) := by
  rw [own_sems]
  unfold Tk Xk Opened Lin
  iintro ⟨⟨⟨%κ, #HR, Hb, Ho, Ht⟩, HC⟩, HS, #HL⟩
  have h4 : iprop(Recs SN RE κ ∗ bigSep Finset.univ (fun q => iprop(open4 c q ∗ sem4 c q))) ⊢ bigSep Finset.univ (fun q => (iprop(|={Set.univ}=> iprop(at4 c q 0 ∗ re4 c q)) : sProp 𝕄)) :=
    bigSep_with_persistent (R := Recs SN RE κ) (Φ := fun q => iprop(open4 c q ∗ sem4 c q)) fun q _ => open_four SN RE κ c q
  ihave H1 := h4 $$ [Ho HS]
  · isplitr; · iexact HR
    rw [bsep]
    isplitl [Ho] <;> iassumption
  imod (bigSep_fupd Finset.univ (fun q => iprop(at4 c q 0 ∗ re4 c q))) $$ H1 with H2
  imodintro
  iexists κ
  isplitr
  · unfold Ctx Recs
    icases HR with ⟨#H1, #H2⟩
    isplitr; · iexact H1
    isplitr <;> iassumption
  isplitr [HC]
  · isplitl [Hb]; · iexact Hb
    rw [bsep Finset.univ (tok5 c) (fun q => iprop(at4 c q 0 ∗ re4 c q))]
    isplitl [Ht] <;> iassumption
  iexact HC

end Cert.Proof
-- ==== Proof.Credit.lean ====
module

public import proofs.«01_k».proof.Proof.Cells

/-! # The credit of the launch -/

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

/-! ## The launch credit -/

theorem tally_sum (s : Finset (Dev nD)) (f : Dev nD → GSem nD τ sig) (n : ℕ) (g : GSem nD τ sig) :
    (∑ i ∈ s, tallyAt (f i) () n : CellTallies nD τ sig Unit) g () = ∑ i ∈ s, if g = f i then n else 0 := by
  rw [Finset.sum_apply, Finset.sum_apply']
  exact Finset.sum_congr rfl fun i _ => by rw [tallyAt_apply]; simp only [and_true]

theorem barO_eq (c : Dev nD) : barO c 0 = ∑ p ∈ Finset.univ.erase c, tallyAt (barCell p) () 1 := by
  unfold barO
  rw [← peer_image c, Finset.sum_image (fun k hk j hj h => peer_inj c k (Finset.mem_range.mp hk) j (Finset.mem_range.mp hj) h), Finset.range_eq_Ico]
theorem r1O_eq (c : Dev nD) : r1O c 0 = ∑ p ∈ Finset.univ.erase c, tallyAt (r1Cell p c) () N := by
  unfold r1O
  rw [← ord_image c, Finset.sum_image (fun k hk j hj h => ord_inj c k (by have := Finset.mem_range.mp hk; omega) j (by have := Finset.mem_range.mp hj; omega) h), Finset.range_eq_Ico]
theorem r2O_eq (c : Dev nD) : r2O c 0 = ∑ p ∈ Finset.univ.erase c, tallyAt (r2Cell p c) () N := by
  unfold r2O
  rw [← peer_image c, Finset.sum_image (fun k hk j hj h => peer_inj c k (Finset.mem_range.mp hk) j (Finset.mem_range.mp hj) h), Finset.range_eq_Ico]

theorem O₀_apply (c : Dev nD) (g : GSem nD τ sig) : O₀ c g () = (∑ p ∈ Finset.univ.erase c, if g = barCell p then 1 else 0)
    + ((∑ p ∈ Finset.univ.erase c, if g = r1Cell p c then N else 0) + ∑ p ∈ Finset.univ.erase c, if g = r2Cell p c then N else 0) := by
  rw [← tally_sum, ← tally_sum, ← tally_sum, ← barO_eq, ← r1O_eq, ← r2O_eq]; rfl

theorem ne_kd {g h : GSem nD τ sig} (e : kd g.2 ≠ kd h.2) : g ≠ h := fun he => e (by rw [he])

theorem bar_iff (c p : Dev nD) : barCell c = barCell p ↔ c = p :=
  ⟨fun h => congrArg (fun g : GSem nD τ sig => g.1.1) h, fun h => by rw [h]⟩
theorem owed_at_bar (c d : Dev nD) : O₀ d (barCell c) () = if c ≠ d then 1 else 0 := by
  rw [O₀_apply, Finset.sum_eq_zero (s := Finset.univ.erase d) (f := fun p => if barCell c = r1Cell p d then N else 0)
      fun p _ => if_neg (ne_kd (by rw [show kd (barCell c).2 = 5 from kd_bar, show kd (r1Cell p d).2 = 2 from kd_r1 d]; decide)),
    Finset.sum_eq_zero (s := Finset.univ.erase d) (f := fun p => if barCell c = r2Cell p d then N else 0)
      fun p _ => if_neg (ne_kd (by rw [show kd (barCell c).2 = 5 from kd_bar, show kd (r2Cell p d).2 = 4 from kd_r2 d]; decide)),
    Finset.sum_congr rfl (g := fun p => if c = p then 1 else 0) fun p _ => if_congr (bar_iff c p) rfl rfl, Finset.sum_ite_eq, add_zero, add_zero]
  simp only [Finset.mem_erase, Finset.mem_univ, and_true]

theorem r1_iff (c q p d : Dev nD) : r1Cell c q = r1Cell p d ↔ c = p ∧ q = d := by
  constructor
  · intro h
    have := dmaEmb.injective (a₁ := (c, (q, 1))) (a₂ := (p, (d, 1))) h
    exact ⟨congrArg Prod.fst this, congrArg (fun x => x.2.1) this⟩
  · rintro ⟨rfl, rfl⟩; rfl
theorem r2_iff (c q p d : Dev nD) : r2Cell c q = r2Cell p d ↔ c = p ∧ q = d := by
  constructor
  · intro h
    have := dmaEmb.injective (a₁ := (c, (q, 3))) (a₂ := (p, (d, 3))) h
    exact ⟨congrArg Prod.fst this, congrArg (fun x => x.2.1) this⟩
  · rintro ⟨rfl, rfl⟩; rfl

theorem ite_sum (c q d : Dev nD) (hq : q ≠ c) : (∑ p ∈ Finset.univ.erase d, if c = p ∧ q = d then N else 0) = if q = d then N else 0 := by
  by_cases h : q = d
  · subst h
    simp only [and_true]
    rw [Finset.sum_ite_eq, if_pos (Finset.mem_erase.mpr ⟨hq.symm, Finset.mem_univ _⟩), if_pos trivial]
  · rw [if_neg h]; exact Finset.sum_eq_zero fun p _ => if_neg fun h' => h h'.2

theorem owed_at_r1 (c q d : Dev nD) (hq : q ≠ c) : O₀ d (r1Cell c q) () = if q = d then N else 0 := by
  rw [O₀_apply, Finset.sum_eq_zero (s := Finset.univ.erase d) (f := fun p => if r1Cell c q = barCell p then 1 else 0)
      fun p _ => if_neg (ne_kd (by rw [show kd (barCell p).2 = 5 from kd_bar, show kd (r1Cell c q).2 = 2 from kd_r1 q]; decide)),
    Finset.sum_eq_zero (s := Finset.univ.erase d) (f := fun p => if r1Cell c q = r2Cell p d then N else 0)
      fun p _ => if_neg (ne_kd (by rw [show kd (r1Cell c q).2 = 2 from kd_r1 q, show kd (r2Cell p d).2 = 4 from kd_r2 d]; decide)),
    Finset.sum_congr rfl (g := fun p => if c = p ∧ q = d then N else 0) fun p _ => if_congr (r1_iff c q p d) rfl rfl, ite_sum c q d hq, add_zero, zero_add]
theorem owed_at_r2 (c q d : Dev nD) (hq : q ≠ c) : O₀ d (r2Cell c q) () = if q = d then N else 0 := by
  rw [O₀_apply, Finset.sum_eq_zero (s := Finset.univ.erase d) (f := fun p => if r2Cell c q = barCell p then 1 else 0)
      fun p _ => if_neg (ne_kd (by rw [show kd (barCell p).2 = 5 from kd_bar, show kd (r2Cell c q).2 = 4 from kd_r2 q]; decide)),
    Finset.sum_eq_zero (s := Finset.univ.erase d) (f := fun p => if r2Cell c q = r1Cell p d then N else 0)
      fun p _ => if_neg (ne_kd (by rw [show kd (r2Cell c q).2 = 4 from kd_r2 q, show kd (r1Cell p d).2 = 2 from kd_r1 d]; decide)),
    Finset.sum_congr rfl (g := fun p => if c = p ∧ q = d then N else 0) fun p _ => if_congr (r2_iff c q p d) rfl rfl, ite_sum c q d hq, zero_add, zero_add]

theorem credit_of (g : GSem nD τ sig) (n : ℕ) (h : ∑ d : Dev nD, O₀ d g () = n) :
    tallyOn g (launchCredit (Pipeline.owing O₀) 0 g) = tallyAt g () n := by
  unfold tallyAt
  refine congrArg _ (Finsupp.ext fun u => ?_)
  obtain rfl : u = () := rfl
  rw [Pipeline.launchCredit_owing, Finsupp.single_eq_same, h]

theorem credit_bar (c : Dev nD) : tallyOn (barCell c) (launchCredit (Pipeline.owing O₀) 0 (barCell c)) = tallyAt (barCell c) () 31 :=
  credit_of _ _ (by
    rw [Finset.sum_congr rfl fun d _ => owed_at_bar c d]
    rw [Finset.sum_boole, Finset.filter_ne, Finset.card_erase_of_mem (Finset.mem_univ _), Finset.card_univ, Fintype.card_fin]; rfl)
theorem credit_r1 (c q : Dev nD) (h : q ≠ c) : tallyOn (r1Cell c q) (launchCredit (Pipeline.owing O₀) 0 (r1Cell c q)) = tallyAt (r1Cell c q) () N :=
  credit_of _ _ (by rw [Finset.sum_congr rfl fun d _ => owed_at_r1 c q d h, Finset.sum_ite_eq, if_pos (Finset.mem_univ _)])
theorem credit_r2 (c q : Dev nD) (h : q ≠ c) : tallyOn (r2Cell c q) (launchCredit (Pipeline.owing O₀) 0 (r2Cell c q)) = tallyAt (r2Cell c q) () N :=
  credit_of _ _ (by rw [Finset.sum_congr rfl fun d _ => owed_at_r2 c q d h, Finset.sum_ite_eq, if_pos (Finset.mem_univ _)])

/-- The `k`-th counters. -/
def semEmb (k : Fin 4) : Dev nD ↪ SemLoc sig := ⟨fun p => osem (p, k), fun _ _ h => congrArg Prod.fst (osem_inj h)⟩

theorem creds (c : Dev nD) : (Pipeline.launchCred O₀ c : sProp 𝕄) ⊢ Cr c := by
  unfold Pipeline.launchCred Cr
  have hs : ((Finset.univ.erase c).map (semEmb 1)) ∪ ((Finset.univ.erase c).map (semEmb 3)) ⊆ Finset.univ.erase (SemLoc.reg barS) := fun s hs => by
    refine Finset.mem_erase.mpr ⟨fun h => ?_, Finset.mem_univ _⟩
    subst h
    rcases Finset.mem_union.mp hs with h | h
    · obtain ⟨p, -, h⟩ := Finset.mem_map.mp h
      exact absurd ((kd_osem p 1).symm.trans ((congrArg kd h).trans kd_bar)) (by decide)
    · obtain ⟨p, -, h⟩ := Finset.mem_map.mp h
      exact absurd ((kd_osem p 3).symm.trans ((congrArg kd h).trans kd_bar)) (by decide)
  have hd : Disjoint ((Finset.univ.erase c).map (semEmb 1)) ((Finset.univ.erase c).map (semEmb 3)) := Finset.disjoint_left.mpr fun s h h' => by
    obtain ⟨p, -, e⟩ := Finset.mem_map.mp h
    obtain ⟨q, -, e'⟩ := Finset.mem_map.mp h'
    exact absurd (congrArg Prod.snd (osem_inj (a₁ := (p, 1)) (a₂ := (q, 3)) (e.trans e'.symm))) (by show ¬ ((1 : Fin 4) = 3); decide)
  rw [bigSep_univ_at _ (SemLoc.reg barS)]
  have h1 : (cred (tallyOn ((c : Thread nD τ), SemLoc.reg barS) (launchCredit (Pipeline.owing O₀) 0 ((c : Thread nD τ), SemLoc.reg barS))) : sProp 𝕄)
      = cred (tallyAt (barCell c) () 31) := congrArg cred (credit_bar c)
  have h2 : bigSep (((Finset.univ.erase c).map (semEmb 1)) ∪ ((Finset.univ.erase c).map (semEmb 3)))
      (fun sm => (cred (tallyOn ((c : Thread nD τ), sm) (launchCredit (Pipeline.owing O₀) 0 ((c : Thread nD τ), sm))) : sProp 𝕄))
      = bigSep (Finset.univ.erase c) (cr2 c) := by
    rw [bigSep_union hd, bigSep_map, bigSep_map]
    unfold cr2
    rw [bsep]
    refine congrArg₂ _ (bigSep_congr fun q hq => ?_) (bigSep_congr fun q hq => ?_)
    · exact congrArg cred (credit_r1 c q (Finset.mem_erase.mp hq).1)
    · exact congrArg cred (credit_r2 c q (Finset.mem_erase.mp hq).1)
  rw [h1, ← h2]
  iintro ⟨H1, H2⟩
  isplitl [H1]; · iexact H1
  iapply (show bigSep (Finset.univ.erase (SemLoc.reg barS)) (fun sm => (cred (tallyOn ((c : Thread nD τ), sm) (launchCredit (Pipeline.owing O₀) 0 ((c : Thread nD τ), sm))) : sProp 𝕄))
    ⊢ bigSep (((Finset.univ.erase c).map (semEmb 1)) ∪ ((Finset.univ.erase c).map (semEmb 3)))
      (fun sm => (cred (tallyOn ((c : Thread nD τ), sm) (launchCredit (Pipeline.owing O₀) 0 ((c : Thread nD τ), sm))) : sProp 𝕄)) from bigSep_subset hs)
  iexact H2

end Cert.Proof
-- ==== Proof.Launch.lean ====
module

public import proofs.«01_k».proof.Proof.Credit

/-! # The region's record, the launch and the run -/

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

open Idealize.ShloMosaic.Pipeline (Seg HostSeg RegionSeg)

variable (m : (ℓ : Loc nD τ sig) → Buf (Elt F) ℓ) (ρ : Dev nD → PrngReg)

/-! ## The region's record -/

set_option backward.proofsInPublic true in
/-- What the region leaves in its arrays: the result in the last, the others as they were. -/
def outsM : Outs (F := F) := fun _ r c => Function.update (V5 m c) (Proc.devRef .tc main_v59) (OUTm m) (Proc.devRef .tc r)

theorem V6_out (c : Dev nD) : V6 m (outsM m) c main_v59 = OUTm m := by
  show Function.update (V5 m c) (Proc.devRef .tc main_v59) (Function.update (V5 m c) (Proc.devRef .tc main_v59) (OUTm m) (Proc.devRef .tc main_v59)) (Proc.devRef .tc main_v59) = _
  rw [Function.update_self, Function.update_self]

theorem all_scoped : ∀ s : DmaSem sig, (SemLoc.dma s : SemLoc sig).isScoped .tc = true := by decide
theorem stage_kd : ∀ (w : Fin 4) (s : Fin (spec0 w).nbuf), kd (.dma ((spec0 w).sem s)) = 0 := by decide

theorem osem_scoped (x : Dev nD × Fin 4) : (osem x).isScoped .tc = true := by
  obtain ⟨p, k⟩ := x
  match k with
  | 0 => exact all_scoped _
  | 1 => exact all_scoped _
  | 2 => exact all_scoped _
  | 3 => exact all_scoped _
theorem osemFacts : Pipeline.OwnSemFacts spec0 osem where
  isScoped := osem_scoped
  inj := osem_inj
  disj x w s h := by
    have h1 := congrArg kd h
    rw [stage_kd, show x = (x.1, x.2) from rfl, kd_osem] at h1
    omega

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_pos (c : Dev nD) (t : Fin (cfg0.N + 1)) (g : GSem nD τ sig) (i : Unit) (h : 0 < (dat0 m c).owed t g i) : i ∈ L g ∧ 0 < lv g i := by
  have h' : 0 < (if t.val = 0 then O₀ c else 0 : CellTallies nD τ sig Unit) g i := h
  split at h'
  · rcases owed_add h' with h1 | h1
    · exact ⟨(owed_bar h1).1, by rw [(owed_bar h1).2]; decide⟩
    · rcases owed_add h1 with h2 | h2
      · exact ⟨(owed_r1 h2).1, by rw [(owed_r1 h2).2]; decide⟩
      · exact ⟨(owed_r2 h2).1, by rw [(owed_r2 h2).2]; decide⟩
  · exact absurd h' (Nat.lt_irrefl 0)

theorem stage_lv (c : Dev nD) (w : Fin 4) (s : Fin (spec0 w).nbuf) : lv ((c : Thread nD τ), .dma ((spec0 w).sem s)) () = 0 := by
  dsimp only [lv]; rw [stage_kd]; rfl

theorem arr0 (c : Dev nD) : (dat0 m c).arrAt 0 cfg0.N = V6 m (outsM m) c main_arg0 := by
  rw [V6_of m (outsM m) c main_arg0 (by decide), (dat0 m c).arrAt_in 0 rfl]; rfl
theorem arr1 (c : Dev nD) : (dat0 m c).arrAt 1 cfg0.N = V6 m (outsM m) c main_v58 := by
  rw [V6_of m (outsM m) c main_v58 (by decide), (dat0 m c).arrAt_in 1 rfl]; rfl
theorem arr2 (c : Dev nD) : (dat0 m c).arrAt 2 cfg0.N = V6 m (outsM m) c main_arg3 := by
  rw [V6_of m (outsM m) c main_arg3 (by decide), (dat0 m c).arrAt_in 2 rfl]; rfl
theorem cover3 (i : S2048x1024.Idx) : i ∈ ((cfg0.win 3).blk t0_0).view.set := by
  have e : ((cfg0.win 3).blk t0_0).view.emb i = i := funext fun a => Fin.ext (blk_emb 3 i a)
  exact e.subst (motive := fun j => j ∈ ((cfg0.win 3).blk t0_0).view.set) (View.emb_mem_set _ _)
theorem flushed3 (c : Dev nD) : (dat0 m c).flushed 3 t0_0 = OUTm m := rfl
theorem arr3 (c : Dev nD) : (dat0 m c).arrAt 3 cfg0.N = V6 m (outsM m) c main_v59 := by
  rw [V6_out m c]
  exact (dat0 m c).arrAt_eq_of_cover 3 (OUTm m)
    (fun t _ => by obtain rfl := fin_N0 t; exact (flushed3 m c).trans (read_blk3 (OUTm m)).symm)
    (fun i => ⟨t0_0, flush0_3 _, cover3 i⟩)
theorem arr_in (c : Dev nD) (w : Fin 4) : (dat0 m c).arrAt w cfg0.N = V6 m (outsM m) c (Proc.devRef .tc (Pipeline.arrRef spec0 w)) := by
  match w with
  | 0 => exact arr0 m c
  | 1 => exact arr1 m c
  | 2 => exact arr2 m c
  | 3 => exact arr3 m c

theorem hin0 (c : Dev nD) : iprop(Pipeline.scopedRest (Pipeline.pin (pcfgs (F := F)) adm 0).spec c ∗ (∃ r, prngReg c r)
      ∗ StableHlo.held (c.tc : Thread nD τ) ∅ (V5 m c) ∗ Xk (SNm m) (REm m) c)
    ⊢ (pdats m 0 c).Φ 0 := by
  rw [show (pdats m 0 c).Φ 0 = iprop(Xk (SNm m) (REm m) c ∗ Scr c ∗ ∃ r, prngReg c r) from Phi_first m c,
    show (Pipeline.scopedRest (Pipeline.pin (pcfgs (F := F)) adm 0).spec c : sProp 𝕄) = Scr c from scopedRest0_eq c]
  iintro ⟨Hs, Hp, -, HX⟩
  isplitl [HX]; · iexact HX
  isplitl [Hs] <;> iassumption

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V6 m (outsM m) c) ∗ Pipeline.ownSems0 osem c ∗ semVal (barCell c) 0) := by
  rw [show (pdats m 0 c).Φ (Fin.last (Pipeline.pin (pcfgs (F := F)) adm 0).N) = iprop(semVal (barCell c) 0 ∗ bigSep Finset.univ (sem4 c) ∗ Scr c ∗ ∃ r, prngReg c r) from Phi_last m c,
    show (Pipeline.scopedRest (Pipeline.pin (pcfgs (F := F)) adm 0).spec c : sProp 𝕄) = Scr c from scopedRest0_eq c, own_sems]
  unfold StableHlo.held
  rw [BI.bigSep_empty]
  iintro ⟨Hb, Hs, HS, Hp⟩
  isplitl [HS]; · iexact HS
  isplitl [Hp]; · iexact Hp
  isplitr; · iempintro
  isplitl [Hs] <;> iassumption

abbrev arrs : Finset (DevRef τ sig) := Pipeline.arrRefs (pcfgs (F := F) 0).spec
abbrev rest : Finset (DevRef τ sig) := Pipeline.ucRefs τ sig \ arrs (F := F)

theorem rest_eq (c : Dev nD) (b : DevRef τ sig) (hb : b ∈ rest (F := F) \ ∅) : V6 m (outsM m) c b = V5 m c b := by
  have h := (Finset.mem_sdiff.mp (Finset.mem_sdiff.mp hb).1).2
  show Function.update (V5 m c) (Proc.devRef .tc main_v59) _ b = _
  refine Function.update_of_ne (fun e => h ?_) _ _
  subst e
  exact Finset.mem_map_of_mem _ (Finset.mem_image.mpr ⟨3, Finset.mem_univ _, rfl⟩)

attribute [local irreducible] cc0__moe_allreduce_body

set_option backward.isDefEq.respectTransparency.types false in
/-- The kernel's region. -/
def reg0 : RegionSeg (pcfgs (F := F)) adm (pdats m) () (defs₀ (F := F)) 𝒱₀ L lv 0 :=
  RegionSeg.ofTalk (pcfgs (F := F)) adm (pdats m) () defs₀ 𝒱₀ L lv 0 osem osemFacts ∅ (rest (F := F)) (Finset.empty_subset _) kit rfl
    (fun c => (body_obligation m c).loose) (fun _ => 0) O₀ (fun c => (owed_first m c).trans (zero_add _).symm) (fun c => owed_last m c) (fun _ => rfl)
    (fun c w => by unfold Dat.share; split <;> rfl) (V5 m) (V6 m (outsM m)) (fun c b hb => rest_eq m c b hb)
    (Tk (SNm m) (REm m)) (fun c => semVal (barCell c) 0) (Xk (SNm m) (REm m)) (fun c => semVal (barCell c) 0)
    (open_all (SNm m) (REm m)) (hin0 m) (hout0 m) (fun c => by iintro H; imodintro; iexact H) (fun _ => 0)
    ⟨fun c w s => by rw [L_tc]; exact Finset.mem_singleton_self _, fun c w s => (stage_lv c w s).le, fun c t g i h => owed_pos m c t g i h⟩
    (fun _ => iprop(emp)) (fun _ _ => rfl) (fun c w => arr_in m c w)

/-! ## Before and after it -/

/-- Beside the buffers, at launch and in the end. -/
def Eb : Fin 2 → Dev nD → sProp 𝕄
  | 0 => fun c => iprop(Tk (SNm m) (REm m) c ∗ owesE c (O₀ c) ∗ ∃ r, prngReg c r)
  | 1 => fun c => iprop(semVal (barCell c) 0 ∗ owesE c 0)

theorem arrs_sub : arrs (F := F) ⊆ Pipeline.ucRefs τ sig := Pipeline.arrRefs_sub_ucRefs _ winFacts0.arr_unscoped

theorem pre0 (c : Dev nD) : iprop(StableHlo.held (c : Thread nD τ) (Pipeline.ucRefs τ sig) (V5 m c) ∗ Eb m 0 c) ⊢ (reg0 m).pre c := by
  show _ ⊢ iprop(StableHlo.held (c.tc : Thread nD τ) (arrs (F := F)) (V5 m c) ∗ (∃ r, prngReg c r)
    ∗ (StableHlo.held (c.tc : Thread nD τ) (rest (F := F)) (V5 m c) ∗ emp) ∗ Tk (SNm m) (REm m) c ∗ ∃ Wd, owes (c : Thread nD τ) (0 + O₀ c) Wd)
  rw [StableHlo.held_sub_split (c.tc : Thread nD τ) (arrs_sub (F := F)) (V5 m c), zero_add]
  unfold Eb owesE
  iintro ⟨⟨Ha, Hr⟩, HT, HO, Hp⟩
  isplitl [Ha]; · iexact Ha
  isplitl [Hp]; · iexact Hp
  isplitl [Hr]
  · isplitl [Hr]; · iexact Hr
    iempintro
  isplitl [HT] <;> iassumption

theorem post0 (c : Dev nD) : (reg0 m).post c ⊢ iprop(StableHlo.held (c : Thread nD τ) (Pipeline.ucRefs τ sig) (V6 m (outsM m) c) ∗ Eb m 1 c) := by
  show iprop(StableHlo.held (c.tc : Thread nD τ) (arrs (F := F)) (V6 m (outsM m) c) ∗ (∃ r, prngReg c r)
    ∗ (StableHlo.held (c.tc : Thread nD τ) (rest (F := F)) (V6 m (outsM m) c) ∗ emp) ∗ semVal (barCell c) 0 ∗ ∃ Wd, owes (c : Thread nD τ) (0 : CellTallies nD τ sig Unit) Wd) ⊢ _
  rw [StableHlo.held_sub_split (c.tc : Thread nD τ) (arrs_sub (F := F)) (V6 m (outsM m) c)]
  unfold Eb owesE
  iintro ⟨Ha, -, ⟨Hr, -⟩, HT, HO⟩
  isplitl [Ha Hr]
  · isplitl [Ha] <;> iassumption
  isplitl [HT] <;> iassumption

/-! ## The launch -/

/-- The launch element, whole on device 0. -/
def Gd (c : Dev nD) : sProp 𝕄 := if c = 0 then BI.own (ER (launchOf barCells dmaCells toks)) else iprop(emp)
theorem Gd_all : bigSep Finset.univ (Gd (F := F)) = BI.own (ER (launchOf barCells dmaCells toks)) := by
  rw [bigSep_univ_at _ (0 : Dev nD), bigSep_congr (s := Finset.univ.erase (0 : Dev nD)) (Ψ := fun _ => (BI.emp : sProp 𝕄))
    fun c hc => by unfold Gd; rw [if_neg (Finset.ne_of_mem_erase hc)]; rfl, BI.bigSep_emp_const]
  unfold Gd; rw [if_pos rfl]
  exact BI.equiv_iff.mp sep_emp

theorem unscoped_eq (sm : SemLoc sig) (h : sm.isScoped .tc = false) : sm = .reg barS := by
  cases sm with
  | dma s => rw [all_scoped s] at h; exact absurd h (by decide)
  | reg s => revert s; decide

theorem unscopedSems_eq (c : Dev nD) : (unscopedSems0 c : sProp 𝕄) = semVal (barCell c) 0 := by
  have h : (Finset.univ.filter fun sm : SemLoc sig => ¬ sm.isScoped .tc) = {SemLoc.reg barS} := Finset.ext fun sm => by
    rw [Finset.mem_filter, Finset.mem_singleton]
    constructor
    · rintro ⟨-, h⟩; exact unscoped_eq sm (by simpa using h)
    · rintro rfl; exact ⟨Finset.mem_univ _, by decide⟩
  unfold unscopedSems0
  rw [h, BI.bigSep_singleton]

theorem launchAll : iprop((bigSep Finset.univ fun c : Dev nD => iprop(unscopedSems0 c ∗ owes (c : Thread nD τ) (O₀ c) ∅ ∗ Pipeline.launchCred O₀ c ∗ prngReg c (ρ c) ∗ Gd c)) ∗ levAts L lv)
    ⊢ (|={Set.univ}=> bigSep Finset.univ (Eb m 0) : sProp 𝕄) := by
  have hcore (c : Dev nD) : iprop(unscopedSems0 c ∗ owes (c : Thread nD τ) (O₀ c) ∅ ∗ Pipeline.launchCred O₀ c ∗ prngReg c (ρ c) ∗ Gd c)
      ⊢ (iprop(semVal (barCell c) 0 ∗ Gd c ∗ (Cr c ∗ owesE c (O₀ c) ∗ ∃ r, prngReg c r)) : sProp 𝕄) := by
    rw [unscopedSems_eq]
    unfold owesE
    iintro ⟨Hv, HO, Hc, Hp, HG⟩
    isplitl [Hv]; · iexact Hv
    isplitl [HG]; · iexact HG
    isplitl [Hc]; · iapply (creds c); iexact Hc
    isplitl [HO]; · iexists ∅; iexact HO
    iexists (ρ c); iexact Hp
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ Gd c))
      ⊢ (bigSep Finset.univ fun c : Dev nD => iprop(semVal (barCell c) 0 ∗ Gd c ∗ (Cr c ∗ owesE c (O₀ c) ∗ ∃ r, prngReg c r)) : sProp 𝕄) from bigSep_mono fun c _ => hcore c) $$ H
  ihave H'' := (Entails.of_eq (by rw [bsep, bsep, Gd_all])) $$ H'
  icases H'' with ⟨Hv, HG, HR⟩
  imod (launch_all (SNm m) (REm m)) $$ [Hv HG] with HL
  · isplitl [Hv] <;> iassumption
  imodintro
  iapply (show iprop((bigSep Finset.univ fun c => iprop(∃ K, Recs (SNm m) (REm m) K ∗ Lin c)) ∗ bigSep Finset.univ fun c : Dev nD => iprop(Cr c ∗ owesE c (O₀ c) ∗ ∃ r, prngReg c r))
      ⊢ bigSep Finset.univ (Eb m 0) from by
    rw [← bsep]
    refine bigSep_mono fun c _ => ?_
    show _ ⊢ iprop(((∃ K, Recs (SNm m) (REm m) K ∗ Lin c) ∗ Cr c) ∗ owesE c (O₀ c) ∗ ∃ r, prngReg c r)
    iintro ⟨HL, HC, HO, Hp⟩
    isplitl [HL HC]
    · isplitl [HL] <;> iassumption
    isplitl [HO] <;> iassumption)
  isplitl [HL] <;> iassumption

theorem launch_split : (bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ Gd c))
    ⊢ (iprop((bigSep Finset.univ fun c : Dev nD => StableHlo.held (c : Thread nD τ) (Pipeline.ucRefs τ sig) (V0 m c))
        ∗ bigSep Finset.univ fun c : Dev nD => iprop(unscopedSems0 c ∗ owes (c : Thread nD τ) (O₀ c) ∅ ∗ Pipeline.launchCred O₀ c ∗ prngReg c (ρ c) ∗ Gd c))
        : sProp 𝕄) := by
  rw [← bsep]
  exact bigSep_mono fun c _ => by
    rw [← Pipeline.unscopedBufs_held (Ix := Unit) (Name := ℕ) (U := UU nD τ) (Lvl := ℕ) c (V0 m c)]; exact BI.Entails.refl _

theorem init : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ Gd c)) ∗ levAts L lv)
    ⊢ (|={Set.univ}=> bigSep Finset.univ (fun c : Dev nD => iprop(StableHlo.held (c : Thread nD τ) (Pipeline.ucRefs τ sig) (V0 m c) ∗ Eb m 0 c)) : sProp 𝕄) := by
  iintro ⟨H, Hla⟩
  ihave H' := (launch_split m ρ) $$ H
  icases H' with ⟨Hh, Hr⟩
  imod (launchAll m ρ) $$ [Hr Hla] with HE
  · isplitl [Hr] <;> iassumption
  imodintro
  rw [bsep]
  isplitl [Hh] <;> iassumption

/-! ## The run -/

/-- The arguments as launched and the result. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_v59) = OUTm m

theorem fin0 (c : Dev nD) (s' : Phys nD τ sig (Elt F)) :
    iprop((StableHlo.held (c : Thread nD τ) (Pipeline.ucRefs τ sig) (V6 m (outsM m) c) ∗ semVal (barCell c) 0) ∗ SI s')
      ⊢ (|={Set.univ}=> iprop(⌜Ends m c s'.mem ∧ s'.mem.sem (barCell c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V6 m (outsM m) c) s') $$ [Hh HSI]
  · isplitl [Hh] <;> iassumption
  icases Hr with ⟨%h, HSI⟩
  imodintro
  isplitr
  · ipureintro
    have hr (r : Ref sig .tc) (hu : (Proc.devRef .tc r : DevRef τ sig) ∈ Pipeline.ucRefs τ sig) := h (Proc.devRef .tc r) hu
    exact ⟨⟨(hr main_arg0 (Finset.mem_filter.mpr ⟨StableHlo.devRef_mem_tcRefs main_arg0, by decide⟩)).trans (V6_main_arg0 m (outsM m) c),
      (hr main_arg1 (Finset.mem_filter.mpr ⟨StableHlo.devRef_mem_tcRefs main_arg1, by decide⟩)).trans (V6_main_arg1 m (outsM m) c),
      (hr main_arg2 (Finset.mem_filter.mpr ⟨StableHlo.devRef_mem_tcRefs main_arg2, by decide⟩)).trans (V6_main_arg2 m (outsM m) c),
      (hr main_arg3 (Finset.mem_filter.mpr ⟨StableHlo.devRef_mem_tcRefs main_arg3, by decide⟩)).trans (V6_main_arg3 m (outsM m) c),
      (hr main_v59 (Finset.mem_filter.mpr ⟨StableHlo.devRef_mem_tcRefs main_v59, by decide⟩)).trans (V6_out m c)⟩, by simpa using hb⟩
  · iexact HSI

set_option backward.isDefEq.respectTransparency.types false in
/-- Every weakly fair run of `main` ends, with the arguments as launched, the result on every device and every counter at zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m 𝒱₀ L lv (Eb m) () (pdats m) (reg0 m))
    (fun c Q => by
      rewrite [main_chain c, Seg.run_eq_chain,
        show (segs m 𝒱₀ L lv (Eb m) () (pdats m) (reg0 m) c).map Seg.prog = [StableHlo.seq hostOps0, StableHlo.seq hostOps0_1, StableHlo.seq hostOps0_2,
          StableHlo.seq hostOps0_3, StableHlo.seq (hostOps0_4 c), Prog.lift (.customCall (Pipeline.entry 0) ())] from rfl]
      dsimp (config := { failIfUnchanged := false }) only
      exact .rfl)
    (fun c => by simp only [segs, Seg.pipes_host, Seg.pipes_region, Seg.pipes_nil]; decide) O₀ L_of_ne Gd
    (initOf (Pipeline.cells cfgs cellOf_inj) (Pipeline.launchToks cfgs cellOf_inj), launchOf barCells dmaCells toks)
    (by
      iintro Hu
      ihave H := (ownU_pair _ _) $$ Hu
      icases H with ⟨HP, HX⟩
      imodintro
      isplitl [HP]; · iexact HP
      rw [Gd_all]; iexact HX)
    (T₀ := fun c => iprop(StableHlo.held (c : Thread nD τ) (Pipeline.ucRefs τ sig) (V0 m c) ∗ Eb m 0 c))
    (Tₙ := fun c => iprop(StableHlo.held (c : Thread nD τ) (Pipeline.ucRefs τ sig) (V6 m (outsM m) c) ∗ semVal (barCell c) 0))
    (hch := fun c => ⟨.rfl, .rfl, .rfl, .rfl, .rfl, pre0 m c, (post0 m c).trans (by
      unfold Eb owesE
      iintro ⟨H1, H2, H3⟩
      isplitl [H1 H2]
      · isplitl [H1] <;> iassumption
      iexact H3)⟩)
    (hinit := init m ρ)
    (QY := fun c s => Ends m c s ∧ s.sem (barCell c) = 0)
    (hfin := fun c s' => fin0 m c s')
    (hQ := fun s h hs => ⟨fun c => (h c).1, sem_eq_zero hs fun c sm hsm => by
      obtain rfl := unscoped_eq sm hsm
      exact (h c).2⟩)

end Cert.Proof
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

/-! # The frames -/

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)

variable {F : FTy → Type} [FloatOps F]

local notation "𝕄" => MT nD τ sig Unit (Elt F) ℕ (UU nD τ) ℕ

/-! The two programs have the same text, so the run is written once and carried over. -/

theorem body_same : Cert.Kernel.cc0__moe_allreduce_body (F := Bits) = Cert.KernelIdeal.cc0__moe_allreduce_body (F := Bits) := rfl

attribute [local irreducible] Cert.Kernel.cc0__moe_allreduce_body Cert.KernelIdeal.cc0__moe_allreduce_body

theorem table_same : Cert.Kernel.defs₀ (F := Bits) = Cert.KernelIdeal.defs₀ (F := Bits) := by
  unfold Cert.Kernel.defs₀ Cert.KernelIdeal.defs₀
  refine congrArg _ (funext fun l => ?_)
  match l with
  | 0 => funext ⟨t, s⟩
         dsimp only
         rw [body_same]

set_option backward.isDefEq.respectTransparency.types false in
theorem defs_same : Cert.Kernel.defs (F := Bits) = Cert.KernelIdeal.defs (F := Bits) := by
  unfold Cert.Kernel.defs Cert.KernelIdeal.defs
  exact congrArg (Pipeline.defs (Cert.Kernel.pcfgs (F := Bits))) table_same

set_option maxHeartbeats 2000000

set_option backward.isDefEq.respectTransparency.types false in
theorem tail_same : Cert.Kernel.main_part1 (F := Bits) = Cert.KernelIdeal.main_part1 (F := Bits) := by
  unfold Cert.Kernel.main_part1 Cert.KernelIdeal.main_part1
  rfl

set_option backward.isDefEq.respectTransparency.types false in
theorem head_same : Cert.Kernel.main_part0 (F := Bits) = Cert.KernelIdeal.main_part0 (F := Bits) := by
  unfold Cert.Kernel.main_part0 Cert.KernelIdeal.main_part0
  rfl

set_option backward.isDefEq.respectTransparency.types false in
theorem main_same : Cert.Kernel.main (F := Bits) = Cert.KernelIdeal.main (F := Bits) :=
  congrArg₂ (fun (p q : Dev Cert.Kernel.nD → Prog (TpuEff Cert.Kernel.nD Cert.Kernel.τ Cert.Kernel.sig (Elt Bits) (Pipeline.Sig Cert.Kernel.Λ₀ (Fin 1) fun p => (Cert.Kernel.pcfgs (F := Bits) p).Adm) .tc) PUnit) => fun d : Dev Cert.Kernel.nD => (do p d; q d)) head_same tail_same

attribute [local irreducible] Cert.Kernel.defs Cert.KernelIdeal.defs Cert.Kernel.main Cert.KernelIdeal.main

set_option backward.isDefEq.respectTransparency.types false in
theorem run_same (s : MemSt Cert.Kernel.nD Cert.Kernel.τ Cert.Kernel.sig (Elt Bits)) :
    θ_run (Cert.Kernel.defs (F := Bits)) (onTc (τ := Cert.Kernel.τ) (Cert.Kernel.main (F := Bits))) s
      = θ_run (Cert.KernelIdeal.defs (F := Bits)) (onTc (τ := Cert.KernelIdeal.τ) (Cert.KernelIdeal.main (F := Bits))) s :=
  congrArg₂ (fun (D : Defs Cert.Kernel.nD Cert.Kernel.τ Cert.Kernel.sig (Elt Bits) (Pipeline.Sig Cert.Kernel.Λ₀ (Fin 1) fun p => (Cert.Kernel.pcfgs (F := Bits) p).Adm)) M => θ_run D (onTc (τ := Cert.Kernel.τ) M) s) defs_same main_same

theorem frame_kernel : Cert.quiescent_Kernel := fun m ρ _ => by
  rw [run_same]
  exact (θ_run Cert.KernelIdeal.defs _ _).mono
    (fun _ h => ⟨fun c => ⟨(h.1 c).1, (h.1 c).2.1, (h.1 c).2.2.1, (h.1 c).2.2.2.1⟩, h.2⟩) (run_main (F := Bits) m ρ)

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_ideal_pre [Cert.Pre_routed_finite_KernelIdeal.Facts] : Cert.quiescent_KernelIdeal_pre_routed_finite_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

theorem frame_reference_pre [Cert.Pre_routed_finite_ReferenceIdeal.Facts] : Cert.quiescent_ReferenceIdeal_pre_routed_finite_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
-- ==== Proof.KernelValue.lean ====
module

public import proofs.«01_k».proof.Proof.Launch
public import Idealize.ShloMosaic.Lib.Pointwise

/-! # The kernel's result over the reals -/
@[expose] public section

set_option maxRecDepth 16384

noncomputable section

namespace Cert.Proof

open Cert.KernelIdeal Cert.KernelIdeal.Gen

open Idealize.ShloMosaic Idealize.SL.Sem
open Idealize.ShloMosaic.TcCoe
open scoped BigOperators

/-! ## What the loads give -/

theorem ldX_at (xs : S2048x512.Idx → Elt Ideal .bf16) (t : Fin 4) (r : Fin 512) (k : Fin 512) :
    ldX (F := Ideal) xs t (ix2 r k) = xs (ix2 ⟨512 * t.val + r.val, by omega⟩ k) := by
  refine congrArg xs ?_
  funext a
  apply Fin.ext
  match a with
  | 0 => show 512 * t.val + 1 * r.val = 512 * t.val + r.val; omega
  | 1 => show 0 + 1 * k.val = k.val; omega

theorem ldG_at (gs : S2048x4.Idx → Elt Ideal .bf16) (t : Fin 4) (r : Fin 512) (e : Fin 4) :
    ldG (F := Ideal) gs t (ix2 r e) = gs (ix2 ⟨512 * t.val + r.val, by omega⟩ e) := by
  refine congrArg gs ?_
  funext a
  apply Fin.ext
  match a with
  | 0 => show 512 * t.val + 1 * r.val = 512 * t.val + r.val; omega
  | 1 => show 0 + 1 * e.val = e.val; omega

theorem ldW_at (ws : S4x512x1024.Idx → Elt Ideal .bf16) (e : Fin 4) (z : Fin 1) (k : Fin 512) (f : Fin 1024) :
    ldW (F := Ideal) ws e (ix3 z k f) = ws (ix3 e k f) := by
  refine congrArg ws ?_
  funext a
  apply Fin.ext
  match a with
  | 0 => show e.val + 1 * z.val = e.val; omega
  | 1 => show 0 + 1 * k.val = k.val; omega
  | 2 => show 0 + 1 * f.val = f.val; omega

theorem ownLd_at (SN : Dev nD → (cc0_scratch2 : Ref sig .tc).ty.Contents (Elt Ideal)) (c : Dev nD) (a : Fin 64) (f : Fin 1024) :
    ownLd (F := Ideal) SN c (ix2 a f) = SN c (ix2 (n0 := 2048) (n1 := 1024) ⟨64 * c.val + a.val, by have : c.val < 32 := c.isLt; omega⟩ f) := by
  refine congrArg (SN c) ?_
  funext b
  apply Fin.ext
  match b with
  | 0 => show 64 * c.val + 1 * a.val = 64 * c.val + a.val; omega
  | 1 => show 0 + 1 * f.val = f.val; omega

theorem rsLd_at (SN : Dev nD → (cc0_scratch2 : Ref sig .tc).ty.Contents (Elt Ideal)) (c : Dev nD) (i : ℕ) (z : Fin 1) (a : Fin 64) (f : Fin 1024) :
    rsLd (F := Ideal) SN c i (ix3 z a f) = SN (peer c i) (ix2 (n0 := 2048) (n1 := 1024) ⟨64 * c.val + a.val, by have : c.val < 32 := c.isLt; omega⟩ f) := by
  refine congrArg₂ SN (y' := (ix2 (n0 := 2048) (n1 := 1024) ⟨64 * c.val + a.val, by have : c.val < 32 := c.isLt; omega⟩ f : S2048x1024.Idx)) (Fin.ext ?_) ?_
  · show (peer c i).val + 1 * z.val = (peer c i).val; omega
  · funext b
    apply Fin.ext
    match b with
    | 0 => show 64 * c.val + (0 + 1 * a.val) = 64 * c.val + a.val; omega
    | 1 => show 0 + 1 * f.val = f.val; omega

/-- Row `r`, column `f` of one device's part: over its four experts, the row times the expert's gate times the
    expert's column. -/
def gated (x : S2048x512.Idx → EReal) (g : S2048x4.Idx → EReal) (w : S4x512x1024.Idx → EReal) (r : Fin 2048) (f : Fin 1024) : EReal :=
  ∑ e : Fin 4, ∑ k : Fin 512, x (ix2 r k) * g (ix2 r e) * w (ix3 e k f)

/-! ## One block, and one device's reduced rows -/

/-- Block `t` of the rows a device sends, at a place: over its four experts, the gated products summed. -/
theorem blkVal_at (xs : S2048x512.Idx → Elt Ideal .bf16) (gs : S2048x4.Idx → Elt Ideal .bf16) (ws : S4x512x1024.Idx → Elt Ideal .bf16)
    (t : Fin 4) (r : Fin 512) (f : Fin 1024) :
    blkVal (F := Ideal) xs gs ws t (ix2 r f)
      = ∑ e : Fin 4, ∑ k : Fin 512, (xs (ix2 ⟨512 * t.val + r.val, by omega⟩ k) * gs (ix2 ⟨512 * t.val + r.val, by omega⟩ e) * ws (ix3 e k f) : EReal) := by
  unfold blkVal
  unfold_payloads
  rw [Fin.sum_univ_four]
  pointwise
  simp only [ldX_at, ldG_at, ldW_at]

/-- The sum of a device's own rows and of the 31 blocks it received. -/
theorem redVal_at (own : S64x1024.Idx → Elt Ideal .bf16) (l : ℕ → S1x64x1024.Idx → Elt Ideal .bf16) (a : Fin 64) (f : Fin 1024) :
    redVal (F := Ideal) own l (ix2 a f) = (own (ix2 a f) + ∑ i ∈ Finset.range 31, l i (ix3 0 a f) : EReal) := by
  unfold redVal red3 red2 red1
  unfold_payloads
  simp only [Finset.sum_range_succ, Finset.sum_range_zero]
  pointwise
  ac_rfl

/-- A device and the 31 others are all the devices. -/
theorem sum_peers (g : Dev nD → EReal) (c : Dev nD) : g c + ∑ i ∈ Finset.range 31, g (peer c i) = ∑ d : Dev nD, g d := by
  have h : ∑ d : Fin 32, g d = ∑ i : Fin 32, g (⟨(c.val + i.val) % 32, Nat.mod_lt _ (by decide)⟩ : Fin 32) := by
    refine (Fintype.sum_equiv (Equiv.addLeft (show Fin 32 from c)) _ _ fun i => ?_).symm
    exact congrArg g (Fin.ext rfl)
  refine Eq.trans ?_ h.symm
  rw [Fin.sum_univ_succ, Finset.sum_range]
  congr 1
  exact congrArg g (Fin.ext (by have : c.val < 32 := c.isLt; show c.val = (c.val + 0) % 32; omega))

/-! ## The kernel's result -/

variable (m : (ℓ : Loc nD τ sig) → Buf (Elt Ideal) ℓ)

theorem SNm_value (d : Dev nD) (r : Fin 2048) (f : Fin 1024) :
    SNm (F := Ideal) m d (ix2 (n0 := 2048) (n1 := 1024) r f) = gated (xIn m d) (gIn m d) (wIn m d) r f := by
  have h := blkVal_at (xIn m d) (gIn m d) (wIn m d) ⟨r.val / 512, by omega⟩ ⟨r.val % 512, Nat.mod_lt _ (by decide)⟩ f
  have hr : (⟨512 * (r.val / 512) + r.val % 512, by omega⟩ : Fin 2048) = r := Fin.ext (Nat.div_add_mod r.val 512)
  simp only [hr] at h
  refine Eq.trans ?_ h
  refine congrArg (blkVal (F := Ideal) (xIn m d) (gIn m d) (wIn m d) ⟨r.val / 512, _⟩) ?_
  exact (ix2_eq_valueIdx _ _).symm

/-- The result at a place, on every device: the sum over the devices of their parts. -/
theorem OUTm_value (r : Fin 2048) (f : Fin 1024) :
    OUTm (F := Ideal) m (ix2 (n0 := 2048) (n1 := 1024) r f) = ∑ d : Dev nD, gated (xIn m d) (gIn m d) (wIn m d) r f := by
  have hq : r.val / 64 < 32 := by omega
  have h := redVal_at (ownLd (SNm (F := Ideal) m) ⟨r.val / 64, hq⟩) (rsLd (SNm (F := Ideal) m) ⟨r.val / 64, hq⟩) ⟨r.val % 64, Nat.mod_lt _ (by decide)⟩ f
  have hr : (⟨64 * (r.val / 64) + r.val % 64, by omega⟩ : Fin 2048) = r := Fin.ext (Nat.div_add_mod r.val 64)
  rw [ownLd_at] at h
  simp only [rsLd_at, hr, SNm_value] at h
  refine Eq.trans ?_ (h.trans (sum_peers (fun d => gated (xIn m d) (gIn m d) (wIn m d) r f) ⟨r.val / 64, hq⟩))
  refine congrArg (REm (F := Ideal) m ⟨r.val / 64, hq⟩) ?_
  exact (ix2_eq_valueIdx _ _).symm

end Cert.Proof
-- ==== Proof.GateValue.lean ====
module

public import proofs.«01_k».proof.Proof.Region
public import Idealize.ShloMosaic.Lib.Pointwise
public import Idealize.ShloMosaic.Lib.StableHlo.ReadAt

/-! # The gates over the reals -/
@[expose] public section

set_option maxRecDepth 16384

noncomputable section

namespace Cert.Proof

open Cert.KernelIdeal Cert.KernelIdeal.Gen

open Idealize.ShloMosaic Idealize.SL.Sem
open Idealize.ShloMosaic.TcCoe
open scoped BigOperators

/-! ## The gates the host forms -/

/-- The score of token `r` for expert `v`. -/
def score (x : S2048x512.Idx → EReal) (W : S512x128.Idx → EReal) (r : Fin 2048) (v : Fin 128) : EReal :=
  ∑ k : Fin 512, x (ix2 r k) * W (ix2 k v)

/-- The score that the host selects for token `r`'s expert `j`: a sum in which only the named expert's score stays. -/
def chosen (x : S2048x512.Idx → EReal) (W : S512x128.Idx → EReal) (i : S2048x2.Idx → BitVec 32) (r : Fin 2048) (j : Fin 2) : EReal :=
  ∑ v : Fin 128, Scalar.select (IntOp.cmpi .eq (i (ix2 r j)) (BitVec.ofNat 32 v.val)) (score x W r v) 0

/-- The part of `a` among `a` and `b`, as the host forms it from their exponentials under the larger one. -/
def part (a b c : EReal) : EReal :=
  Ideal.exp (c - max a b) * Ideal.div 1 (Ideal.exp (a - max a b) + Ideal.exp (b - max a b))

/-- The number of device `d`'s expert `e`, as the host computes it. -/
def place (d : Dev nD) (e : Fin 4) : BitVec 32 :=
  IntOp.addi (IntOp.muli (id (Host.remui (Host.divui (constantI S_ 32 d.word) (constantI S_ 32 1#32)) (constantI S_ 32 32#32)) ix0) 4#32)
    (BitVec.ofNat 32 e.val)

/-- The gate of token `r` for device `d`'s expert `e`. -/
def gate (x : S2048x512.Idx → EReal) (W : S512x128.Idx → EReal) (i : S2048x2.Idx → BitVec 32) (d : Dev nD) (r : Fin 2048) (e : Fin 4) : EReal :=
  part (chosen x W i r 0) (chosen x W i r 1) (chosen x W i r 0)
      * (FloatOps.uitofp (F := Ideal) .bf16 (IntOp.cmpi .eq (i (ix2 r 0)) (place d e)) : EReal)
    + part (chosen x W i r 0) (chosen x W i r 1) (chosen x W i r 1)
      * (FloatOps.uitofp (F := Ideal) .bf16 (IntOp.cmpi .eq (i (ix2 r 1)) (place d e)) : EReal)

variable (m : (ℓ : Loc nD τ sig) → Buf (Elt Ideal) ℓ)

/-- What the kernel receives as gates. -/
theorem gIn_at (d : Dev nD) (r : Fin 2048) (e : Fin 4) :
    gIn m d (ix2 (n0 := 2048) (n1 := 4) r e)
      = gate (m ((d.tc : Thread nD τ).loc main_arg0)) (m ((d.tc : Thread nD τ).loc main_arg1)) (m ((d.tc : Thread nD τ).loc main_arg2)) d r e := by
  unfold gIn V5 V4 V3 V2 V1
  after_reads_at
  rfl

theorem xIn_eq (d : Dev nD) : xIn m d = m ((d.tc : Thread nD τ).loc main_arg0) := by
  unfold xIn V5 V4 V3 V2 V1
  after_reads_simp
theorem wIn_eq (d : Dev nD) : wIn m d = m ((d.tc : Thread nD τ).loc main_arg3) := by
  unfold wIn V5 V4 V3 V2 V1
  after_reads_simp

theorem place_eq (d : Dev nD) (e : Fin 4) : place d e = BitVec.ofNat 32 (4 * d.val + e.val) := by
  revert d e; decide

end Cert.Proof
-- ==== Proof.RefValue.lean ====
module

public import proofs.«01_k».proof.Proof.Gen.ReferenceIdeal.Run
public import Idealize.ShloMosaic.Lib.Pointwise
public import Idealize.ShloMosaic.Lib.ValueIdxCore
public import Idealize.ShloMosaic.Lib.Tactic.CleanTypes

/-! # The reference's result over the reals -/
@[expose] public section

set_option maxRecDepth 16384

noncomputable section

namespace Cert.Proof

open Cert.ReferenceIdeal Cert.ReferenceIdeal.Gen Cert.ReferenceIdeal.Value

open Idealize.ShloMosaic Idealize.SL.Sem
open Idealize.ShloMosaic.TcCoe
open scoped BigOperators

/-! ## The two lookups by the experts' numbers -/

/-- The lookup in a token's probabilities, and the one in its products. -/
abbrev pickP := gather_S2048x128_S2048x2x1_S2048x2_n_1_0_0_1_2_11
abbrev pickY := gather_S2048x128x1024_S2048x2x1_S2048x2x1024_2_1_0_0_1_2_111024

/-- Token `r`'s lookup `j` reads the place its word names, cut to the axis. -/
theorem gatherP_at {α : Type} (x : S2048x128.Idx → α) (idx : IVec S2048x2x1 32) (r : Fin 2048) (j : Fin 2) :
    Host.gather pickP x idx (ix2 r j)
      = x (ix2 r ⟨min (idx (ix3 r j 0)).toInt.toNat 127, by omega⟩) := by
  unfold Host.gather
  congr 1
  funext a
  refine Fin.ext ?_
  match a with
  | 0 =>
    show pickP.start (ix2 r j) idx 0 + pickP.batchCoord (ix2 r j) 0
      + pickP.offCoord (ix2 r j) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (by decide)]
    rfl
  | 1 =>
    show pickP.start (ix2 r j) idx 1 + pickP.batchCoord (ix2 r j) 1
      + pickP.offCoord (ix2 r j) 1 = min (idx (ix3 r j 0)).toInt.toNat 127
    rw [GatherDims.batchCoord_eq_zero _ _ _ (by decide), GatherDims.offCoord_eq_zero _ _ _ (by decide)]
    simp only [Nat.add_zero]
    unfold GatherDims.start
    rw [dif_pos (show (1 : Fin 2) ∈ pickP.startIndexMap from List.mem_singleton.mpr rfl)]
    have hsi : pickP.siIdx (ix2 r j) ⟨List.idxOf (1 : Fin 2) pickP.startIndexMap,
        List.idxOf_lt_length_iff.2 (List.mem_singleton.mpr rfl)⟩ = ix3 r j 0 := by
      funext b; refine Fin.ext ?_
      match b with
      | 0 => rfl
      | 1 => rfl
      | 2 => rfl
    rw [hsi]
    rfl

/-- The same in the products: the whole row of the expert that the word names. -/
theorem gatherY_at {α : Type} (x : S2048x128x1024.Idx → α) (idx : IVec S2048x2x1 32) (r : Fin 2048) (j : Fin 2) (f : Fin 1024) :
    Host.gather pickY x idx (ix3 r j f)
      = x (ix3 r ⟨min (idx (ix3 r j 0)).toInt.toNat 127, by omega⟩ f) := by
  unfold Host.gather
  congr 1
  funext a
  refine Fin.ext ?_
  match a with
  | 0 =>
    show pickY.start (ix3 r j f) idx 0 + pickY.batchCoord (ix3 r j f) 0
      + pickY.offCoord (ix3 r j f) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (by decide)]
    rfl
  | 1 =>
    show pickY.start (ix3 r j f) idx 1 + pickY.batchCoord (ix3 r j f) 1
      + pickY.offCoord (ix3 r j f) 1 = min (idx (ix3 r j 0)).toInt.toNat 127
    rw [GatherDims.batchCoord_eq_zero _ _ _ (by decide), GatherDims.offCoord_eq_zero _ _ _ (by decide)]
    simp only [Nat.add_zero]
    unfold GatherDims.start
    rw [dif_pos (show (1 : Fin 3) ∈ pickY.startIndexMap from List.mem_singleton.mpr rfl)]
    have hsi : pickY.siIdx (ix3 r j f) ⟨List.idxOf (1 : Fin 3) pickY.startIndexMap,
        List.idxOf_lt_length_iff.2 (List.mem_singleton.mpr rfl)⟩ = ix3 r j 0 := by
      funext b; refine Fin.ext ?_
      match b with
      | 0 => rfl
      | 1 => rfl
      | 2 => rfl
    rw [hsi]
    rfl
  | 2 =>
    show pickY.start (ix3 r j f) idx 2 + pickY.batchCoord (ix3 r j f) 2
      + pickY.offCoord (ix3 r j f) 2 = f.val
    rw [GatherDims.batchCoord_eq_zero _ _ _ (by decide)]
    unfold GatherDims.start GatherDims.offCoord
    rw [dif_neg (by decide), dif_pos (by decide)]
    simp only [Nat.zero_add, Nat.add_zero]
    rfl

/-! ## The reference at a place -/

/-- The score of token `r` for expert `v`, as the reference has it. -/
def rscore (x : S2048x512.Idx → EReal) (W : S512x128.Idx → EReal) (r : Fin 2048) (v : Fin 128) : EReal :=
  ∑ k : Fin 512, x (ix2 r k) * W (ix2 k v)

/-- The largest score of token `r`, and the probability of expert `v`. -/
def top (x : S2048x512.Idx → EReal) (W : S512x128.Idx → EReal) (r : Fin 2048) : EReal :=
  Finset.fold max (Ideal.ofBits .f32 0xFF800000#32) (fun v : Fin 128 => rscore x W r v) Finset.univ
def prob (x : S2048x512.Idx → EReal) (W : S512x128.Idx → EReal) (r : Fin 2048) (v : Fin 128) : EReal :=
  Ideal.div (Ideal.exp (rscore x W r v - top x W r)) (∑ u : Fin 128, Ideal.exp (rscore x W r u - top x W r))

/-- The expert that token `r`'s word `j` names, as the lookup reads the word. -/
def named (i : S2048x2.Idx → BitVec 32) (r : Fin 2048) (j : Fin 2) : Fin 128 :=
  ⟨min (Scalar.select (IntOp.cmpi .slt (i (ix2 r j)) 0#32) (IntOp.addi (i (ix2 r j)) 128#32) (i (ix2 r j))).toInt.toNat 127, by omega⟩

/-- The reference's result: the two experts' products weighted by their part of the two probabilities. -/
theorem ref_at (m : (ℓ : Loc nD τ sig) → Buf (Elt Ideal) ℓ) (x : S2048x512.Idx → EReal) (W : S512x128.Idx → EReal)
    (i : S2048x2.Idx → BitVec 32) (w : S128x512x1024.Idx → EReal)
    (hx : m (((0 : Dev nD).tc : Thread nD τ).loc main_arg0) = x) (hW : m (((0 : Dev nD).tc : Thread nD τ).loc main_arg1) = W)
    (hi : m (((0 : Dev nD).tc : Thread nD τ).loc main_arg2) = i) (hw : m (((0 : Dev nD).tc : Thread nD τ).loc main_arg3) = w)
    (r : Fin 2048) (f : Fin 1024) :
    res_main_v25 (F := Ideal) m 0 (ix2 (n0 := 2048) (n1 := 1024) r f)
      = ∑ j : Fin 2, Ideal.div (prob x W r (named i r j)) (∑ l : Fin 2, prob x W r (named i r l))
          * ∑ k : Fin 512, x (ix2 r k) * w (ix3 (named i r j) k f) := by
  unfold res_main_v25
  clean_types
  pointwise [gatherP_at, gatherY_at]
  subst hx hW hi hw
  rfl

end Cert.Proof
-- ==== Proof.Reals.lean ====
module

public import Idealize.ShloMosaic.Lib.Pointwise
public import Idealize.ShloMosaic.Lib.Tactic.WordOmega
public import Idealize.ShloMosaic.Lib.StableHlo.ReadAt

/-! # Sums, shares and words -/
@[expose] public section

set_option maxRecDepth 16384

noncomputable section

namespace Cert.Proof

open Idealize.ShloMosaic Idealize.SL.Sem
open Idealize.ShloMosaic.TcCoe
open scoped BigOperators

/-! ## Sums of extended reals -/

/-- A sum of reals is real. -/
theorem real_sum {ι : Type} (S : Finset ι) (f : ι → EReal) (h : ∀ k, ∃ a : ℝ, f k = a) : ∃ a : ℝ, ∑ k ∈ S, f k = a := by
  classical
  induction S using Finset.induction with
  | empty => exact ⟨0, by simp⟩
  | insert k S hk ih =>
    obtain ⟨a, ha⟩ := ih
    obtain ⟨b, hb⟩ := h k
    exact ⟨b + a, by rw [Finset.sum_insert hk, ha, hb, EReal.coe_add]⟩

/-- A factor that is real and not negative comes out of a sum. -/
theorem mul_sum_real {ι : Type} (S : Finset ι) (f : ι → EReal) (p : ℝ) (hp : 0 ≤ p) : ∑ k ∈ S, (p : EReal) * f k = p * ∑ k ∈ S, f k := by
  classical
  induction S using Finset.induction with
  | empty => simp
  | insert k S hk ih =>
    rw [Finset.sum_insert hk, Finset.sum_insert hk, ih, EReal.left_distrib_of_nonneg_of_ne_top (EReal.coe_nonneg.2 hp) (EReal.coe_ne_top p)]

/-- A sum in which one place has a weight and the others have none. -/
theorem sum_one_place {n : ℕ} (Y : Fin n → EReal) (v : Fin n) (p : ℝ) :
    ∑ u : Fin n, (((if v.val = u.val then p else 0 : ℝ)) : EReal) * Y u = p * Y v := by
  rw [Finset.sum_eq_single v]
  · rw [if_pos rfl]
  · intro u _ hu
    rw [if_neg (fun h => hu (Fin.ext h.symm)), EReal.coe_zero, zero_mul]
  · intro h; exact absurd (Finset.mem_univ v) h

/-- The sum over 32 groups of four places is the sum over the 128 places. -/
theorem sum_groups (H : Fin 128 → EReal) :
    ∑ d : Fin 32, ∑ e : Fin 4, H ⟨4 * d.val + e.val, by omega⟩ = ∑ v : Fin 128, H v := by
  rw [← Fintype.sum_prod_type' (f := fun (d : Fin 32) (e : Fin 4) => H ⟨4 * d.val + e.val, by omega⟩)]
  refine Fintype.sum_equiv (finProdFinEquiv (m := 32) (n := 4)) _ _ fun p => ?_
  exact congrArg H (Fin.ext (by show 4 * p.1.val + p.2.val = p.2.val + 4 * p.1.val; omega))

/-! ## The shares -/

theorem exp_coe (a : ℝ) : Ideal.exp (a : EReal) = (Real.exp a : EReal) := rfl

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem max_coe (a b : ℝ) : max (a : EReal) (b : EReal) = ((max a b : ℝ) : EReal) :=
  (EReal.coe_strictMono.monotone.map_max).symm

/-- The share that `c` takes among the exponentials of `a` and `b`. -/
def share (a b c : ℝ) : ℝ := Real.exp c / (Real.exp a + Real.exp b)

theorem share_nonneg (a b c : ℝ) : 0 ≤ share a b c := by unfold share; positivity

/-- Taking a number off all three exponents leaves the share. -/
theorem share_shift (a b c M : ℝ) : Real.exp (c - M) / (Real.exp (a - M) + Real.exp (b - M)) = share a b c := by
  unfold share
  have hM : Real.exp M ≠ 0 := (Real.exp_pos M).ne'
  rw [Real.exp_sub, Real.exp_sub, Real.exp_sub, ← add_div, div_div_div_cancel_right₀ hM]

/-- The share as the host forms it. -/
theorem part_share (a b c : ℝ) :
    Ideal.exp ((c : EReal) - max (a : EReal) b) * Ideal.div 1 (Ideal.exp ((a : EReal) - max (a : EReal) b) + Ideal.exp ((b : EReal) - max (a : EReal) b))
      = ((share a b c : ℝ) : EReal) := by
  have hp : Real.exp (a - max a b) + Real.exp (b - max a b) ≠ 0 := by positivity
  rw [max_coe, ← EReal.coe_sub, ← EReal.coe_sub, ← EReal.coe_sub, exp_coe, exp_coe, exp_coe, ← EReal.coe_add, ← EReal.coe_one, div_coe _ _ hp, ← EReal.coe_mul,
    mul_one_div, share_shift]

/-- The share out of two probabilities with one divisor. -/
theorem prob_share (a b c M Z : ℝ) (hZ : 0 < Z) :
    Ideal.div ((Real.exp (c - M) / Z : ℝ) : EReal) (((Real.exp (a - M) / Z : ℝ) : EReal) + ((Real.exp (b - M) / Z : ℝ) : EReal)) = ((share a b c : ℝ) : EReal) := by
  have hp : Real.exp (a - M) / Z + Real.exp (b - M) / Z ≠ 0 := by positivity
  rw [← EReal.coe_add, div_coe _ _ hp, ← add_div, div_div_div_cancel_right₀ hZ.ne', share_shift]

/-- The largest of real scores is real. -/
theorem fold_max_real (s : Fin 128 → EReal) (h : ∀ v, ∃ a : ℝ, s v = a) : ∃ M : ℝ, Finset.fold max (⊥ : EReal) s Finset.univ = M := by
  have h1 : Finset.fold max (⊥ : EReal) s Finset.univ ≠ ⊤ := by
    refine ((Finset.fold_max_lt _).2 ⟨bot_lt_top, fun v _ => ?_⟩).ne
    obtain ⟨a, ha⟩ := h v
    rw [ha]; exact EReal.coe_lt_top a
  have h2 : Finset.fold max (⊥ : EReal) s Finset.univ ≠ ⊥ := by
    refine ((Finset.lt_fold_max _).2 (Or.inr ⟨0, Finset.mem_univ _, ?_⟩)).ne'
    obtain ⟨a, ha⟩ := h 0
    rw [ha]; exact EReal.bot_lt_coe a
  exact ⟨_, (EReal.coe_toReal h1 h2).symm⟩

/-! ## Words -/

theorem word_eq (n v : ℕ) (hn : n < 128) (hv : v < 128) :
    IntOp.cmpi .eq (BitVec.ofNat 32 n) (BitVec.ofNat 32 v) = if n = v then 1#1 else 0#1 := by
  by_cases h : n = v
  · subst h; rw [if_pos rfl]; simp [IntOp.cmpi]
  · have h2 : BitVec.ofNat 32 n ≠ BitVec.ofNat 32 v := fun e => h (by
      have := congrArg BitVec.toNat e
      rwa [BitVec.toNat_ofNat, BitVec.toNat_ofNat, Nat.mod_eq_of_lt (by omega), Nat.mod_eq_of_lt (by omega)] at this)
    rw [if_neg h]
    show BitVec.ofBool (BitVec.ofNat 32 n == BitVec.ofNat 32 v) = 0#1
    rw [beq_eq_false_iff_ne.2 h2]
    rfl

theorem word_range (a : BitVec 32) (h : IntOp.andi (IntOp.cmpi .sge a 0#32) (IntOp.cmpi .slt a 128#32) = 1#1) : a.toNat < 128 := by
  word_omega

theorem word_named (n : ℕ) (hn : n < 128) :
    min (Scalar.select (IntOp.cmpi .slt (BitVec.ofNat 32 n) 0#32) (IntOp.addi (BitVec.ofNat 32 n) 128#32) (BitVec.ofNat 32 n)).toInt.toNat 127 = n := by
  interval_cases n <;> rfl

theorem bits_inf16 : Ideal.ofBits .bf16 0x7F80#16 = ⊤ := by simp [Ideal.ofBits, Ideal.ieee]
theorem bits_neg_inf32 : Ideal.ofBits .f32 0xFF800000#32 = ⊥ := by simp [Ideal.ofBits, Ideal.ieee]

end Cert.Proof
-- ==== Proof.Equation.lean ====
module

public import proofs.«01_k».proof.Proof.KernelValue
public import proofs.«01_k».proof.Proof.GateValue
public import proofs.«01_k».proof.Proof.RefValue
public import proofs.«01_k».proof.Proof.Reals

/-! # The two results are the same sum -/
@[expose] public section

set_option maxRecDepth 16384

noncomputable section

namespace Cert.Proof

open Idealize.ShloMosaic Idealize.SL.Sem
open Idealize.ShloMosaic.TcCoe
open scoped BigOperators

abbrev XS := (⟨2, ![2048, 512]⟩ : Shape)
abbrev WS := (⟨2, ![512, 128]⟩ : Shape)
abbrev IS := (⟨2, ![2048, 2]⟩ : Shape)
abbrev ES := (⟨3, ![128, 512, 1024]⟩ : Shape)

variable (x : XS.Idx → EReal) (W : WS.Idx → EReal) (i : IS.Idx → BitVec 32) (w : ES.Idx → EReal)
variable (hx : ∀ a, ∃ b : ℝ, x a = b) (hW : ∀ a, ∃ b : ℝ, W a = b) (hi : ∀ a, (i a).toNat < 128)

include hx hW in
/-- Every score is real. -/
theorem score_real (r : Fin 2048) (v : Fin 128) : ∃ a : ℝ, score x W r v = a := by
  refine real_sum _ _ fun k => ?_
  obtain ⟨a, ha⟩ := hx (ix2 r k)
  obtain ⟨b, hb⟩ := hW (ix2 k v)
  exact ⟨a * b, by rw [ha, hb, EReal.coe_mul]⟩

/-- The expert that token `r`'s word `j` names. -/
def expert (hi : ∀ a, (i a).toNat < 128) (r : Fin 2048) (j : Fin 2) : Fin 128 := ⟨(i (ix2 r j)).toNat, hi _⟩

theorem word_expert (r : Fin 2048) (j : Fin 2) : i (ix2 r j) = BitVec.ofNat 32 (expert i hi r j).val := by
  apply BitVec.eq_of_toNat_eq
  rw [BitVec.toNat_ofNat]
  have := hi (ix2 r j)
  exact (Nat.mod_eq_of_lt (by show (i (ix2 r j)).toNat < _; omega)).symm

theorem chosen_eq (r : Fin 2048) (j : Fin 2) : chosen x W i r j = score x W r (expert i hi r j) := by
  unfold chosen
  rw [word_expert i hi r j, Finset.sum_eq_single (expert i hi r j)]
  · rw [word_eq _ _ (expert i hi r j).isLt (expert i hi r j).isLt, if_pos rfl]; rfl
  · intro v _ hv
    rw [word_eq _ _ (expert i hi r j).isLt v.isLt, if_neg (fun h => hv (Fin.ext h.symm))]; rfl
  · intro h; exact absurd (Finset.mem_univ _) h

theorem named_eq (r : Fin 2048) (j : Fin 2) : named i r j = expert i hi r j := by
  apply Fin.ext
  show min (Scalar.select (IntOp.cmpi .slt (i (ix2 r j)) 0#32) (IntOp.addi (i (ix2 r j)) 128#32) (i (ix2 r j))).toInt.toNat 127 = _
  rw [word_expert i hi r j]
  exact word_named _ (expert i hi r j).isLt

/-- The mark of an expert's number, as a real. -/
theorem mark_eq (r : Fin 2048) (j : Fin 2) (d : Dev Cert.KernelIdeal.nD) (e : Fin 4) :
    (FloatOps.uitofp (F := Ideal) .bf16 (IntOp.cmpi .eq (i (ix2 r j)) (place d e)) : EReal)
      = (((if (expert i hi r j).val = 4 * d.val + e.val then 1 else 0 : ℝ)) : EReal) := by
  have hd : d.val < 32 := d.isLt
  rw [place_eq, word_expert i hi r j, word_eq _ _ (expert i hi r j).isLt (by omega)]
  split
  · show (((1#1 : BitVec 1).toNat : ℝ) : EReal) = _; simp
  · show (((0#1 : BitVec 1).toNat : ℝ) : EReal) = _; simp

/-- The product of token `r`'s row and column `f` of expert `v`. -/
def prod (r : Fin 2048) (f : Fin 1024) (v : Fin 128) : EReal := ∑ k : Fin 512, x (ix2 r k) * w (ix3 v k f)

/-- One device's part: the products of its four experts, each times its real gate. -/
theorem gated_eq (d : Dev Cert.KernelIdeal.nD) (g : Fin 4 → ℝ) (hg : ∀ e, 0 ≤ g e) (G : (⟨2, ![2048, 4]⟩ : Shape).Idx → EReal)
    (w' : (⟨3, ![4, 512, 1024]⟩ : Shape).Idx → EReal) (r : Fin 2048) (f : Fin 1024)
    (hG : ∀ e, G (ix2 r e) = (g e : EReal))
    (hw : ∀ (e : Fin 4) (k : Fin 512), w' (ix3 e k f) = w (ix3 ⟨4 * d.val + e.val, by have : d.val < 32 := d.isLt; omega⟩ k f)) :
    gated x G w' r f = ∑ e : Fin 4, (g e : EReal) * prod x w r f ⟨4 * d.val + e.val, by have : d.val < 32 := d.isLt; omega⟩ := by
  unfold gated prod
  refine Finset.sum_congr rfl fun e _ => ?_
  rw [← mul_sum_real _ _ _ (hg e)]
  refine Finset.sum_congr rfl fun k _ => ?_
  rw [hG, hw, mul_comm (x (ix2 r k)), mul_assoc]

include hx hW hi in
/-- All the devices' parts together are the two experts' products weighted by their shares. -/
theorem kernel_sum (G : Dev Cert.KernelIdeal.nD → (⟨2, ![2048, 4]⟩ : Shape).Idx → EReal)
    (w' : Dev Cert.KernelIdeal.nD → (⟨3, ![4, 512, 1024]⟩ : Shape).Idx → EReal) (r : Fin 2048) (f : Fin 1024) (a b : ℝ)
    (ha : score x W r (expert i hi r 0) = a) (hb : score x W r (expert i hi r 1) = b)
    (hG : ∀ d e, G d (ix2 r e) = gate x W i d r e)
    (hw : ∀ d (e : Fin 4) (k : Fin 512), w' d (ix3 e k f) = w (ix3 ⟨4 * d.val + e.val, by have : d.val < 32 := d.isLt; omega⟩ k f)) :
    ∑ d : Dev Cert.KernelIdeal.nD, gated x (G d) (w' d) r f
      = (share a b a : EReal) * prod x w r f (expert i hi r 0) + (share a b b : EReal) * prod x w r f (expert i hi r 1) := by
  have hgate : ∀ (d : Dev Cert.KernelIdeal.nD) (e : Fin 4), G d (ix2 r e)
      = (((if (expert i hi r 0).val = 4 * d.val + e.val then share a b a else 0) + (if (expert i hi r 1).val = 4 * d.val + e.val then share a b b else 0) : ℝ) : EReal) := by
    intro d e
    rw [hG]
    unfold gate part
    rw [mark_eq i hi, mark_eq i hi, chosen_eq x W i hi, chosen_eq x W i hi, ha, hb, part_share, part_share, ← EReal.coe_mul, ← EReal.coe_mul, ← EReal.coe_add,
      mul_ite, mul_ite, mul_one, mul_one, mul_zero, mul_zero]
  have h0 : ∀ v : ℕ, 0 ≤ (if (expert i hi r 0).val = v then share a b a else 0) := fun v => by
    split
    · exact share_nonneg _ _ _
    · exact le_refl _
  have h1 : ∀ v : ℕ, 0 ≤ (if (expert i hi r 1).val = v then share a b b else 0) := fun v => by
    split
    · exact share_nonneg _ _ _
    · exact le_refl _
  have hd : ∀ d : Dev Cert.KernelIdeal.nD, gated x (G d) (w' d) r f
      = ∑ e : Fin 4, ((((if (expert i hi r 0).val = 4 * d.val + e.val then share a b a else 0 : ℝ) : EReal)) * prod x w r f ⟨4 * d.val + e.val, by have : d.val < 32 := d.isLt; omega⟩
          + (((if (expert i hi r 1).val = 4 * d.val + e.val then share a b b else 0 : ℝ) : EReal)) * prod x w r f ⟨4 * d.val + e.val, by have : d.val < 32 := d.isLt; omega⟩) := by
    intro d
    rw [gated_eq x w d _ (fun e => add_nonneg (h0 _) (h1 _)) (G d) (w' d) r f (hgate d) (hw d)]
    refine Finset.sum_congr rfl fun e _ => ?_
    rw [EReal.coe_add, EReal.right_distrib_of_nonneg (EReal.coe_nonneg.2 (h0 _)) (EReal.coe_nonneg.2 (h1 _))]
  rw [Finset.sum_congr rfl fun d _ => hd d]
  rw [← sum_one_place (prod x w r f), ← sum_one_place (prod x w r f), ← Finset.sum_add_distrib]
  exact sum_groups fun v => (((if (expert i hi r 0).val = v.val then share a b a else 0 : ℝ) : EReal)) * prod x w r f v
    + (((if (expert i hi r 1).val = v.val then share a b b else 0 : ℝ) : EReal)) * prod x w r f v

include hx hW hi in
/-- The reference's weighted products are the same. -/
theorem reference_sum (r : Fin 2048) (f : Fin 1024) (a b : ℝ)
    (ha : score x W r (expert i hi r 0) = a) (hb : score x W r (expert i hi r 1) = b) :
    ∑ j : Fin 2, Ideal.div (prob x W r (named i r j)) (∑ l : Fin 2, prob x W r (named i r l)) * ∑ k : Fin 512, x (ix2 r k) * w (ix3 (named i r j) k f)
      = (share a b a : EReal) * prod x w r f (expert i hi r 0) + (share a b b : EReal) * prod x w r f (expert i hi r 1) := by
  choose s hs using score_real x W hx hW r
  obtain ⟨M, hM⟩ := fold_max_real (fun v => score x W r v) fun v => ⟨s v, hs v⟩
  have htop : top x W r = M := by
    unfold top; rw [bits_neg_inf32]; exact hM
  obtain ⟨Z, hZ, hZ0⟩ : ∃ Z : ℝ, ∑ u : Fin 128, Ideal.exp (rscore x W r u - top x W r) = Z ∧ 0 < Z := by
    have he : ∀ u : Fin 128, Ideal.exp (rscore x W r u - top x W r) = ((Real.exp (s u - M) : ℝ) : EReal) := fun u => by
      rw [htop, show rscore x W r u = (s u : EReal) from hs u, ← EReal.coe_sub, exp_coe]
    obtain ⟨Z, hZ⟩ := real_sum Finset.univ (fun u : Fin 128 => Ideal.exp (rscore x W r u - top x W r)) fun u => ⟨_, he u⟩
    refine ⟨Z, hZ, EReal.coe_pos.1 ?_⟩
    rw [← hZ]
    refine lt_of_lt_of_le ?_ (Finset.single_le_sum (f := fun u : Fin 128 => Ideal.exp (rscore x W r u - top x W r)) (fun u _ => ?_) (Finset.mem_univ (0 : Fin 128)))
    · show 0 < Ideal.exp (rscore x W r 0 - top x W r)
      rw [he]; exact EReal.coe_pos.2 (Real.exp_pos _)
    · show 0 ≤ Ideal.exp (rscore x W r u - top x W r)
      rw [he]; exact EReal.coe_nonneg.2 (Real.exp_pos _).le
  have hp : ∀ (v : Fin 128) (c : ℝ), score x W r v = c → prob x W r v = ((Real.exp (c - M) / Z : ℝ) : EReal) := by
    intro v c hc
    unfold prob
    rw [hZ, htop, show rscore x W r v = (c : EReal) from hc, ← EReal.coe_sub, exp_coe, div_coe _ _ hZ0.ne']
  rw [Fin.sum_univ_two, Fin.sum_univ_two, named_eq i hi, named_eq i hi, hp _ _ ha, hp _ _ hb, prob_share a b a M Z hZ0, prob_share a b b M Z hZ0]
  rfl

end Cert.Proof
-- ==== Proof.Agree.lean ====
module

public import proofs.«01_k».proof.Defs
public import proofs.«01_k».proof.Proof.Equation

/-! # The kernel and the reference agree -/
@[expose] public section

set_option maxRecDepth 16384

noncomputable section

namespace Cert.Proof

open Idealize.ShloMosaic Idealize.SL.Sem
open Idealize.ShloMosaic.TcCoe
open scoped BigOperators

/-- The broadcasts that the precondition states fit their shapes, for either program. -/
instance pre_facts : Cert.Pre_routed_finite_KernelIdeal.Facts where
  bcast_S_S2048x512 := by decide
  bcast_S_S512x128 := by decide
  bcast_S_S2048x2 := by decide

instance pre_facts_reference : Cert.Pre_routed_finite_ReferenceIdeal.Facts where
  bcast_S_S2048x512 := by decide
  bcast_S_S512x128 := by decide
  bcast_S_S2048x2 := by decide

/-- A number below infinity in absolute value is real. -/
theorem real_of_below (a : EReal) (h : Ideal.cmp .olt (max a (-a)) (Ideal.ofBits .bf16 0x7F80#16) = 1#1) : ∃ b : ℝ, a = b := by
  rw [bits_inf16] at h
  have h' : max a (-a) < ⊤ := by
    by_contra hn
    have : Ideal.cmp .olt (max a (-a)) ⊤ = 0#1 := by simp [Ideal.cmp, hn]
    rw [this] at h
    exact absurd h (by decide)
  induction a with
  | bot => exact absurd h' (by simp)
  | coe b => exact ⟨b, rfl⟩
  | top => exact absurd h' (by simp)

section pre
variable (x : XS.Idx → EReal) (W : WS.Idx → EReal) (i : IS.Idx → BitVec 32) (w : (⟨3, ![4, 512, 1024]⟩ : Shape).Idx → EReal)

/-- What the precondition says of the tokens: all real; -/
theorem pre_x (h : (Cert.Pre_routed_finite_KernelIdeal.fn (F := Ideal) x W i w).1 = fun _ => 1#1) (a : XS.Idx) : ∃ b : ℝ, x a = b :=
  real_of_below _ (congrFun h a)

/-- of the router: all real; -/
theorem pre_W (h : (Cert.Pre_routed_finite_KernelIdeal.fn (F := Ideal) x W i w).2.1 = fun _ => 1#1) (a : WS.Idx) : ∃ b : ℝ, W a = b :=
  real_of_below _ (congrFun h a)

/-- and of the expert numbers: all below 128. -/
theorem pre_i (h : (Cert.Pre_routed_finite_KernelIdeal.fn (F := Ideal) x W i w).2.2 = fun _ => 1#1) (a : IS.Idx) : (i a).toNat < 128 :=
  word_range _ (congrFun h a)

end pre

/-- Row `k`, column `f` of device `d`'s expert `e` is that of expert `4 d + e` of all. -/
theorem block_at (v : ES.Idx → EReal) (d : Fin 32) (e : Fin 4) (k : Fin 512) (f : Fin 1024) :
    (Layout.block ⟨3, ![4, 512, 1024]⟩ ⟨3, ![128, 512, 1024]⟩ 0 32 d v) (ix3 e k f) = v (ix3 ⟨4 * d.val + e.val, by omega⟩ k f) := by
  rw [Layout.block_apply]
  congr 1
  funext b
  apply Fin.ext
  fin_cases b
  · show d.val * 4 + e.val = 4 * d.val + e.val
    omega
  · rfl
  · rfl

/-- Under the precondition every device ends with the reference's result. -/
theorem agree : Cert.algebraic_KernelIdeal_ReferenceIdeal_pre_routed_finite_KernelIdeal := by
  intro m g m' g' hpre hin
  refine ⟨OUTm (F := Ideal) m, ?_, ?_⟩
  · exact (θ_run Cert.KernelIdeal.defs _ _).mono
      (fun _ h c => ⟨(h.1 c).2.2.2.2, (h.1 c).1, (h.1 c).2.1, (h.1 c).2.2.1, (h.1 c).2.2.2.1⟩) (run_main (F := Ideal) m g)
  · refine (θ_run Cert.ReferenceIdeal.defs _ _).mono (fun r h => ⟨(h 0).1.trans ?_, (h 0).2⟩) (Cert.ReferenceIdeal.Value.run (F := Ideal) m' g')
    have hx := pre_x _ _ _ _ (hpre 0).1
    have hW := pre_W _ _ _ _ (hpre 0).2.1
    have hi := pre_i _ _ _ _ (hpre 0).2.2
    rw [(hin 0).1] at hx
    rw [(hin 0).2.1] at hW
    rw [(hin 0).2.2.1] at hi
    funext a
    obtain ⟨r, f, rfl⟩ : ∃ (r : Fin 2048) (f : Fin 1024), a = ix2 r f := ⟨a 0, a 1, eq_ix2 a⟩
    obtain ⟨p, hp⟩ := score_real _ _ hx hW r (expert _ hi r 0)
    obtain ⟨q, hq⟩ := score_real _ _ hx hW r (expert _ hi r 1)
    refine (ref_at m' _ _ _ _ rfl rfl rfl rfl r f).trans ?_
    rw [OUTm_value]
    refine (reference_sum _ _ _ _ hx hW hi r f p q hp hq).trans ?_
    refine ((kernel_sum _ _ _ _ hx hW hi (gIn m) (wIn m) r f p q hp hq (fun d e => ?_) fun d e k => ?_).symm).trans ?_
    · rw [gIn_at, (hin d).1, (hin d).2.1, (hin d).2.2.1]
    · rw [wIn_eq, (hin d).2.2.2]; exact block_at _ d e k f
    · refine Finset.sum_congr rfl fun d _ => ?_
      rw [xIn_eq, (hin d).1]

end Cert.Proof
-- ==== Proof.lean ====
/-
  The certificate: the frames of the three programs, the kernel read over the extended reals, and the equality of its
  result with the reference's. The modules below hold the proofs; this one puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- All the claims, under the side conditions that the printed programs state. -/
theorem claim : Cert.Claim :=
  ⟨Cert.Kernel.Gen.facts, Cert.KernelIdeal.Gen.facts, Cert.ReferenceIdeal.Gen.facts, pre_facts, pre_facts_reference,
    frame_kernel, frame_ideal, frame_ideal_pre, frame_reference, frame_reference_pre, trivial, agree⟩

end Cert.Proof

end
